-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x128x128 : Shape := ⟨4, ![16, 64, 128, 128]⟩
abbrev S16x16x32x2 : Shape := ⟨4, ![16, 16, 32, 2]⟩
abbrev S64x64x3x3 : Shape := ⟨4, ![64, 64, 3, 3]⟩
abbrev S64 : Shape := ⟨1, ![64]⟩
abbrev S32x64 : Shape := ⟨2, ![32, 64]⟩
abbrev S32 : Shape := ⟨1, ![32]⟩
abbrev S512x32 : Shape := ⟨2, ![512, 32]⟩
abbrev S512x128 : Shape := ⟨2, ![512, 128]⟩
abbrev S512 : Shape := ⟨1, ![512]⟩
abbrev S64x128 : Shape := ⟨2, ![64, 128]⟩
abbrev S1x64 : Shape := ⟨2, ![1, 64]⟩
abbrev S1 : Shape := ⟨1, ![1]⟩
abbrev S16x128x128x64 : Shape := ⟨4, ![16, 128, 128, 64]⟩
abbrev S_ : Shape := ⟨0, ![]⟩
abbrev S16x136x136x64 : Shape := ⟨4, ![16, 136, 136, 64]⟩
abbrev S16x16x32x1 : Shape := ⟨4, ![16, 16, 32, 1]⟩
abbrev S16x16x32 : Shape := ⟨3, ![16, 16, 32]⟩
abbrev S16x512 : Shape := ⟨2, ![16, 512]⟩
abbrev S16x1024 : Shape := ⟨2, ![16, 1024]⟩
abbrev S3x3x64x64 : Shape := ⟨4, ![3, 3, 64, 64]⟩
abbrev S9x64x64 : Shape := ⟨3, ![9, 64, 64]⟩
abbrev S64x32 : Shape := ⟨2, ![64, 32]⟩
abbrev S16x1024x32 : Shape := ⟨3, ![16, 1024, 32]⟩
abbrev S1x136x136x64 : Shape := ⟨4, ![1, 136, 136, 64]⟩
abbrev S1x1024x32 : Shape := ⟨3, ![1, 1024, 32]⟩
abbrev S16384x32 : Shape := ⟨2, ![16384, 32]⟩
abbrev S1x128x128x64 : Shape := ⟨4, ![1, 128, 128, 64]⟩
abbrev S128x128x64 : Shape := ⟨3, ![128, 128, 64]⟩
abbrev S16384x64 : Shape := ⟨2, ![16384, 64]⟩
abbrev S1x64x64 : Shape := ⟨3, ![1, 64, 64]⟩
abbrev S64x64 : Shape := ⟨2, ![64, 64]⟩
abbrev S8x32 : Shape := ⟨2, ![8, 32]⟩
abbrev S1x1 : Shape := ⟨2, ![1, 1]⟩
abbrev S1x32 : Shape := ⟨2, ![1, 32]⟩
abbrev S16x32 : Shape := ⟨2, ![16, 32]⟩
abbrev S1x16x32 : Shape := ⟨3, ![1, 16, 32]⟩
abbrev S16x2x16x32x32 : Shape := ⟨5, ![16, 2, 16, 32, 32]⟩
abbrev S32x2x16x16x32 : Shape := ⟨5, ![32, 2, 16, 16, 32]⟩
abbrev S32x512x32 : Shape := ⟨3, ![32, 512, 32]⟩
abbrev S32x512 : Shape := ⟨2, ![32, 512]⟩
abbrev S128x512 : Shape := ⟨2, ![128, 512]⟩
abbrev S1x512 : Shape := ⟨2, ![1, 512]⟩
abbrev S128x64 : Shape := ⟨2, ![128, 64]⟩
abbrev S16384x128 : Shape := ⟨2, ![16384, 128]⟩
abbrev S32x512x128 : Shape := ⟨3, ![32, 512, 128]⟩
abbrev S1x512x32 : Shape := ⟨3, ![1, 512, 32]⟩
abbrev S512x512 : Shape := ⟨2, ![512, 512]⟩
abbrev S1x512x128 : Shape := ⟨3, ![1, 512, 128]⟩
abbrev S512x64 : Shape := ⟨2, ![512, 64]⟩
abbrev S16384x1 : Shape := ⟨2, ![16384, 1]⟩
abbrev S16384 : Shape := ⟨1, ![16384]⟩
abbrev S32x2x16x16 : Shape := ⟨4, ![32, 2, 16, 16]⟩

abbrev nBuf : Space → Nat
  | .hbm => 82
  | .vmem => 23
  | .smem => 2
  | _ => 0

abbrev bufTy : (tb : Table) → Fin (tcTables nBuf tb) → BufTy
  | .hbm, ⟨0, _⟩ => ⟨S16x64x128x128, .f32⟩
  | .hbm, ⟨1, _⟩ => ⟨S16x16x32x2, .i32⟩
  | .hbm, ⟨2, _⟩ => ⟨S64x64x3x3, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S512x32, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S512x128, .f32⟩
  | .hbm, ⟨11, _⟩ => ⟨S512x128, .f32⟩
  | .hbm, ⟨12, _⟩ => ⟨S512, .f32⟩
  | .hbm, ⟨13, _⟩ => ⟨S512, .f32⟩
  | .hbm, ⟨14, _⟩ => ⟨S64x128, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S64x128, .f32⟩
  | .hbm, ⟨19, _⟩ => ⟨S64, .f32⟩
  | .hbm, ⟨20, _⟩ => ⟨S1x64, .f32⟩
  | .hbm, ⟨21, _⟩ => ⟨S1, .f32⟩
  | .hbm, ⟨22, _⟩ => ⟨S16x128x128x64, .f32⟩
  | .hbm, ⟨23, _⟩ => ⟨S_, .i32⟩
  | .hbm, ⟨24, _⟩ => ⟨S_, .f32⟩
  | .hbm, ⟨25, _⟩ => ⟨S16x136x136x64, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S16x16x32x2, .i32⟩
  | .hbm, ⟨30, _⟩ => ⟨S16x16x32x2, .i32⟩
  | .hbm, ⟨31, _⟩ => ⟨S_, .i32⟩
  | .hbm, ⟨32, _⟩ => ⟨S16x16x32x2, .i32⟩
  | .hbm, ⟨33, _⟩ => ⟨S16x16x32x2, .i32⟩
  | .hbm, ⟨34, _⟩ => ⟨S16x16x32x1, .i32⟩
  | .hbm, ⟨35, _⟩ => ⟨S16x16x32, .i32⟩
  | .hbm, ⟨36, _⟩ => ⟨S16x512, .i32⟩
  | .hbm, ⟨37, _⟩ => ⟨S16x16x32x1, .i32⟩
  | .hbm, ⟨38, _⟩ => ⟨S16x16x32, .i32⟩
  | .hbm, ⟨39, _⟩ => ⟨S16x512, .i32⟩
  | .hbm, ⟨40, _⟩ => ⟨S_, .i32⟩
  | .hbm, ⟨41, _⟩ => ⟨S16x512, .i32⟩
  | .hbm, ⟨42, _⟩ => ⟨S16x512, .i32⟩
  | .hbm, ⟨43, _⟩ => ⟨S16x512, .i32⟩
  | .hbm, ⟨44, _⟩ => ⟨S_, .i32⟩
  | .hbm, ⟨45, _⟩ => ⟨S16x512, .i32⟩
  | .hbm, ⟨46, _⟩ => ⟨S16x512, .i32⟩
  | .hbm, ⟨47, _⟩ => ⟨S16x512, .i32⟩
  | .hbm, ⟨48, _⟩ => ⟨S16x1024, .i32⟩
  | .hbm, ⟨49, _⟩ => ⟨S16x1024, .i32⟩
  | .hbm, ⟨50, _⟩ => ⟨S3x3x64x64, .f32⟩
  | .hbm, ⟨51, _⟩ => ⟨S9x64x64, .f32⟩
  | .hbm, ⟨52, _⟩ => ⟨S1x64, .f32⟩
  | .hbm, ⟨53, _⟩ => ⟨S64x32, .f32⟩
  | .hbm, ⟨54, _⟩ => ⟨S16x1024x32, .f32⟩
  | .hbm, ⟨55, _⟩ => ⟨S16x2x16x32x32, .f32⟩
  | .hbm, ⟨56, _⟩ => ⟨S32x2x16x16x32, .f32⟩
  | .hbm, ⟨57, _⟩ => ⟨S32x512x32, .f32⟩
  | .hbm, ⟨58, _⟩ => ⟨S_, .f32⟩
  | .hbm, ⟨59, _⟩ => ⟨S64x128, .f32⟩
  | .hbm, ⟨60, _⟩ => ⟨S64, .f32⟩
  | .hbm, ⟨61, _⟩ => ⟨S_, .i32⟩
  | .hbm, ⟨62, _⟩ => ⟨S1, .i32⟩
  | .hbm, ⟨63, _⟩ => ⟨S64x128, .f32⟩
  | .hbm, ⟨64, _⟩ => ⟨S1x32, .f32⟩
  | .hbm, ⟨65, _⟩ => ⟨S32x512, .f32⟩
  | .hbm, ⟨66, _⟩ => ⟨S128x512, .f32⟩
  | .hbm, ⟨67, _⟩ => ⟨S512, .f32⟩
  | .hbm, ⟨68, _⟩ => ⟨S1x512, .f32⟩
  | .hbm, ⟨69, _⟩ => ⟨S128x512, .f32⟩
  | .hbm, ⟨70, _⟩ => ⟨S128x512, .f32⟩
  | .hbm, ⟨71, _⟩ => ⟨S512, .f32⟩
  | .hbm, ⟨72, _⟩ => ⟨S1x512, .f32⟩
  | .hbm, ⟨73, _⟩ => ⟨S128x64, .f32⟩
  | .hbm, ⟨74, _⟩ => ⟨S1x64, .f32⟩
  | .hbm, ⟨75, _⟩ => ⟨S16384x128, .f32⟩
  | .hbm, ⟨76, _⟩ => ⟨S16x1024, .f32⟩
  | .hbm, ⟨77, _⟩ => ⟨S16384x1, .f32⟩
  | .hbm, ⟨78, _⟩ => ⟨S16384, .f32⟩
  | .hbm, ⟨79, _⟩ => ⟨S32x2x16x16, .f32⟩
  | .hbm, ⟨80, _⟩ => ⟨S16x16x32x2, .f32⟩
  | .hbm, ⟨81, _⟩ => ⟨S16x16x32x2, .f32⟩
  | .local _ .vmem, ⟨0, _⟩ => ⟨S1x136x136x64, .f32⟩
  | .local _ .vmem, ⟨1, _⟩ => ⟨S1x136x136x64, .f32⟩
  | .local _ .vmem, ⟨2, _⟩ => ⟨S9x64x64, .f32⟩
  | .local _ .vmem, ⟨3, _⟩ => ⟨S1x64, .f32⟩
  | .local _ .vmem, ⟨4, _⟩ => ⟨S64x32, .f32⟩
  | .local _ .vmem, ⟨5, _⟩ => ⟨S1x1024x32, .f32⟩
  | .local _ .vmem, ⟨6, _⟩ => ⟨S1x1024x32, .f32⟩
  | .local _ .vmem, ⟨7, _⟩ => ⟨S16384x32, .f32⟩
  | .local _ .vmem, ⟨8, _⟩ => ⟨S32x512x32, .f32⟩
  | .local _ .vmem, ⟨9, _⟩ => ⟨S16x1024, .i32⟩
  | .local _ .vmem, ⟨10, _⟩ => ⟨S1x32, .f32⟩
  | .local _ .vmem, ⟨11, _⟩ => ⟨S32x512, .f32⟩
  | .local _ .vmem, ⟨12, _⟩ => ⟨S128x512, .f32⟩
  | .local _ .vmem, ⟨13, _⟩ => ⟨S1x512, .f32⟩
  | .local _ .vmem, ⟨14, _⟩ => ⟨S128x512, .f32⟩
  | .local _ .vmem, ⟨15, _⟩ => ⟨S128x512, .f32⟩
  | .local _ .vmem, ⟨16, _⟩ => ⟨S1x512, .f32⟩
  | .local _ .vmem, ⟨17, _⟩ => ⟨S128x64, .f32⟩
  | .local _ .vmem, ⟨18, _⟩ => ⟨S1x64, .f32⟩
  | .local _ .vmem, ⟨19, _⟩ => ⟨S64x128, .f32⟩
  | .local _ .vmem, ⟨20, _⟩ => ⟨S16384x128, .f32⟩
  | .local _ .vmem, ⟨21, _⟩ => ⟨S16x1024, .f32⟩
  | .local _ .vmem, ⟨22, _⟩ => ⟨S32x512x128, .f32⟩
  | .local _ .smem, ⟨0, _⟩ => ⟨S16x1024, .i32⟩
  | .local _ .smem, ⟨1, _⟩ => ⟨S1, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_call0_v0 : Ref sig .tc := ⟨.hbm, 24, rfl⟩
abbrev main_v1 : Ref sig .tc := ⟨.hbm, 25, rfl⟩
abbrev main_c_0 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_c_2 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_c_3 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst : Ref sig .tc := ⟨.hbm, 58, rfl⟩
abbrev main_v25 : Ref sig .tc := ⟨.hbm, 59, rfl⟩
abbrev main_v26 : Ref sig .tc := ⟨.hbm, 60, rfl⟩
abbrev main_c_4 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40_0 : Ref sig .tc := ⟨.hbm, 75, rfl⟩
abbrev main_v40_1 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_scratch0 : Ref sig .tc := ⟨.vmem, 22, rfl⟩
abbrev cc0_stg0_0 : Ref sig .tc := ⟨.smem, 0, rfl⟩
abbrev cc1_stg12_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v75 : BitVec 32 := Scalar.addi c0_i32 c64_i32
  let c1_i32 : BitVec 32 := 1#32
  ⟨c0_i32, v75, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  v76
def k0_off1 (i : grid0.Coords) (k0_t1 : Fin k0_t1_loop.trips) : Fin 2 → Nat :=
  let arg0 : BitVec 32 := BitVec.ofNat 32 (i 0).val
  let v79 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c0_i32_71 : BitVec 32 := 0#32
  let v78 : BitVec 32 := Scalar.addi v77 c0_i32_71
  let v80 : Index := Scalar.indexCast v78
  ![v79.toNat, v80.toNat]
def k0_mult2 (v81 : BitVec 32) : BitVec 32 :=
  let c3_i32 : BitVec 32 := 3#32
  let v82 : BitVec 32 := Scalar.shrsi v81 c3_i32
  let c3_i32_72 : BitVec 32 := 3#32
  let v83 : BitVec 32 := Scalar.shli v82 c3_i32_72
  v83

def k0_off2 (v81 : BitVec 32) : Fin 2 → Nat :=
  let c3_i32 : BitVec 32 := 3#32
  let v82 : BitVec 32 := Scalar.shrsi v81 c3_i32
  let c3_i32_72 : BitVec 32 := 3#32
  let v83 : BitVec 32 := Scalar.shli v82 c3_i32_72
  let v84 : BitVec 32 := v83
  let v85 : Index := Scalar.indexCast v84
  let c0_73 : Index := 0#32
  ![v85.toNat, 0]

def k0_chk1 (v81 : BitVec 32) : Prop :=
  (8 ∣ (k0_mult2 v81).toNat) ∧
  (∀ a, (k0_off2 v81) a + S8x32.size a ≤ S16384x32.size a)
theorem k0_mult2_dvd : ∀ (v81 : BitVec 32) (k0_hw1 : k0_chk1 v81), 8 ∣ (k0_mult2 v81).toNat := fun v81 k0_hw1 => k0_hw1.1
theorem k0_off2_inb : ∀ (v81 : BitVec 32) (k0_hw1 : k0_chk1 v81), ∀ a, (k0_off2 v81) a + S8x32.size a ≤ S16384x32.size a := fun v81 k0_hw1 => k0_hw1.2

def k0_off3 (i : grid0.Coords) (k0_t1 : Fin k0_t1_loop.trips) : Fin 2 → Nat :=
  let arg0 : BitVec 32 := BitVec.ofNat 32 (i 0).val
  let v96 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c1_i32_75 : BitVec 32 := 1#32
  let v95 : BitVec 32 := Scalar.addi v77 c1_i32_75
  let v97 : Index := Scalar.indexCast v95
  ![v96.toNat, v97.toNat]
def k0_mult3 (v98 : BitVec 32) : BitVec 32 :=
  let c3_i32_76 : BitVec 32 := 3#32
  let v99 : BitVec 32 := Scalar.shrsi v98 c3_i32_76
  let c3_i32_77 : BitVec 32 := 3#32
  let v100 : BitVec 32 := Scalar.shli v99 c3_i32_77
  v100

def k0_off4 (v98 : BitVec 32) : Fin 2 → Nat :=
  let c3_i32_76 : BitVec 32 := 3#32
  let v99 : BitVec 32 := Scalar.shrsi v98 c3_i32_76
  let c3_i32_77 : BitVec 32 := 3#32
  let v100 : BitVec 32 := Scalar.shli v99 c3_i32_77
  let v101 : BitVec 32 := v100
  let v102 : Index := Scalar.indexCast v101
  let c0_78 : Index := 0#32
  ![v102.toNat, 0]

def k0_chk2 (v98 : BitVec 32) : Prop :=
  (8 ∣ (k0_mult3 v98).toNat) ∧
  (∀ a, (k0_off4 v98) a + S8x32.size a ≤ S16384x32.size a)
theorem k0_mult3_dvd : ∀ (v98 : BitVec 32) (k0_hw2 : k0_chk2 v98), 8 ∣ (k0_mult3 v98).toNat := fun v98 k0_hw2 => k0_hw2.1
theorem k0_off4_inb : ∀ (v98 : BitVec 32) (k0_hw2 : k0_chk2 v98), ∀ a, (k0_off4 v98) a + S8x32.size a ≤ S16384x32.size a := fun v98 k0_hw2 => k0_hw2.2

def k0_off5 (i : grid0.Coords) (k0_t1 : Fin k0_t1_loop.trips) : Fin 2 → Nat :=
  let arg0 : BitVec 32 := BitVec.ofNat 32 (i 0).val
  let v113 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c2_i32 : BitVec 32 := 2#32
  let v112 : BitVec 32 := Scalar.addi v77 c2_i32
  let v114 : Index := Scalar.indexCast v112
  ![v113.toNat, v114.toNat]
def k0_mult4 (v115 : BitVec 32) : BitVec 32 :=
  let c3_i32_81 : BitVec 32 := 3#32
  let v116 : BitVec 32 := Scalar.shrsi v115 c3_i32_81
  let c3_i32_82 : BitVec 32 := 3#32
  let v117 : BitVec 32 := Scalar.shli v116 c3_i32_82
  v117

def k0_off6 (v115 : BitVec 32) : Fin 2 → Nat :=
  let c3_i32_81 : BitVec 32 := 3#32
  let v116 : BitVec 32 := Scalar.shrsi v115 c3_i32_81
  let c3_i32_82 : BitVec 32 := 3#32
  let v117 : BitVec 32 := Scalar.shli v116 c3_i32_82
  let v118 : BitVec 32 := v117
  let v119 : Index := Scalar.indexCast v118
  let c0_83 : Index := 0#32
  ![v119.toNat, 0]

def k0_chk3 (v115 : BitVec 32) : Prop :=
  (8 ∣ (k0_mult4 v115).toNat) ∧
  (∀ a, (k0_off6 v115) a + S8x32.size a ≤ S16384x32.size a)
theorem k0_mult4_dvd : ∀ (v115 : BitVec 32) (k0_hw3 : k0_chk3 v115), 8 ∣ (k0_mult4 v115).toNat := fun v115 k0_hw3 => k0_hw3.1
theorem k0_off6_inb : ∀ (v115 : BitVec 32) (k0_hw3 : k0_chk3 v115), ∀ a, (k0_off6 v115) a + S8x32.size a ≤ S16384x32.size a := fun v115 k0_hw3 => k0_hw3.2

def k0_off7 (i : grid0.Coords) (k0_t1 : Fin k0_t1_loop.trips) : Fin 2 → Nat :=
  let arg0 : BitVec 32 := BitVec.ofNat 32 (i 0).val
  let v130 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c3_i32_86 : BitVec 32 := 3#32
  let v129 : BitVec 32 := Scalar.addi v77 c3_i32_86
  let v131 : Index := Scalar.indexCast v129
  ![v130.toNat, v131.toNat]
def k0_mult5 (v132 : BitVec 32) : BitVec 32 :=
  let c3_i32_87 : BitVec 32 := 3#32
  let v133 : BitVec 32 := Scalar.shrsi v132 c3_i32_87
  let c3_i32_88 : BitVec 32 := 3#32
  let v134 : BitVec 32 := Scalar.shli v133 c3_i32_88
  v134

def k0_off8 (v132 : BitVec 32) : Fin 2 → Nat :=
  let c3_i32_87 : BitVec 32 := 3#32
  let v133 : BitVec 32 := Scalar.shrsi v132 c3_i32_87
  let c3_i32_88 : BitVec 32 := 3#32
  let v134 : BitVec 32 := Scalar.shli v133 c3_i32_88
  let v135 : BitVec 32 := v134
  let v136 : Index := Scalar.indexCast v135
  let c0_89 : Index := 0#32
  ![v136.toNat, 0]

def k0_chk4 (v132 : BitVec 32) : Prop :=
  (8 ∣ (k0_mult5 v132).toNat) ∧
  (∀ a, (k0_off8 v132) a + S8x32.size a ≤ S16384x32.size a)
theorem k0_mult5_dvd : ∀ (v132 : BitVec 32) (k0_hw4 : k0_chk4 v132), 8 ∣ (k0_mult5 v132).toNat := fun v132 k0_hw4 => k0_hw4.1
theorem k0_off8_inb : ∀ (v132 : BitVec 32) (k0_hw4 : k0_chk4 v132), ∀ a, (k0_off8 v132) a + S8x32.size a ≤ S16384x32.size a := fun v132 k0_hw4 => k0_hw4.2

def k0_off9 (i : grid0.Coords) (k0_t1 : Fin k0_t1_loop.trips) : Fin 2 → Nat :=
  let arg0 : BitVec 32 := BitVec.ofNat 32 (i 0).val
  let v147 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c4_i32 : BitVec 32 := 4#32
  let v146 : BitVec 32 := Scalar.addi v77 c4_i32
  let v148 : Index := Scalar.indexCast v146
  ![v147.toNat, v148.toNat]
def k0_mult6 (v149 : BitVec 32) : BitVec 32 :=
  let c3_i32_92 : BitVec 32 := 3#32
  let v150 : BitVec 32 := Scalar.shrsi v149 c3_i32_92
  let c3_i32_93 : BitVec 32 := 3#32
  let v151 : BitVec 32 := Scalar.shli v150 c3_i32_93
  v151

def k0_off10 (v149 : BitVec 32) : Fin 2 → Nat :=
  let c3_i32_92 : BitVec 32 := 3#32
  let v150 : BitVec 32 := Scalar.shrsi v149 c3_i32_92
  let c3_i32_93 : BitVec 32 := 3#32
  let v151 : BitVec 32 := Scalar.shli v150 c3_i32_93
  let v152 : BitVec 32 := v151
  let v153 : Index := Scalar.indexCast v152
  let c0_94 : Index := 0#32
  ![v153.toNat, 0]

def k0_chk5 (v149 : BitVec 32) : Prop :=
  (8 ∣ (k0_mult6 v149).toNat) ∧
  (∀ a, (k0_off10 v149) a + S8x32.size a ≤ S16384x32.size a)
theorem k0_mult6_dvd : ∀ (v149 : BitVec 32) (k0_hw5 : k0_chk5 v149), 8 ∣ (k0_mult6 v149).toNat := fun v149 k0_hw5 => k0_hw5.1
theorem k0_off10_inb : ∀ (v149 : BitVec 32) (k0_hw5 : k0_chk5 v149), ∀ a, (k0_off10 v149) a + S8x32.size a ≤ S16384x32.size a := fun v149 k0_hw5 => k0_hw5.2

def k0_off11 (i : grid0.Coords) (k0_t1 : Fin k0_t1_loop.trips) : Fin 2 → Nat :=
  let arg0 : BitVec 32 := BitVec.ofNat 32 (i 0).val
  let v164 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c5_i32 : BitVec 32 := 5#32
  let v163 : BitVec 32 := Scalar.addi v77 c5_i32
  let v165 : Index := Scalar.indexCast v163
  ![v164.toNat, v165.toNat]
def k0_mult7 (v166 : BitVec 32) : BitVec 32 :=
  let c3_i32_97 : BitVec 32 := 3#32
  let v167 : BitVec 32 := Scalar.shrsi v166 c3_i32_97
  let c3_i32_98 : BitVec 32 := 3#32
  let v168 : BitVec 32 := Scalar.shli v167 c3_i32_98
  v168

def k0_off12 (v166 : BitVec 32) : Fin 2 → Nat :=
  let c3_i32_97 : BitVec 32 := 3#32
  let v167 : BitVec 32 := Scalar.shrsi v166 c3_i32_97
  let c3_i32_98 : BitVec 32 := 3#32
  let v168 : BitVec 32 := Scalar.shli v167 c3_i32_98
  let v169 : BitVec 32 := v168
  let v170 : Index := Scalar.indexCast v169
  let c0_99 : Index := 0#32
  ![v170.toNat, 0]

def k0_chk6 (v166 : BitVec 32) : Prop :=
  (8 ∣ (k0_mult7 v166).toNat) ∧
  (∀ a, (k0_off12 v166) a + S8x32.size a ≤ S16384x32.size a)
theorem k0_mult7_dvd : ∀ (v166 : BitVec 32) (k0_hw6 : k0_chk6 v166), 8 ∣ (k0_mult7 v166).toNat := fun v166 k0_hw6 => k0_hw6.1
theorem k0_off12_inb : ∀ (v166 : BitVec 32) (k0_hw6 : k0_chk6 v166), ∀ a, (k0_off12 v166) a + S8x32.size a ≤ S16384x32.size a := fun v166 k0_hw6 => k0_hw6.2

def k0_off13 (i : grid0.Coords) (k0_t1 : Fin k0_t1_loop.trips) : Fin 2 → Nat :=
  let arg0 : BitVec 32 := BitVec.ofNat 32 (i 0).val
  let v181 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c6_i32 : BitVec 32 := 6#32
  let v180 : BitVec 32 := Scalar.addi v77 c6_i32
  let v182 : Index := Scalar.indexCast v180
  ![v181.toNat, v182.toNat]
def k0_mult8 (v183 : BitVec 32) : BitVec 32 :=
  let c3_i32_102 : BitVec 32 := 3#32
  let v184 : BitVec 32 := Scalar.shrsi v183 c3_i32_102
  let c3_i32_103 : BitVec 32 := 3#32
  let v185 : BitVec 32 := Scalar.shli v184 c3_i32_103
  v185

def k0_off14 (v183 : BitVec 32) : Fin 2 → Nat :=
  let c3_i32_102 : BitVec 32 := 3#32
  let v184 : BitVec 32 := Scalar.shrsi v183 c3_i32_102
  let c3_i32_103 : BitVec 32 := 3#32
  let v185 : BitVec 32 := Scalar.shli v184 c3_i32_103
  let v186 : BitVec 32 := v185
  let v187 : Index := Scalar.indexCast v186
  let c0_104 : Index := 0#32
  ![v187.toNat, 0]

def k0_chk7 (v183 : BitVec 32) : Prop :=
  (8 ∣ (k0_mult8 v183).toNat) ∧
  (∀ a, (k0_off14 v183) a + S8x32.size a ≤ S16384x32.size a)
theorem k0_mult8_dvd : ∀ (v183 : BitVec 32) (k0_hw7 : k0_chk7 v183), 8 ∣ (k0_mult8 v183).toNat := fun v183 k0_hw7 => k0_hw7.1
theorem k0_off14_inb : ∀ (v183 : BitVec 32) (k0_hw7 : k0_chk7 v183), ∀ a, (k0_off14 v183) a + S8x32.size a ≤ S16384x32.size a := fun v183 k0_hw7 => k0_hw7.2

def k0_off15 (i : grid0.Coords) (k0_t1 : Fin k0_t1_loop.trips) : Fin 2 → Nat :=
  let arg0 : BitVec 32 := BitVec.ofNat 32 (i 0).val
  let v198 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c7_i32_107 : BitVec 32 := 7#32
  let v197 : BitVec 32 := Scalar.addi v77 c7_i32_107
  let v199 : Index := Scalar.indexCast v197
  ![v198.toNat, v199.toNat]
def k0_mult9 (v200 : BitVec 32) : BitVec 32 :=
  let c3_i32_108 : BitVec 32 := 3#32
  let v201 : BitVec 32 := Scalar.shrsi v200 c3_i32_108
  let c3_i32_109 : BitVec 32 := 3#32
  let v202 : BitVec 32 := Scalar.shli v201 c3_i32_109
  v202

def k0_off16 (v200 : BitVec 32) : Fin 2 → Nat :=
  let c3_i32_108 : BitVec 32 := 3#32
  let v201 : BitVec 32 := Scalar.shrsi v200 c3_i32_108
  let c3_i32_109 : BitVec 32 := 3#32
  let v202 : BitVec 32 := Scalar.shli v201 c3_i32_109
  let v203 : BitVec 32 := v202
  let v204 : Index := Scalar.indexCast v203
  let c0_110 : Index := 0#32
  ![v204.toNat, 0]

def k0_chk8 (v200 : BitVec 32) : Prop :=
  (8 ∣ (k0_mult9 v200).toNat) ∧
  (∀ a, (k0_off16 v200) a + S8x32.size a ≤ S16384x32.size a)
theorem k0_mult9_dvd : ∀ (v200 : BitVec 32) (k0_hw8 : k0_chk8 v200), 8 ∣ (k0_mult9 v200).toNat := fun v200 k0_hw8 => k0_hw8.1
theorem k0_off16_inb : ∀ (v200 : BitVec 32) (k0_hw8 : k0_chk8 v200), ∀ a, (k0_off16 v200) a + S8x32.size a ≤ S16384x32.size a := fun v200 k0_hw8 => k0_hw8.2

def k0_off17 (i : grid0.Coords) (k0_t1 : Fin k0_t1_loop.trips) : Fin 2 → Nat :=
  let arg0 : BitVec 32 := BitVec.ofNat 32 (i 0).val
  let v215 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c8_i32 : BitVec 32 := 8#32
  let v214 : BitVec 32 := Scalar.addi v77 c8_i32
  let v216 : Index := Scalar.indexCast v214
  ![v215.toNat, v216.toNat]
def k0_mult10 (v217 : BitVec 32) : BitVec 32 :=
  let c3_i32_113 : BitVec 32 := 3#32
  let v218 : BitVec 32 := Scalar.shrsi v217 c3_i32_113
  let c3_i32_114 : BitVec 32 := 3#32
  let v219 : BitVec 32 := Scalar.shli v218 c3_i32_114
  v219

def k0_off18 (v217 : BitVec 32) : Fin 2 → Nat :=
  let c3_i32_113 : BitVec 32 := 3#32
  let v218 : BitVec 32 := Scalar.shrsi v217 c3_i32_113
  let c3_i32_114 : BitVec 32 := 3#32
  let v219 : BitVec 32 := Scalar.shli v218 c3_i32_114
  let v220 : BitVec 32 := v219
  let v221 : Index := Scalar.indexCast v220
  let c0_115 : Index := 0#32
  ![v221.toNat, 0]

def k0_chk9 (v217 : BitVec 32) : Prop :=
  (8 ∣ (k0_mult10 v217).toNat) ∧
  (∀ a, (k0_off18 v217) a + S8x32.size a ≤ S16384x32.size a)
theorem k0_mult10_dvd : ∀ (v217 : BitVec 32) (k0_hw9 : k0_chk9 v217), 8 ∣ (k0_mult10 v217).toNat := fun v217 k0_hw9 => k0_hw9.1
theorem k0_off18_inb : ∀ (v217 : BitVec 32) (k0_hw9 : k0_chk9 v217), ∀ a, (k0_off18 v217) a + S8x32.size a ≤ S16384x32.size a := fun v217 k0_hw9 => k0_hw9.2

def k0_off19 (i : grid0.Coords) (k0_t1 : Fin k0_t1_loop.trips) : Fin 2 → Nat :=
  let arg0 : BitVec 32 := BitVec.ofNat 32 (i 0).val
  let v232 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c9_i32 : BitVec 32 := 9#32
  let v231 : BitVec 32 := Scalar.addi v77 c9_i32
  let v233 : Index := Scalar.indexCast v231
  ![v232.toNat, v233.toNat]
def k0_mult11 (v234 : BitVec 32) : BitVec 32 :=
  let c3_i32_118 : BitVec 32 := 3#32
  let v235 : BitVec 32 := Scalar.shrsi v234 c3_i32_118
  let c3_i32_119 : BitVec 32 := 3#32
  let v236 : BitVec 32 := Scalar.shli v235 c3_i32_119
  v236

def k0_off20 (v234 : BitVec 32) : Fin 2 → Nat :=
  let c3_i32_118 : BitVec 32 := 3#32
  let v235 : BitVec 32 := Scalar.shrsi v234 c3_i32_118
  let c3_i32_119 : BitVec 32 := 3#32
  let v236 : BitVec 32 := Scalar.shli v235 c3_i32_119
  let v237 : BitVec 32 := v236
  let v238 : Index := Scalar.indexCast v237
  let c0_120 : Index := 0#32
  ![v238.toNat, 0]

def k0_chk10 (v234 : BitVec 32) : Prop :=
  (8 ∣ (k0_mult11 v234).toNat) ∧
  (∀ a, (k0_off20 v234) a + S8x32.size a ≤ S16384x32.size a)
theorem k0_mult11_dvd : ∀ (v234 : BitVec 32) (k0_hw10 : k0_chk10 v234), 8 ∣ (k0_mult11 v234).toNat := fun v234 k0_hw10 => k0_hw10.1
theorem k0_off20_inb : ∀ (v234 : BitVec 32) (k0_hw10 : k0_chk10 v234), ∀ a, (k0_off20 v234) a + S8x32.size a ≤ S16384x32.size a := fun v234 k0_hw10 => k0_hw10.2

def k0_off21 (i : grid0.Coords) (k0_t1 : Fin k0_t1_loop.trips) : Fin 2 → Nat :=
  let arg0 : BitVec 32 := BitVec.ofNat 32 (i 0).val
  let v249 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c10_i32 : BitVec 32 := 10#32
  let v248 : BitVec 32 := Scalar.addi v77 c10_i32
  let v250 : Index := Scalar.indexCast v248
  ![v249.toNat, v250.toNat]
def k0_mult12 (v251 : BitVec 32) : BitVec 32 :=
  let c3_i32_123 : BitVec 32 := 3#32
  let v252 : BitVec 32 := Scalar.shrsi v251 c3_i32_123
  let c3_i32_124 : BitVec 32 := 3#32
  let v253 : BitVec 32 := Scalar.shli v252 c3_i32_124
  v253

def k0_off22 (v251 : BitVec 32) : Fin 2 → Nat :=
  let c3_i32_123 : BitVec 32 := 3#32
  let v252 : BitVec 32 := Scalar.shrsi v251 c3_i32_123
  let c3_i32_124 : BitVec 32 := 3#32
  let v253 : BitVec 32 := Scalar.shli v252 c3_i32_124
  let v254 : BitVec 32 := v253
  let v255 : Index := Scalar.indexCast v254
  let c0_125 : Index := 0#32
  ![v255.toNat, 0]

def k0_chk11 (v251 : BitVec 32) : Prop :=
  (8 ∣ (k0_mult12 v251).toNat) ∧
  (∀ a, (k0_off22 v251) a + S8x32.size a ≤ S16384x32.size a)
theorem k0_mult12_dvd : ∀ (v251 : BitVec 32) (k0_hw11 : k0_chk11 v251), 8 ∣ (k0_mult12 v251).toNat := fun v251 k0_hw11 => k0_hw11.1
theorem k0_off22_inb : ∀ (v251 : BitVec 32) (k0_hw11 : k0_chk11 v251), ∀ a, (k0_off22 v251) a + S8x32.size a ≤ S16384x32.size a := fun v251 k0_hw11 => k0_hw11.2

def k0_off23 (i : grid0.Coords) (k0_t1 : Fin k0_t1_loop.trips) : Fin 2 → Nat :=
  let arg0 : BitVec 32 := BitVec.ofNat 32 (i 0).val
  let v266 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c11_i32 : BitVec 32 := 11#32
  let v265 : BitVec 32 := Scalar.addi v77 c11_i32
  let v267 : Index := Scalar.indexCast v265
  ![v266.toNat, v267.toNat]
def k0_mult13 (v268 : BitVec 32) : BitVec 32 :=
  let c3_i32_128 : BitVec 32 := 3#32
  let v269 : BitVec 32 := Scalar.shrsi v268 c3_i32_128
  let c3_i32_129 : BitVec 32 := 3#32
  let v270 : BitVec 32 := Scalar.shli v269 c3_i32_129
  v270

def k0_off24 (v268 : BitVec 32) : Fin 2 → Nat :=
  let c3_i32_128 : BitVec 32 := 3#32
  let v269 : BitVec 32 := Scalar.shrsi v268 c3_i32_128
  let c3_i32_129 : BitVec 32 := 3#32
  let v270 : BitVec 32 := Scalar.shli v269 c3_i32_129
  let v271 : BitVec 32 := v270
  let v272 : Index := Scalar.indexCast v271
  let c0_130 : Index := 0#32
  ![v272.toNat, 0]

def k0_chk12 (v268 : BitVec 32) : Prop :=
  (8 ∣ (k0_mult13 v268).toNat) ∧
  (∀ a, (k0_off24 v268) a + S8x32.size a ≤ S16384x32.size a)
theorem k0_mult13_dvd : ∀ (v268 : BitVec 32) (k0_hw12 : k0_chk12 v268), 8 ∣ (k0_mult13 v268).toNat := fun v268 k0_hw12 => k0_hw12.1
theorem k0_off24_inb : ∀ (v268 : BitVec 32) (k0_hw12 : k0_chk12 v268), ∀ a, (k0_off24 v268) a + S8x32.size a ≤ S16384x32.size a := fun v268 k0_hw12 => k0_hw12.2

def k0_off25 (i : grid0.Coords) (k0_t1 : Fin k0_t1_loop.trips) : Fin 2 → Nat :=
  let arg0 : BitVec 32 := BitVec.ofNat 32 (i 0).val
  let v283 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c12_i32 : BitVec 32 := 12#32
  let v282 : BitVec 32 := Scalar.addi v77 c12_i32
  let v284 : Index := Scalar.indexCast v282
  ![v283.toNat, v284.toNat]
def k0_mult14 (v285 : BitVec 32) : BitVec 32 :=
  let c3_i32_133 : BitVec 32 := 3#32
  let v286 : BitVec 32 := Scalar.shrsi v285 c3_i32_133
  let c3_i32_134 : BitVec 32 := 3#32
  let v287 : BitVec 32 := Scalar.shli v286 c3_i32_134
  v287

def k0_off26 (v285 : BitVec 32) : Fin 2 → Nat :=
  let c3_i32_133 : BitVec 32 := 3#32
  let v286 : BitVec 32 := Scalar.shrsi v285 c3_i32_133
  let c3_i32_134 : BitVec 32 := 3#32
  let v287 : BitVec 32 := Scalar.shli v286 c3_i32_134
  let v288 : BitVec 32 := v287
  let v289 : Index := Scalar.indexCast v288
  let c0_135 : Index := 0#32
  ![v289.toNat, 0]

def k0_chk13 (v285 : BitVec 32) : Prop :=
  (8 ∣ (k0_mult14 v285).toNat) ∧
  (∀ a, (k0_off26 v285) a + S8x32.size a ≤ S16384x32.size a)
theorem k0_mult14_dvd : ∀ (v285 : BitVec 32) (k0_hw13 : k0_chk13 v285), 8 ∣ (k0_mult14 v285).toNat := fun v285 k0_hw13 => k0_hw13.1
theorem k0_off26_inb : ∀ (v285 : BitVec 32) (k0_hw13 : k0_chk13 v285), ∀ a, (k0_off26 v285) a + S8x32.size a ≤ S16384x32.size a := fun v285 k0_hw13 => k0_hw13.2

def k0_off27 (i : grid0.Coords) (k0_t1 : Fin k0_t1_loop.trips) : Fin 2 → Nat :=
  let arg0 : BitVec 32 := BitVec.ofNat 32 (i 0).val
  let v300 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c13_i32 : BitVec 32 := 13#32
  let v299 : BitVec 32 := Scalar.addi v77 c13_i32
  let v301 : Index := Scalar.indexCast v299
  ![v300.toNat, v301.toNat]
def k0_mult15 (v302 : BitVec 32) : BitVec 32 :=
  let c3_i32_138 : BitVec 32 := 3#32
  let v303 : BitVec 32 := Scalar.shrsi v302 c3_i32_138
  let c3_i32_139 : BitVec 32 := 3#32
  let v304 : BitVec 32 := Scalar.shli v303 c3_i32_139
  v304

def k0_off28 (v302 : BitVec 32) : Fin 2 → Nat :=
  let c3_i32_138 : BitVec 32 := 3#32
  let v303 : BitVec 32 := Scalar.shrsi v302 c3_i32_138
  let c3_i32_139 : BitVec 32 := 3#32
  let v304 : BitVec 32 := Scalar.shli v303 c3_i32_139
  let v305 : BitVec 32 := v304
  let v306 : Index := Scalar.indexCast v305
  let c0_140 : Index := 0#32
  ![v306.toNat, 0]

def k0_chk14 (v302 : BitVec 32) : Prop :=
  (8 ∣ (k0_mult15 v302).toNat) ∧
  (∀ a, (k0_off28 v302) a + S8x32.size a ≤ S16384x32.size a)
theorem k0_mult15_dvd : ∀ (v302 : BitVec 32) (k0_hw14 : k0_chk14 v302), 8 ∣ (k0_mult15 v302).toNat := fun v302 k0_hw14 => k0_hw14.1
theorem k0_off28_inb : ∀ (v302 : BitVec 32) (k0_hw14 : k0_chk14 v302), ∀ a, (k0_off28 v302) a + S8x32.size a ≤ S16384x32.size a := fun v302 k0_hw14 => k0_hw14.2

def k0_off29 (i : grid0.Coords) (k0_t1 : Fin k0_t1_loop.trips) : Fin 2 → Nat :=
  let arg0 : BitVec 32 := BitVec.ofNat 32 (i 0).val
  let v317 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c14_i32 : BitVec 32 := 14#32
  let v316 : BitVec 32 := Scalar.addi v77 c14_i32
  let v318 : Index := Scalar.indexCast v316
  ![v317.toNat, v318.toNat]
def k0_mult16 (v319 : BitVec 32) : BitVec 32 :=
  let c3_i32_143 : BitVec 32 := 3#32
  let v320 : BitVec 32 := Scalar.shrsi v319 c3_i32_143
  let c3_i32_144 : BitVec 32 := 3#32
  let v321 : BitVec 32 := Scalar.shli v320 c3_i32_144
  v321

def k0_off30 (v319 : BitVec 32) : Fin 2 → Nat :=
  let c3_i32_143 : BitVec 32 := 3#32
  let v320 : BitVec 32 := Scalar.shrsi v319 c3_i32_143
  let c3_i32_144 : BitVec 32 := 3#32
  let v321 : BitVec 32 := Scalar.shli v320 c3_i32_144
  let v322 : BitVec 32 := v321
  let v323 : Index := Scalar.indexCast v322
  let c0_145 : Index := 0#32
  ![v323.toNat, 0]

def k0_chk15 (v319 : BitVec 32) : Prop :=
  (8 ∣ (k0_mult16 v319).toNat) ∧
  (∀ a, (k0_off30 v319) a + S8x32.size a ≤ S16384x32.size a)
theorem k0_mult16_dvd : ∀ (v319 : BitVec 32) (k0_hw15 : k0_chk15 v319), 8 ∣ (k0_mult16 v319).toNat := fun v319 k0_hw15 => k0_hw15.1
theorem k0_off30_inb : ∀ (v319 : BitVec 32) (k0_hw15 : k0_chk15 v319), ∀ a, (k0_off30 v319) a + S8x32.size a ≤ S16384x32.size a := fun v319 k0_hw15 => k0_hw15.2

def k0_off31 (i : grid0.Coords) (k0_t1 : Fin k0_t1_loop.trips) : Fin 2 → Nat :=
  let arg0 : BitVec 32 := BitVec.ofNat 32 (i 0).val
  let v334 : Index := Scalar.indexCast arg0
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let c15_i32 : BitVec 32 := 15#32
  let v333 : BitVec 32 := Scalar.addi v77 c15_i32
  let v335 : Index := Scalar.indexCast v333
  ![v334.toNat, v335.toNat]
def k0_mult17 (v336 : BitVec 32) : BitVec 32 :=
  let c3_i32_148 : BitVec 32 := 3#32
  let v337 : BitVec 32 := Scalar.shrsi v336 c3_i32_148
  let c3_i32_149 : BitVec 32 := 3#32
  let v338 : BitVec 32 := Scalar.shli v337 c3_i32_149
  v338

def k0_off32 (v336 : BitVec 32) : Fin 2 → Nat :=
  let c3_i32_148 : BitVec 32 := 3#32
  let v337 : BitVec 32 := Scalar.shrsi v336 c3_i32_148
  let c3_i32_149 : BitVec 32 := 3#32
  let v338 : BitVec 32 := Scalar.shli v337 c3_i32_149
  let v339 : BitVec 32 := v338
  let v340 : Index := Scalar.indexCast v339
  let c0_150 : Index := 0#32
  ![v340.toNat, 0]

def k0_chk16 (v336 : BitVec 32) : Prop :=
  (8 ∣ (k0_mult17 v336).toNat) ∧
  (∀ a, (k0_off32 v336) a + S8x32.size a ≤ S16384x32.size a)
theorem k0_mult17_dvd : ∀ (v336 : BitVec 32) (k0_hw16 : k0_chk16 v336), 8 ∣ (k0_mult17 v336).toNat := fun v336 k0_hw16 => k0_hw16.1
theorem k0_off32_inb : ∀ (v336 : BitVec 32) (k0_hw16 : k0_chk16 v336), ∀ a, (k0_off32 v336) a + S8x32.size a ≤ S16384x32.size a := fun v336 k0_hw16 => k0_hw16.2

def k0_off33 (k0_t1 : Fin k0_t1_loop.trips) : Fin 3 → Nat :=
  let c0_153 : Index := 0#32
  let c0_i32 : BitVec 32 := 0#32
  let c1_i32 : BitVec 32 := 1#32
  let arg8 : BitVec 32 := Scf.iv c0_i32 c1_i32 k0_t1
  let c16_i32 : BitVec 32 := 16#32
  let v76 : BitVec 32 := Scalar.muli arg8 c16_i32
  let v77 : BitVec 32 := v76
  let v351 : Index := Scalar.indexCast v77
  let c0_154 : Index := 0#32
  ![0, v351.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x136x136x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

@[reducible] def k1_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k1_off1 (k1_t1 : Fin k1_t1_loop.trips) : Fin 3 → Nat :=
  let c0_i32 : BitVec 32 := 0#32
  let c1_i32 : BitVec 32 := 1#32
  let arg16 : BitVec 32 := Scf.iv c0_i32 c1_i32 k1_t1
  let v11 : Index := Scalar.indexCast arg16
  let c0_9 : Index := 0#32
  let c0_10 : Index := 0#32
  ![v11.toNat, 0, 0]
def k1_off2 (k1_t1 : Fin k1_t1_loop.trips) : Fin 3 → Nat :=
  let c0_i32 : BitVec 32 := 0#32
  let c1_i32 : BitVec 32 := 1#32
  let arg16 : BitVec 32 := Scf.iv c0_i32 c1_i32 k1_t1
  let v60 : Index := Scalar.indexCast arg16
  let c0_30 : Index := 0#32
  let c0_31 : Index := 0#32
  ![v60.toNat, 0, 0]
@[reducible] def k1_t2_loop : Scf.Loop 32 :=
  let c0_i32_5 : BitVec 32 := 0#32
  let c32_i32_6 : BitVec 32 := 32#32
  let v9 : BitVec 32 := Scalar.addi c0_i32_5 c32_i32_6
  let c1_i32_7 : BitVec 32 := 1#32
  ⟨c0_i32_5, v9, c1_i32_7⟩
def k1_off3 (k1_t2 : Fin k1_t2_loop.trips) : Fin 3 → Nat :=
  let c0_i32_5 : BitVec 32 := 0#32
  let c1_i32_7 : BitVec 32 := 1#32
  let arg16 : BitVec 32 := Scf.iv c0_i32_5 c1_i32_7 k1_t2
  let v11 : Index := Scalar.indexCast arg16
  let c0_9 : Index := 0#32
  let c0_10 : Index := 0#32
  ![v11.toNat, 0, 0]
def k1_mult1 (k1_t2 : Fin k1_t2_loop.trips) : BitVec 32 :=
  let c0_i32_5 : BitVec 32 := 0#32
  let c1_i32_7 : BitVec 32 := 1#32
  let arg16 : BitVec 32 := Scf.iv c0_i32_5 c1_i32_7 k1_t2
  let c512_i32 : BitVec 32 := 512#32
  let v71 : BitVec 32 := Scalar.muli arg16 c512_i32
  v71
def k1_off4 (k1_t2 : Fin k1_t2_loop.trips) : Fin 2 → Nat :=
  let c0_i32_5 : BitVec 32 := 0#32
  let c1_i32_7 : BitVec 32 := 1#32
  let arg16 : BitVec 32 := Scf.iv c0_i32_5 c1_i32_7 k1_t2
  let c512_i32 : BitVec 32 := 512#32
  let v71 : BitVec 32 := Scalar.muli arg16 c512_i32
  let v72 : BitVec 32 := v71
  let v73 : Index := Scalar.indexCast v72
  let c0_38 : Index := 0#32
  ![v73.toNat, 0]
abbrev stage1_0 : Fin 1 → Memref sig .tc .vmem S32x512x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x1024 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S64x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .smem S1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S16384x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S16x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
-- ==== ReferenceIdeal.lean ====
abbrev S16x64x128x128 : Shape := ⟨4, ![16, 64, 128, 128]⟩
abbrev S16x16x32x2 : Shape := ⟨4, ![16, 16, 32, 2]⟩
abbrev S64x64x3x3 : Shape := ⟨4, ![64, 64, 3, 3]⟩
abbrev S64 : Shape := ⟨1, ![64]⟩
abbrev S32x64 : Shape := ⟨2, ![32, 64]⟩
abbrev S32 : Shape := ⟨1, ![32]⟩
abbrev S512x32 : Shape := ⟨2, ![512, 32]⟩
abbrev S512x128 : Shape := ⟨2, ![512, 128]⟩
abbrev S512 : Shape := ⟨1, ![512]⟩
abbrev S64x128 : Shape := ⟨2, ![64, 128]⟩
abbrev S1x64 : Shape := ⟨2, ![1, 64]⟩
abbrev S1 : Shape := ⟨1, ![1]⟩
abbrev S_ : Shape := ⟨0, ![]⟩
abbrev S16x64x130x130 : Shape := ⟨4, ![16, 64, 130, 130]⟩
abbrev S64x64x1x1 : Shape := ⟨4, ![64, 64, 1, 1]⟩
abbrev S64x64 : Shape := ⟨2, ![64, 64]⟩
abbrev S64x16x128x128 : Shape := ⟨4, ![64, 16, 128, 128]⟩
abbrev S1x64x1x1 : Shape := ⟨4, ![1, 64, 1, 1]⟩
abbrev S32x16x128x128 : Shape := ⟨4, ![32, 16, 128, 128]⟩
abbrev S16x32x128x128 : Shape := ⟨4, ![16, 32, 128, 128]⟩
abbrev S1x32x1x1 : Shape := ⟨4, ![1, 32, 1, 1]⟩
abbrev S16x32x16384 : Shape := ⟨3, ![16, 32, 16384]⟩
abbrev S16x16x32x1 : Shape := ⟨4, ![16, 16, 32, 1]⟩
abbrev S16x16x32 : Shape := ⟨3, ![16, 16, 32]⟩
abbrev S16x512 : Shape := ⟨2, ![16, 512]⟩
abbrev S16x512x1 : Shape := ⟨3, ![16, 512, 1]⟩
abbrev S16x32x512 : Shape := ⟨3, ![16, 32, 512]⟩
abbrev S16x512x32 : Shape := ⟨3, ![16, 512, 32]⟩
abbrev S256x32x32 : Shape := ⟨3, ![256, 32, 32]⟩
abbrev S32x256x32 : Shape := ⟨3, ![32, 256, 32]⟩
abbrev S256x128 : Shape := ⟨2, ![256, 128]⟩
abbrev S32x256x128 : Shape := ⟨3, ![32, 256, 128]⟩
abbrev S1x256x32 : Shape := ⟨3, ![1, 256, 32]⟩
abbrev S256x32 : Shape := ⟨2, ![256, 32]⟩
abbrev S32x512 : Shape := ⟨2, ![32, 512]⟩
abbrev S256x512 : Shape := ⟨2, ![256, 512]⟩
abbrev S1x512 : Shape := ⟨2, ![1, 512]⟩
abbrev S128x512 : Shape := ⟨2, ![128, 512]⟩
abbrev S1x256x128 : Shape := ⟨3, ![1, 256, 128]⟩
abbrev S256x32x128 : Shape := ⟨3, ![256, 32, 128]⟩
abbrev S128x64 : Shape := ⟨2, ![128, 64]⟩
abbrev S256x32x64 : Shape := ⟨3, ![256, 32, 64]⟩
abbrev S1x1x64 : Shape := ⟨3, ![1, 1, 64]⟩
abbrev S64x1 : Shape := ⟨2, ![64, 1]⟩
abbrev S256x32x1 : Shape := ⟨3, ![256, 32, 1]⟩
abbrev S1x1x1 : Shape := ⟨3, ![1, 1, 1]⟩
abbrev S256x32x2 : Shape := ⟨3, ![256, 32, 2]⟩

abbrev nBuf : Space → Nat
  | .hbm => 457
  | .vmem => 0
  | .smem => 0
  | _ => 0

abbrev hbmTy0_0 (i : Nat) : BufTy := match i % 128 with
  | 0 => ⟨S16x64x128x128, .f32⟩
  | 1 => ⟨S16x16x32x2, .i32⟩
  | 2 => ⟨S64x64x3x3, .f32⟩
  | 3 => ⟨S64, .f32⟩
  | 4 => ⟨S32x64, .f32⟩
  | 5 => ⟨S32, .f32⟩
  | 6 => ⟨S512x32, .f32⟩
  | 7 => ⟨S512x128, .f32⟩
  | 8 => ⟨S512, .f32⟩
  | 9 => ⟨S512, .f32⟩
  | 10 => ⟨S512x128, .f32⟩
  | 11 => ⟨S512x128, .f32⟩
  | 12 => ⟨S512, .f32⟩
  | 13 => ⟨S512, .f32⟩
  | 14 => ⟨S64x128, .f32⟩
  | 15 => ⟨S64, .f32⟩
  | 16 => ⟨S1x64, .f32⟩
  | 17 => ⟨S1, .f32⟩
  | 18 => ⟨S64x128, .f32⟩
  | 19 => ⟨S64, .f32⟩
  | 20 => ⟨S1x64, .f32⟩
  | 21 => ⟨S1, .f32⟩
  | 22 => ⟨S_, .i32⟩
  | 23 => ⟨S_, .f32⟩
  | 24 => ⟨S16x64x130x130, .f32⟩
  | 25 => ⟨S16x64x128x128, .f32⟩
  | 26 => ⟨S64x64x1x1, .f32⟩
  | 27 => ⟨S64x64, .f32⟩
  | 28 => ⟨S64x16x128x128, .f32⟩
  | 29 => ⟨S16x64x128x128, .f32⟩
  | 30 => ⟨S_, .f32⟩
  | 31 => ⟨S16x64x128x128, .f32⟩
  | 32 => ⟨S16x64x128x128, .f32⟩
  | 33 => ⟨S16x64x128x128, .f32⟩
  | 34 => ⟨S64x64x1x1, .f32⟩
  | 35 => ⟨S64x64, .f32⟩
  | 36 => ⟨S64x16x128x128, .f32⟩
  | 37 => ⟨S16x64x128x128, .f32⟩
  | 38 => ⟨S16x64x128x128, .f32⟩
  | 39 => ⟨S16x64x128x128, .f32⟩
  | 40 => ⟨S64x64x1x1, .f32⟩
  | 41 => ⟨S64x64, .f32⟩
  | 42 => ⟨S64x16x128x128, .f32⟩
  | 43 => ⟨S16x64x128x128, .f32⟩
  | 44 => ⟨S16x64x128x128, .f32⟩
  | 45 => ⟨S16x64x128x128, .f32⟩
  | 46 => ⟨S64x64x1x1, .f32⟩
  | 47 => ⟨S64x64, .f32⟩
  | 48 => ⟨S64x16x128x128, .f32⟩
  | 49 => ⟨S16x64x128x128, .f32⟩
  | 50 => ⟨S16x64x128x128, .f32⟩
  | 51 => ⟨S16x64x128x128, .f32⟩
  | 52 => ⟨S64x64x1x1, .f32⟩
  | 53 => ⟨S64x64, .f32⟩
  | 54 => ⟨S64x16x128x128, .f32⟩
  | 55 => ⟨S16x64x128x128, .f32⟩
  | 56 => ⟨S16x64x128x128, .f32⟩
  | 57 => ⟨S16x64x128x128, .f32⟩
  | 58 => ⟨S64x64x1x1, .f32⟩
  | 59 => ⟨S64x64, .f32⟩
  | 60 => ⟨S64x16x128x128, .f32⟩
  | 61 => ⟨S16x64x128x128, .f32⟩
  | 62 => ⟨S16x64x128x128, .f32⟩
  | 63 => ⟨S16x64x128x128, .f32⟩
  | 64 => ⟨S64x64x1x1, .f32⟩
  | 65 => ⟨S64x64, .f32⟩
  | 66 => ⟨S64x16x128x128, .f32⟩
  | 67 => ⟨S16x64x128x128, .f32⟩
  | 68 => ⟨S16x64x128x128, .f32⟩
  | 69 => ⟨S16x64x128x128, .f32⟩
  | 70 => ⟨S64x64x1x1, .f32⟩
  | 71 => ⟨S64x64, .f32⟩
  | 72 => ⟨S64x16x128x128, .f32⟩
  | 73 => ⟨S16x64x128x128, .f32⟩
  | 74 => ⟨S16x64x128x128, .f32⟩
  | 75 => ⟨S16x64x128x128, .f32⟩
  | 76 => ⟨S64x64x1x1, .f32⟩
  | 77 => ⟨S64x64, .f32⟩
  | 78 => ⟨S64x16x128x128, .f32⟩
  | 79 => ⟨S16x64x128x128, .f32⟩
  | 80 => ⟨S16x64x128x128, .f32⟩
  | 81 => ⟨S1x64x1x1, .f32⟩
  | 82 => ⟨S16x64x128x128, .f32⟩
  | 83 => ⟨S16x64x128x128, .f32⟩
  | 84 => ⟨S_, .f32⟩
  | 85 => ⟨S16x64x128x128, .f32⟩
  | 86 => ⟨S16x64x128x128, .f32⟩
  | 87 => ⟨S32x16x128x128, .f32⟩
  | 88 => ⟨S16x32x128x128, .f32⟩
  | 89 => ⟨S1x32x1x1, .f32⟩
  | 90 => ⟨S16x32x128x128, .f32⟩
  | 91 => ⟨S16x32x128x128, .f32⟩
  | 92 => ⟨S_, .i32⟩
  | 93 => ⟨S_, .i32⟩
  | 94 => ⟨S_, .i32⟩
  | 95 => ⟨S16x16x32x2, .i32⟩
  | 96 => ⟨S16x16x32x2, .i32⟩
  | 97 => ⟨S_, .i32⟩
  | 98 => ⟨S16x16x32x2, .i32⟩
  | 99 => ⟨S16x16x32x2, .i32⟩
  | 100 => ⟨S16x32x16384, .f32⟩
  | 101 => ⟨S16x16x32x1, .i32⟩
  | 102 => ⟨S16x16x32, .i32⟩
  | 103 => ⟨S_, .i32⟩
  | 104 => ⟨S16x16x32, .i32⟩
  | 105 => ⟨S16x16x32, .i32⟩
  | 106 => ⟨S16x16x32x1, .i32⟩
  | 107 => ⟨S16x16x32, .i32⟩
  | 108 => ⟨S16x16x32, .i32⟩
  | 109 => ⟨S16x512, .i32⟩
  | 110 => ⟨S16x16x32x1, .i32⟩
  | 111 => ⟨S16x16x32, .i32⟩
  | 112 => ⟨S_, .i32⟩
  | 113 => ⟨S16x16x32, .i32⟩
  | 114 => ⟨S16x16x32, .i32⟩
  | 115 => ⟨S16x16x32x1, .i32⟩
  | 116 => ⟨S16x16x32, .i32⟩
  | 117 => ⟨S16x16x32, .i32⟩
  | 118 => ⟨S16x512, .i32⟩
  | 119 => ⟨S_, .i32⟩
  | 120 => ⟨S16x512, .i32⟩
  | 121 => ⟨S16x512, .i1⟩
  | 122 => ⟨S_, .i32⟩
  | 123 => ⟨S16x512, .i32⟩
  | 124 => ⟨S16x512, .i32⟩
  | 125 => ⟨S16x512, .i32⟩
  | 126 => ⟨S16x512x1, .i32⟩
  | 127 => ⟨S16x32x512, .f32⟩
  | _ => ⟨S16x64x128x128, .f32⟩

abbrev hbmTy0_1 (i : Nat) : BufTy := match i % 128 with
  | 0 => ⟨S16x512x32, .f32⟩
  | 1 => ⟨S_, .i32⟩
  | 2 => ⟨S16x512, .i32⟩
  | 3 => ⟨S16x512, .i1⟩
  | 4 => ⟨S_, .i32⟩
  | 5 => ⟨S16x512, .i32⟩
  | 6 => ⟨S16x512, .i32⟩
  | 7 => ⟨S16x512, .i32⟩
  | 8 => ⟨S16x512x1, .i32⟩
  | 9 => ⟨S16x32x512, .f32⟩
  | 10 => ⟨S16x512x32, .f32⟩
  | 11 => ⟨S256x32x32, .f32⟩
  | 12 => ⟨S32x256x32, .f32⟩
  | 13 => ⟨S_, .f32⟩
  | 14 => ⟨S256x128, .f32⟩
  | 15 => ⟨S_, .f32⟩
  | 16 => ⟨S32x256x128, .f32⟩
  | 17 => ⟨S_, .i32⟩
  | 18 => ⟨S32x256x32, .f32⟩
  | 19 => ⟨S512x32, .f32⟩
  | 20 => ⟨S512, .f32⟩
  | 21 => ⟨S512x128, .f32⟩
  | 22 => ⟨S512, .f32⟩
  | 23 => ⟨S_, .i32⟩
  | 24 => ⟨S256x128, .f32⟩
  | 25 => ⟨S256x128, .f32⟩
  | 26 => ⟨S32x256x128, .f32⟩
  | 27 => ⟨S_, .i32⟩
  | 28 => ⟨S_, .i1⟩
  | 29 => ⟨S_, .i32⟩
  | 30 => ⟨S_, .i32⟩
  | 31 => ⟨S1x256x32, .f32⟩
  | 32 => ⟨S256x32, .f32⟩
  | 33 => ⟨S32x512, .f32⟩
  | 34 => ⟨S256x512, .f32⟩
  | 35 => ⟨S1x512, .f32⟩
  | 36 => ⟨S256x512, .f32⟩
  | 37 => ⟨S256x512, .f32⟩
  | 38 => ⟨S128x512, .f32⟩
  | 39 => ⟨S256x512, .f32⟩
  | 40 => ⟨S256x512, .f32⟩
  | 41 => ⟨S1x512, .f32⟩
  | 42 => ⟨S256x512, .f32⟩
  | 43 => ⟨S256x512, .f32⟩
  | 44 => ⟨S256x128, .f32⟩
  | 45 => ⟨S256x128, .f32⟩
  | 46 => ⟨S256x128, .f32⟩
  | 47 => ⟨S256x128, .f32⟩
  | 48 => ⟨S256x128, .f32⟩
  | 49 => ⟨S256x128, .f32⟩
  | 50 => ⟨S_, .f32⟩
  | 51 => ⟨S256x128, .f32⟩
  | 52 => ⟨S256x128, .f32⟩
  | 53 => ⟨S_, .f32⟩
  | 54 => ⟨S256x128, .f32⟩
  | 55 => ⟨S256x128, .f32⟩
  | 56 => ⟨S256x128, .f32⟩
  | 57 => ⟨S256x128, .f32⟩
  | 58 => ⟨S256x128, .f32⟩
  | 59 => ⟨S_, .f32⟩
  | 60 => ⟨S256x128, .f32⟩
  | 61 => ⟨S256x128, .f32⟩
  | 62 => ⟨S_, .f32⟩
  | 63 => ⟨S256x128, .f32⟩
  | 64 => ⟨S256x128, .f32⟩
  | 65 => ⟨S256x128, .f32⟩
  | 66 => ⟨S256x128, .f32⟩
  | 67 => ⟨S256x128, .f32⟩
  | 68 => ⟨S256x128, .f32⟩
  | 69 => ⟨S256x128, .f32⟩
  | 70 => ⟨S_, .f32⟩
  | 71 => ⟨S256x128, .f32⟩
  | 72 => ⟨S256x128, .f32⟩
  | 73 => ⟨S_, .f32⟩
  | 74 => ⟨S256x128, .f32⟩
  | 75 => ⟨S256x128, .f32⟩
  | 76 => ⟨S256x128, .f32⟩
  | 77 => ⟨S256x128, .f32⟩
  | 78 => ⟨S1x256x128, .f32⟩
  | 79 => ⟨S_, .i32⟩
  | 80 => ⟨S_, .i32⟩
  | 81 => ⟨S32x256x128, .f32⟩
  | 82 => ⟨S_, .i32⟩
  | 83 => ⟨S_, .i32⟩
  | 84 => ⟨S_, .f32⟩
  | 85 => ⟨S32x256x128, .f32⟩
  | 86 => ⟨S_, .i32⟩
  | 87 => ⟨S32x256x128, .f32⟩
  | 88 => ⟨S512x128, .f32⟩
  | 89 => ⟨S512, .f32⟩
  | 90 => ⟨S512x128, .f32⟩
  | 91 => ⟨S512, .f32⟩
  | 92 => ⟨S_, .i32⟩
  | 93 => ⟨S256x128, .f32⟩
  | 94 => ⟨S256x128, .f32⟩
  | 95 => ⟨S32x256x128, .f32⟩
  | 96 => ⟨S_, .i32⟩
  | 97 => ⟨S_, .i1⟩
  | 98 => ⟨S_, .i32⟩
  | 99 => ⟨S_, .i32⟩
  | 100 => ⟨S1x256x128, .f32⟩
  | 101 => ⟨S256x128, .f32⟩
  | 102 => ⟨S128x512, .f32⟩
  | 103 => ⟨S256x512, .f32⟩
  | 104 => ⟨S1x512, .f32⟩
  | 105 => ⟨S256x512, .f32⟩
  | 106 => ⟨S256x512, .f32⟩
  | 107 => ⟨S128x512, .f32⟩
  | 108 => ⟨S256x512, .f32⟩
  | 109 => ⟨S256x512, .f32⟩
  | 110 => ⟨S1x512, .f32⟩
  | 111 => ⟨S256x512, .f32⟩
  | 112 => ⟨S256x512, .f32⟩
  | 113 => ⟨S256x128, .f32⟩
  | 114 => ⟨S256x128, .f32⟩
  | 115 => ⟨S256x128, .f32⟩
  | 116 => ⟨S256x128, .f32⟩
  | 117 => ⟨S256x128, .f32⟩
  | 118 => ⟨S256x128, .f32⟩
  | 119 => ⟨S_, .f32⟩
  | 120 => ⟨S256x128, .f32⟩
  | 121 => ⟨S256x128, .f32⟩
  | 122 => ⟨S_, .f32⟩
  | 123 => ⟨S256x128, .f32⟩
  | 124 => ⟨S256x128, .f32⟩
  | 125 => ⟨S256x128, .f32⟩
  | 126 => ⟨S256x128, .f32⟩
  | 127 => ⟨S256x128, .f32⟩
  | _ => ⟨S16x64x128x128, .f32⟩

abbrev hbmTy0_2 (i : Nat) : BufTy := match i % 128 with
  | 0 => ⟨S_, .f32⟩
  | 1 => ⟨S256x128, .f32⟩
  | 2 => ⟨S256x128, .f32⟩
  | 3 => ⟨S_, .f32⟩
  | 4 => ⟨S256x128, .f32⟩
  | 5 => ⟨S256x128, .f32⟩
  | 6 => ⟨S256x128, .f32⟩
  | 7 => ⟨S256x128, .f32⟩
  | 8 => ⟨S256x128, .f32⟩
  | 9 => ⟨S256x128, .f32⟩
  | 10 => ⟨S256x128, .f32⟩
  | 11 => ⟨S_, .f32⟩
  | 12 => ⟨S256x128, .f32⟩
  | 13 => ⟨S256x128, .f32⟩
  | 14 => ⟨S_, .f32⟩
  | 15 => ⟨S256x128, .f32⟩
  | 16 => ⟨S256x128, .f32⟩
  | 17 => ⟨S256x128, .f32⟩
  | 18 => ⟨S256x128, .f32⟩
  | 19 => ⟨S1x256x128, .f32⟩
  | 20 => ⟨S_, .i32⟩
  | 21 => ⟨S_, .i32⟩
  | 22 => ⟨S32x256x128, .f32⟩
  | 23 => ⟨S_, .i32⟩
  | 24 => ⟨S_, .i32⟩
  | 25 => ⟨S256x32x128, .f32⟩
  | 26 => ⟨S128x64, .f32⟩
  | 27 => ⟨S256x32x64, .f32⟩
  | 28 => ⟨S1x1x64, .f32⟩
  | 29 => ⟨S256x32x64, .f32⟩
  | 30 => ⟨S256x32x64, .f32⟩
  | 31 => ⟨S_, .f32⟩
  | 32 => ⟨S256x32x64, .f32⟩
  | 33 => ⟨S256x32x64, .f32⟩
  | 34 => ⟨S64x1, .f32⟩
  | 35 => ⟨S256x32x1, .f32⟩
  | 36 => ⟨S1x1x1, .f32⟩
  | 37 => ⟨S256x32x1, .f32⟩
  | 38 => ⟨S256x32x1, .f32⟩
  | 39 => ⟨S256x32x32, .f32⟩
  | 40 => ⟨S32x256x32, .f32⟩
  | 41 => ⟨S_, .f32⟩
  | 42 => ⟨S256x128, .f32⟩
  | 43 => ⟨S_, .f32⟩
  | 44 => ⟨S32x256x128, .f32⟩
  | 45 => ⟨S_, .i32⟩
  | 46 => ⟨S32x256x32, .f32⟩
  | 47 => ⟨S512x32, .f32⟩
  | 48 => ⟨S512, .f32⟩
  | 49 => ⟨S512x128, .f32⟩
  | 50 => ⟨S512, .f32⟩
  | 51 => ⟨S_, .i32⟩
  | 52 => ⟨S256x128, .f32⟩
  | 53 => ⟨S256x128, .f32⟩
  | 54 => ⟨S32x256x128, .f32⟩
  | 55 => ⟨S_, .i32⟩
  | 56 => ⟨S_, .i1⟩
  | 57 => ⟨S_, .i32⟩
  | 58 => ⟨S_, .i32⟩
  | 59 => ⟨S1x256x32, .f32⟩
  | 60 => ⟨S256x32, .f32⟩
  | 61 => ⟨S32x512, .f32⟩
  | 62 => ⟨S256x512, .f32⟩
  | 63 => ⟨S1x512, .f32⟩
  | 64 => ⟨S256x512, .f32⟩
  | 65 => ⟨S256x512, .f32⟩
  | 66 => ⟨S128x512, .f32⟩
  | 67 => ⟨S256x512, .f32⟩
  | 68 => ⟨S256x512, .f32⟩
  | 69 => ⟨S1x512, .f32⟩
  | 70 => ⟨S256x512, .f32⟩
  | 71 => ⟨S256x512, .f32⟩
  | 72 => ⟨S256x128, .f32⟩
  | 73 => ⟨S256x128, .f32⟩
  | 74 => ⟨S256x128, .f32⟩
  | 75 => ⟨S256x128, .f32⟩
  | 76 => ⟨S256x128, .f32⟩
  | 77 => ⟨S256x128, .f32⟩
  | 78 => ⟨S_, .f32⟩
  | 79 => ⟨S256x128, .f32⟩
  | 80 => ⟨S256x128, .f32⟩
  | 81 => ⟨S_, .f32⟩
  | 82 => ⟨S256x128, .f32⟩
  | 83 => ⟨S256x128, .f32⟩
  | 84 => ⟨S256x128, .f32⟩
  | 85 => ⟨S256x128, .f32⟩
  | 86 => ⟨S256x128, .f32⟩
  | 87 => ⟨S_, .f32⟩
  | 88 => ⟨S256x128, .f32⟩
  | 89 => ⟨S256x128, .f32⟩
  | 90 => ⟨S_, .f32⟩
  | 91 => ⟨S256x128, .f32⟩
  | 92 => ⟨S256x128, .f32⟩
  | 93 => ⟨S256x128, .f32⟩
  | 94 => ⟨S256x128, .f32⟩
  | 95 => ⟨S256x128, .f32⟩
  | 96 => ⟨S256x128, .f32⟩
  | 97 => ⟨S256x128, .f32⟩
  | 98 => ⟨S_, .f32⟩
  | 99 => ⟨S256x128, .f32⟩
  | 100 => ⟨S256x128, .f32⟩
  | 101 => ⟨S_, .f32⟩
  | 102 => ⟨S256x128, .f32⟩
  | 103 => ⟨S256x128, .f32⟩
  | 104 => ⟨S256x128, .f32⟩
  | 105 => ⟨S256x128, .f32⟩
  | 106 => ⟨S1x256x128, .f32⟩
  | 107 => ⟨S_, .i32⟩
  | 108 => ⟨S_, .i32⟩
  | 109 => ⟨S32x256x128, .f32⟩
  | 110 => ⟨S_, .i32⟩
  | 111 => ⟨S_, .i32⟩
  | 112 => ⟨S_, .f32⟩
  | 113 => ⟨S32x256x128, .f32⟩
  | 114 => ⟨S_, .i32⟩
  | 115 => ⟨S32x256x128, .f32⟩
  | 116 => ⟨S512x128, .f32⟩
  | 117 => ⟨S512, .f32⟩
  | 118 => ⟨S512x128, .f32⟩
  | 119 => ⟨S512, .f32⟩
  | 120 => ⟨S_, .i32⟩
  | 121 => ⟨S256x128, .f32⟩
  | 122 => ⟨S256x128, .f32⟩
  | 123 => ⟨S32x256x128, .f32⟩
  | 124 => ⟨S_, .i32⟩
  | 125 => ⟨S_, .i1⟩
  | 126 => ⟨S_, .i32⟩
  | 127 => ⟨S_, .i32⟩
  | _ => ⟨S16x64x128x128, .f32⟩

abbrev hbmTy0_3 (i : Nat) : BufTy := match i % 128 with
  | 0 => ⟨S1x256x128, .f32⟩
  | 1 => ⟨S256x128, .f32⟩
  | 2 => ⟨S128x512, .f32⟩
  | 3 => ⟨S256x512, .f32⟩
  | 4 => ⟨S1x512, .f32⟩
  | 5 => ⟨S256x512, .f32⟩
  | 6 => ⟨S256x512, .f32⟩
  | 7 => ⟨S128x512, .f32⟩
  | 8 => ⟨S256x512, .f32⟩
  | 9 => ⟨S256x512, .f32⟩
  | 10 => ⟨S1x512, .f32⟩
  | 11 => ⟨S256x512, .f32⟩
  | 12 => ⟨S256x512, .f32⟩
  | 13 => ⟨S256x128, .f32⟩
  | 14 => ⟨S256x128, .f32⟩
  | 15 => ⟨S256x128, .f32⟩
  | 16 => ⟨S256x128, .f32⟩
  | 17 => ⟨S256x128, .f32⟩
  | 18 => ⟨S256x128, .f32⟩
  | 19 => ⟨S_, .f32⟩
  | 20 => ⟨S256x128, .f32⟩
  | 21 => ⟨S256x128, .f32⟩
  | 22 => ⟨S_, .f32⟩
  | 23 => ⟨S256x128, .f32⟩
  | 24 => ⟨S256x128, .f32⟩
  | 25 => ⟨S256x128, .f32⟩
  | 26 => ⟨S256x128, .f32⟩
  | 27 => ⟨S256x128, .f32⟩
  | 28 => ⟨S_, .f32⟩
  | 29 => ⟨S256x128, .f32⟩
  | 30 => ⟨S256x128, .f32⟩
  | 31 => ⟨S_, .f32⟩
  | 32 => ⟨S256x128, .f32⟩
  | 33 => ⟨S256x128, .f32⟩
  | 34 => ⟨S256x128, .f32⟩
  | 35 => ⟨S256x128, .f32⟩
  | 36 => ⟨S256x128, .f32⟩
  | 37 => ⟨S256x128, .f32⟩
  | 38 => ⟨S256x128, .f32⟩
  | 39 => ⟨S_, .f32⟩
  | 40 => ⟨S256x128, .f32⟩
  | 41 => ⟨S256x128, .f32⟩
  | 42 => ⟨S_, .f32⟩
  | 43 => ⟨S256x128, .f32⟩
  | 44 => ⟨S256x128, .f32⟩
  | 45 => ⟨S256x128, .f32⟩
  | 46 => ⟨S256x128, .f32⟩
  | 47 => ⟨S1x256x128, .f32⟩
  | 48 => ⟨S_, .i32⟩
  | 49 => ⟨S_, .i32⟩
  | 50 => ⟨S32x256x128, .f32⟩
  | 51 => ⟨S_, .i32⟩
  | 52 => ⟨S_, .i32⟩
  | 53 => ⟨S256x32x128, .f32⟩
  | 54 => ⟨S128x64, .f32⟩
  | 55 => ⟨S256x32x64, .f32⟩
  | 56 => ⟨S1x1x64, .f32⟩
  | 57 => ⟨S256x32x64, .f32⟩
  | 58 => ⟨S256x32x64, .f32⟩
  | 59 => ⟨S_, .f32⟩
  | 60 => ⟨S256x32x64, .f32⟩
  | 61 => ⟨S256x32x64, .f32⟩
  | 62 => ⟨S64x1, .f32⟩
  | 63 => ⟨S256x32x1, .f32⟩
  | 64 => ⟨S1x1x1, .f32⟩
  | 65 => ⟨S256x32x1, .f32⟩
  | 66 => ⟨S256x32x1, .f32⟩
  | 67 => ⟨S256x32x2, .f32⟩
  | 68 => ⟨S16x16x32x2, .f32⟩
  | 69 => ⟨S16x16x32x2, .f32⟩
  | 70 => ⟨S_, .f32⟩
  | 71 => ⟨S16x16x32x2, .f32⟩
  | 72 => ⟨S16x16x32x2, .f32⟩
  | _ => ⟨S16x64x128x128, .f32⟩

abbrev hbmTy (i : Nat) : BufTy := match i / 128 with
  | 0 => hbmTy0_0 i
  | 1 => hbmTy0_1 i
  | 2 => hbmTy0_2 i
  | 3 => hbmTy0_3 i
  | _ => ⟨S16x64x128x128, .f32⟩

abbrev bufTy : (tb : Table) → Fin (tcTables nBuf tb) → BufTy
  | .hbm, ⟨i, _⟩ => hbmTy i
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_call0_v0 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_0 : Ref sig .tc := ⟨.hbm, 92, rfl⟩
abbrev main_c_1 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_2 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_3 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_4 : Ref sig .tc := ⟨.hbm, 119, rfl⟩
abbrev main_v83 : Ref sig .tc := ⟨.hbm, 120, rfl⟩
abbrev main_v84 : Ref sig .tc := ⟨.hbm, 121, rfl⟩
abbrev main_c_5 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_6 : Ref sig .tc := ⟨.hbm, 129, rfl⟩
abbrev main_v91 : Ref sig .tc := ⟨.hbm, 130, rfl⟩
abbrev main_v92 : Ref sig .tc := ⟨.hbm, 131, rfl⟩
abbrev main_c_7 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_8 : Ref sig .tc := ⟨.hbm, 141, rfl⟩
abbrev main_v101 : Ref sig .tc := ⟨.hbm, 142, rfl⟩
abbrev main_cst_9 : Ref sig .tc := ⟨.hbm, 143, rfl⟩
abbrev main_v102 : Ref sig .tc := ⟨.hbm, 144, rfl⟩
abbrev main_c_10 : Ref sig .tc := ⟨.hbm, 145, rfl⟩
abbrev main_v103_0 : Ref sig .tc := ⟨.hbm, 146, rfl⟩
abbrev main_v103_1 : Ref sig .tc := ⟨.hbm, 147, rfl⟩
abbrev main_v103_2 : Ref sig .tc := ⟨.hbm, 148, rfl⟩
abbrev main_v103_3 : Ref sig .tc := ⟨.hbm, 149, rfl⟩
abbrev main_v103_4 : Ref sig .tc := ⟨.hbm, 150, rfl⟩
abbrev main_v103_5 : Ref sig .tc := ⟨.hbm, 151, rfl⟩
abbrev main_v103_6 : Ref sig .tc := ⟨.hbm, 152, rfl⟩
abbrev main_v103_7 : Ref sig .tc := ⟨.hbm, 153, rfl⟩
abbrev main_v103_8 : Ref sig .tc := ⟨.hbm, 154, rfl⟩
abbrev main_while0c_c_29 : Ref sig .tc := ⟨.hbm, 155, rfl⟩
abbrev main_while0c_v144 : Ref sig .tc := ⟨.hbm, 156, rfl⟩
abbrev main_while0b_call3_c : Ref sig .tc := ⟨.hbm, 157, rfl⟩
abbrev main_while0b_call3_c_0 : Ref sig .tc := ⟨.hbm, 158, rfl⟩
abbrev main_while0b_call3_v0 : Ref sig .tc := ⟨.hbm, 159, rfl⟩
abbrev main_while0b_v144 : Ref sig .tc := ⟨.hbm, 160, rfl⟩
abbrev main_while0b_v145 : Ref sig .tc := ⟨.hbm, 161, rfl⟩
abbrev main_while0b_v146 : Ref sig .tc := ⟨.hbm, 162, rfl⟩
abbrev main_while0b_v147 : Ref sig .tc := ⟨.hbm, 163, rfl⟩
abbrev main_while0b_v148 : Ref sig .tc := ⟨.hbm, 164, rfl⟩
abbrev main_while0b_v149 : Ref sig .tc := ⟨.hbm, 165, rfl⟩
abbrev main_while0b_v150 : Ref sig .tc := ⟨.hbm, 166, rfl⟩
abbrev main_while0b_v151 : Ref sig .tc := ⟨.hbm, 167, rfl⟩
abbrev main_while0b_v152 : Ref sig .tc := ⟨.hbm, 168, rfl⟩
abbrev main_while0b_v153 : Ref sig .tc := ⟨.hbm, 169, rfl⟩
abbrev main_while0b_v154 : Ref sig .tc := ⟨.hbm, 170, rfl⟩
abbrev main_while0b_v155 : Ref sig .tc := ⟨.hbm, 171, rfl⟩
abbrev main_while0b_v156 : Ref sig .tc := ⟨.hbm, 172, rfl⟩
abbrev main_while0b_v157 : Ref sig .tc := ⟨.hbm, 173, rfl⟩
abbrev main_while0b_v158 : Ref sig .tc := ⟨.hbm, 174, rfl⟩
abbrev main_while0b_v159 : Ref sig .tc := ⟨.hbm, 175, rfl⟩
abbrev main_while0b_v160 : Ref sig .tc := ⟨.hbm, 176, rfl⟩
abbrev main_while0b_v161 : Ref sig .tc := ⟨.hbm, 177, rfl⟩
abbrev main_while0b_cst_29 : Ref sig .tc := ⟨.hbm, 178, rfl⟩
abbrev main_while0b_v162 : Ref sig .tc := ⟨.hbm, 179, rfl⟩
abbrev main_while0b_v163 : Ref sig .tc := ⟨.hbm, 180, rfl⟩
abbrev main_while0b_cst_30 : Ref sig .tc := ⟨.hbm, 181, rfl⟩
abbrev main_while0b_v164 : Ref sig .tc := ⟨.hbm, 182, rfl⟩
abbrev main_while0b_v165 : Ref sig .tc := ⟨.hbm, 183, rfl⟩
abbrev main_while0b_v166 : Ref sig .tc := ⟨.hbm, 184, rfl⟩
abbrev main_while0b_v167 : Ref sig .tc := ⟨.hbm, 185, rfl⟩
abbrev main_while0b_v168 : Ref sig .tc := ⟨.hbm, 186, rfl⟩
abbrev main_while0b_cst_31 : Ref sig .tc := ⟨.hbm, 187, rfl⟩
abbrev main_while0b_v169 : Ref sig .tc := ⟨.hbm, 188, rfl⟩
abbrev main_while0b_v170 : Ref sig .tc := ⟨.hbm, 189, rfl⟩
abbrev main_while0b_cst_32 : Ref sig .tc := ⟨.hbm, 190, rfl⟩
abbrev main_while0b_v171 : Ref sig .tc := ⟨.hbm, 191, rfl⟩
abbrev main_while0b_v172 : Ref sig .tc := ⟨.hbm, 192, rfl⟩
abbrev main_while0b_v173 : Ref sig .tc := ⟨.hbm, 193, rfl⟩
abbrev main_while0b_v174 : Ref sig .tc := ⟨.hbm, 194, rfl⟩
abbrev main_while0b_v175 : Ref sig .tc := ⟨.hbm, 195, rfl⟩
abbrev main_while0b_v176 : Ref sig .tc := ⟨.hbm, 196, rfl⟩
abbrev main_while0b_v177 : Ref sig .tc := ⟨.hbm, 197, rfl⟩
abbrev main_while0b_cst_33 : Ref sig .tc := ⟨.hbm, 198, rfl⟩
abbrev main_while0b_v178 : Ref sig .tc := ⟨.hbm, 199, rfl⟩
abbrev main_while0b_v179 : Ref sig .tc := ⟨.hbm, 200, rfl⟩
abbrev main_while0b_cst_34 : Ref sig .tc := ⟨.hbm, 201, rfl⟩
abbrev main_while0b_v180 : Ref sig .tc := ⟨.hbm, 202, rfl⟩
abbrev main_while0b_v181 : Ref sig .tc := ⟨.hbm, 203, rfl⟩
abbrev main_while0b_v182 : Ref sig .tc := ⟨.hbm, 204, rfl⟩
abbrev main_while0b_v183 : Ref sig .tc := ⟨.hbm, 205, rfl⟩
abbrev main_while0b_call4_v0 : Ref sig .tc := ⟨.hbm, 206, rfl⟩
abbrev main_while0b_call4_c : Ref sig .tc := ⟨.hbm, 207, rfl⟩
abbrev main_while0b_call4_c_0 : Ref sig .tc := ⟨.hbm, 208, rfl⟩
abbrev main_while0b_v184 : Ref sig .tc := ⟨.hbm, 209, rfl⟩
abbrev main_while0b_c_35 : Ref sig .tc := ⟨.hbm, 210, rfl⟩
abbrev main_while0b_v185 : Ref sig .tc := ⟨.hbm, 211, rfl⟩
abbrev main_cst_11 : Ref sig .tc := ⟨.hbm, 212, rfl⟩
abbrev main_v104 : Ref sig .tc := ⟨.hbm, 213, rfl⟩
abbrev main_c_12 : Ref sig .tc := ⟨.hbm, 214, rfl⟩
abbrev main_v105_0 : Ref sig .tc := ⟨.hbm, 215, rfl⟩
abbrev main_v105_1 : Ref sig .tc := ⟨.hbm, 216, rfl⟩
abbrev main_v105_2 : Ref sig .tc := ⟨.hbm, 217, rfl⟩
abbrev main_v105_3 : Ref sig .tc := ⟨.hbm, 218, rfl⟩
abbrev main_v105_4 : Ref sig .tc := ⟨.hbm, 219, rfl⟩
abbrev main_v105_5 : Ref sig .tc := ⟨.hbm, 220, rfl⟩
abbrev main_v105_6 : Ref sig .tc := ⟨.hbm, 221, rfl⟩
abbrev main_v105_7 : Ref sig .tc := ⟨.hbm, 222, rfl⟩
abbrev main_v105_8 : Ref sig .tc := ⟨.hbm, 223, rfl⟩
abbrev main_while1c_c_29 : Ref sig .tc := ⟨.hbm, 224, rfl⟩
abbrev main_while1c_v144 : Ref sig .tc := ⟨.hbm, 225, rfl⟩
abbrev main_while1b_call5_c : Ref sig .tc := ⟨.hbm, 226, rfl⟩
abbrev main_while1b_call5_c_0 : Ref sig .tc := ⟨.hbm, 227, rfl⟩
abbrev main_while1b_call5_v0 : Ref sig .tc := ⟨.hbm, 228, rfl⟩
abbrev main_while1b_v144 : Ref sig .tc := ⟨.hbm, 229, rfl⟩
abbrev main_while1b_v145 : Ref sig .tc := ⟨.hbm, 230, rfl⟩
abbrev main_while1b_v146 : Ref sig .tc := ⟨.hbm, 231, rfl⟩
abbrev main_while1b_v147 : Ref sig .tc := ⟨.hbm, 232, rfl⟩
abbrev main_while1b_v148 : Ref sig .tc := ⟨.hbm, 233, rfl⟩
abbrev main_while1b_v149 : Ref sig .tc := ⟨.hbm, 234, rfl⟩
abbrev main_while1b_v150 : Ref sig .tc := ⟨.hbm, 235, rfl⟩
abbrev main_while1b_v151 : Ref sig .tc := ⟨.hbm, 236, rfl⟩
abbrev main_while1b_v152 : Ref sig .tc := ⟨.hbm, 237, rfl⟩
abbrev main_while1b_v153 : Ref sig .tc := ⟨.hbm, 238, rfl⟩
abbrev main_while1b_v154 : Ref sig .tc := ⟨.hbm, 239, rfl⟩
abbrev main_while1b_v155 : Ref sig .tc := ⟨.hbm, 240, rfl⟩
abbrev main_while1b_v156 : Ref sig .tc := ⟨.hbm, 241, rfl⟩
abbrev main_while1b_v157 : Ref sig .tc := ⟨.hbm, 242, rfl⟩
abbrev main_while1b_v158 : Ref sig .tc := ⟨.hbm, 243, rfl⟩
abbrev main_while1b_v159 : Ref sig .tc := ⟨.hbm, 244, rfl⟩
abbrev main_while1b_v160 : Ref sig .tc := ⟨.hbm, 245, rfl⟩
abbrev main_while1b_v161 : Ref sig .tc := ⟨.hbm, 246, rfl⟩
abbrev main_while1b_cst_29 : Ref sig .tc := ⟨.hbm, 247, rfl⟩
abbrev main_while1b_v162 : Ref sig .tc := ⟨.hbm, 248, rfl⟩
abbrev main_while1b_v163 : Ref sig .tc := ⟨.hbm, 249, rfl⟩
abbrev main_while1b_cst_30 : Ref sig .tc := ⟨.hbm, 250, rfl⟩
abbrev main_while1b_v164 : Ref sig .tc := ⟨.hbm, 251, rfl⟩
abbrev main_while1b_v165 : Ref sig .tc := ⟨.hbm, 252, rfl⟩
abbrev main_while1b_v166 : Ref sig .tc := ⟨.hbm, 253, rfl⟩
abbrev main_while1b_v167 : Ref sig .tc := ⟨.hbm, 254, rfl⟩
abbrev main_while1b_v168 : Ref sig .tc := ⟨.hbm, 255, rfl⟩
abbrev main_while1b_cst_31 : Ref sig .tc := ⟨.hbm, 256, rfl⟩
abbrev main_while1b_v169 : Ref sig .tc := ⟨.hbm, 257, rfl⟩
abbrev main_while1b_v170 : Ref sig .tc := ⟨.hbm, 258, rfl⟩
abbrev main_while1b_cst_32 : Ref sig .tc := ⟨.hbm, 259, rfl⟩
abbrev main_while1b_v171 : Ref sig .tc := ⟨.hbm, 260, rfl⟩
abbrev main_while1b_v172 : Ref sig .tc := ⟨.hbm, 261, rfl⟩
abbrev main_while1b_v173 : Ref sig .tc := ⟨.hbm, 262, rfl⟩
abbrev main_while1b_v174 : Ref sig .tc := ⟨.hbm, 263, rfl⟩
abbrev main_while1b_v175 : Ref sig .tc := ⟨.hbm, 264, rfl⟩
abbrev main_while1b_v176 : Ref sig .tc := ⟨.hbm, 265, rfl⟩
abbrev main_while1b_v177 : Ref sig .tc := ⟨.hbm, 266, rfl⟩
abbrev main_while1b_cst_33 : Ref sig .tc := ⟨.hbm, 267, rfl⟩
abbrev main_while1b_v178 : Ref sig .tc := ⟨.hbm, 268, rfl⟩
abbrev main_while1b_v179 : Ref sig .tc := ⟨.hbm, 269, rfl⟩
abbrev main_while1b_cst_34 : Ref sig .tc := ⟨.hbm, 270, rfl⟩
abbrev main_while1b_v180 : Ref sig .tc := ⟨.hbm, 271, rfl⟩
abbrev main_while1b_v181 : Ref sig .tc := ⟨.hbm, 272, rfl⟩
abbrev main_while1b_v182 : Ref sig .tc := ⟨.hbm, 273, rfl⟩
abbrev main_while1b_v183 : Ref sig .tc := ⟨.hbm, 274, rfl⟩
abbrev main_while1b_call6_v0 : Ref sig .tc := ⟨.hbm, 275, rfl⟩
abbrev main_while1b_call6_c : Ref sig .tc := ⟨.hbm, 276, rfl⟩
abbrev main_while1b_call6_c_0 : Ref sig .tc := ⟨.hbm, 277, rfl⟩
abbrev main_while1b_v184 : Ref sig .tc := ⟨.hbm, 278, rfl⟩
abbrev main_while1b_c_35 : Ref sig .tc := ⟨.hbm, 279, rfl⟩
abbrev main_while1b_v185 : Ref sig .tc := ⟨.hbm, 280, rfl⟩
abbrev main_v106 : Ref sig .tc := ⟨.hbm, 281, rfl⟩
abbrev main_v107 : Ref sig .tc := ⟨.hbm, 282, rfl⟩
abbrev main_v108 : Ref sig .tc := ⟨.hbm, 283, rfl⟩
abbrev main_v109 : Ref sig .tc := ⟨.hbm, 284, rfl⟩
abbrev main_v110 : Ref sig .tc := ⟨.hbm, 285, rfl⟩
abbrev main_v111 : Ref sig .tc := ⟨.hbm, 286, rfl⟩
abbrev main_cst_13 : Ref sig .tc := ⟨.hbm, 287, rfl⟩
abbrev main_v112 : Ref sig .tc := ⟨.hbm, 288, rfl⟩
abbrev main_v113 : Ref sig .tc := ⟨.hbm, 289, rfl⟩
abbrev main_v114 : Ref sig .tc := ⟨.hbm, 290, rfl⟩
abbrev main_v115 : Ref sig .tc := ⟨.hbm, 291, rfl⟩
abbrev main_v116 : Ref sig .tc := ⟨.hbm, 292, rfl⟩
abbrev main_v117 : Ref sig .tc := ⟨.hbm, 293, rfl⟩
abbrev main_v118 : Ref sig .tc := ⟨.hbm, 294, rfl⟩
abbrev main_v119 : Ref sig .tc := ⟨.hbm, 295, rfl⟩
abbrev main_v120 : Ref sig .tc := ⟨.hbm, 296, rfl⟩
abbrev main_cst_14 : Ref sig .tc := ⟨.hbm, 297, rfl⟩
abbrev main_v121 : Ref sig .tc := ⟨.hbm, 298, rfl⟩
abbrev main_cst_15 : Ref sig .tc := ⟨.hbm, 299, rfl⟩
abbrev main_v122 : Ref sig .tc := ⟨.hbm, 300, rfl⟩
abbrev main_c_16 : Ref sig .tc := ⟨.hbm, 301, rfl⟩
abbrev main_v123_0 : Ref sig .tc := ⟨.hbm, 302, rfl⟩
abbrev main_v123_1 : Ref sig .tc := ⟨.hbm, 303, rfl⟩
abbrev main_v123_2 : Ref sig .tc := ⟨.hbm, 304, rfl⟩
abbrev main_v123_3 : Ref sig .tc := ⟨.hbm, 305, rfl⟩
abbrev main_v123_4 : Ref sig .tc := ⟨.hbm, 306, rfl⟩
abbrev main_v123_5 : Ref sig .tc := ⟨.hbm, 307, rfl⟩
abbrev main_v123_6 : Ref sig .tc := ⟨.hbm, 308, rfl⟩
abbrev main_v123_7 : Ref sig .tc := ⟨.hbm, 309, rfl⟩
abbrev main_v123_8 : Ref sig .tc := ⟨.hbm, 310, rfl⟩
abbrev main_while2c_c_29 : Ref sig .tc := ⟨.hbm, 311, rfl⟩
abbrev main_while2c_v144 : Ref sig .tc := ⟨.hbm, 312, rfl⟩
abbrev main_while2b_call7_c : Ref sig .tc := ⟨.hbm, 313, rfl⟩
abbrev main_while2b_call7_c_0 : Ref sig .tc := ⟨.hbm, 314, rfl⟩
abbrev main_while2b_call7_v0 : Ref sig .tc := ⟨.hbm, 315, rfl⟩
abbrev main_while2b_v144 : Ref sig .tc := ⟨.hbm, 316, rfl⟩
abbrev main_while2b_v145 : Ref sig .tc := ⟨.hbm, 317, rfl⟩
abbrev main_while2b_v146 : Ref sig .tc := ⟨.hbm, 318, rfl⟩
abbrev main_while2b_v147 : Ref sig .tc := ⟨.hbm, 319, rfl⟩
abbrev main_while2b_v148 : Ref sig .tc := ⟨.hbm, 320, rfl⟩
abbrev main_while2b_v149 : Ref sig .tc := ⟨.hbm, 321, rfl⟩
abbrev main_while2b_v150 : Ref sig .tc := ⟨.hbm, 322, rfl⟩
abbrev main_while2b_v151 : Ref sig .tc := ⟨.hbm, 323, rfl⟩
abbrev main_while2b_v152 : Ref sig .tc := ⟨.hbm, 324, rfl⟩
abbrev main_while2b_v153 : Ref sig .tc := ⟨.hbm, 325, rfl⟩
abbrev main_while2b_v154 : Ref sig .tc := ⟨.hbm, 326, rfl⟩
abbrev main_while2b_v155 : Ref sig .tc := ⟨.hbm, 327, rfl⟩
abbrev main_while2b_v156 : Ref sig .tc := ⟨.hbm, 328, rfl⟩
abbrev main_while2b_v157 : Ref sig .tc := ⟨.hbm, 329, rfl⟩
abbrev main_while2b_v158 : Ref sig .tc := ⟨.hbm, 330, rfl⟩
abbrev main_while2b_v159 : Ref sig .tc := ⟨.hbm, 331, rfl⟩
abbrev main_while2b_v160 : Ref sig .tc := ⟨.hbm, 332, rfl⟩
abbrev main_while2b_v161 : Ref sig .tc := ⟨.hbm, 333, rfl⟩
abbrev main_while2b_cst_29 : Ref sig .tc := ⟨.hbm, 334, rfl⟩
abbrev main_while2b_v162 : Ref sig .tc := ⟨.hbm, 335, rfl⟩
abbrev main_while2b_v163 : Ref sig .tc := ⟨.hbm, 336, rfl⟩
abbrev main_while2b_cst_30 : Ref sig .tc := ⟨.hbm, 337, rfl⟩
abbrev main_while2b_v164 : Ref sig .tc := ⟨.hbm, 338, rfl⟩
abbrev main_while2b_v165 : Ref sig .tc := ⟨.hbm, 339, rfl⟩
abbrev main_while2b_v166 : Ref sig .tc := ⟨.hbm, 340, rfl⟩
abbrev main_while2b_v167 : Ref sig .tc := ⟨.hbm, 341, rfl⟩
abbrev main_while2b_v168 : Ref sig .tc := ⟨.hbm, 342, rfl⟩
abbrev main_while2b_cst_31 : Ref sig .tc := ⟨.hbm, 343, rfl⟩
abbrev main_while2b_v169 : Ref sig .tc := ⟨.hbm, 344, rfl⟩
abbrev main_while2b_v170 : Ref sig .tc := ⟨.hbm, 345, rfl⟩
abbrev main_while2b_cst_32 : Ref sig .tc := ⟨.hbm, 346, rfl⟩
abbrev main_while2b_v171 : Ref sig .tc := ⟨.hbm, 347, rfl⟩
abbrev main_while2b_v172 : Ref sig .tc := ⟨.hbm, 348, rfl⟩
abbrev main_while2b_v173 : Ref sig .tc := ⟨.hbm, 349, rfl⟩
abbrev main_while2b_v174 : Ref sig .tc := ⟨.hbm, 350, rfl⟩
abbrev main_while2b_v175 : Ref sig .tc := ⟨.hbm, 351, rfl⟩
abbrev main_while2b_v176 : Ref sig .tc := ⟨.hbm, 352, rfl⟩
abbrev main_while2b_v177 : Ref sig .tc := ⟨.hbm, 353, rfl⟩
abbrev main_while2b_cst_33 : Ref sig .tc := ⟨.hbm, 354, rfl⟩
abbrev main_while2b_v178 : Ref sig .tc := ⟨.hbm, 355, rfl⟩
abbrev main_while2b_v179 : Ref sig .tc := ⟨.hbm, 356, rfl⟩
abbrev main_while2b_cst_34 : Ref sig .tc := ⟨.hbm, 357, rfl⟩
abbrev main_while2b_v180 : Ref sig .tc := ⟨.hbm, 358, rfl⟩
abbrev main_while2b_v181 : Ref sig .tc := ⟨.hbm, 359, rfl⟩
abbrev main_while2b_v182 : Ref sig .tc := ⟨.hbm, 360, rfl⟩
abbrev main_while2b_v183 : Ref sig .tc := ⟨.hbm, 361, rfl⟩
abbrev main_while2b_call8_v0 : Ref sig .tc := ⟨.hbm, 362, rfl⟩
abbrev main_while2b_call8_c : Ref sig .tc := ⟨.hbm, 363, rfl⟩
abbrev main_while2b_call8_c_0 : Ref sig .tc := ⟨.hbm, 364, rfl⟩
abbrev main_while2b_v184 : Ref sig .tc := ⟨.hbm, 365, rfl⟩
abbrev main_while2b_c_35 : Ref sig .tc := ⟨.hbm, 366, rfl⟩
abbrev main_while2b_v185 : Ref sig .tc := ⟨.hbm, 367, rfl⟩
abbrev main_cst_17 : Ref sig .tc := ⟨.hbm, 368, rfl⟩
abbrev main_v124 : Ref sig .tc := ⟨.hbm, 369, rfl⟩
abbrev main_c_18 : Ref sig .tc := ⟨.hbm, 370, rfl⟩
abbrev main_v125_0 : Ref sig .tc := ⟨.hbm, 371, rfl⟩
abbrev main_v125_1 : Ref sig .tc := ⟨.hbm, 372, rfl⟩
abbrev main_v125_2 : Ref sig .tc := ⟨.hbm, 373, rfl⟩
abbrev main_v125_3 : Ref sig .tc := ⟨.hbm, 374, rfl⟩
abbrev main_v125_4 : Ref sig .tc := ⟨.hbm, 375, rfl⟩
abbrev main_v125_5 : Ref sig .tc := ⟨.hbm, 376, rfl⟩
abbrev main_v125_6 : Ref sig .tc := ⟨.hbm, 377, rfl⟩
abbrev main_v125_7 : Ref sig .tc := ⟨.hbm, 378, rfl⟩
abbrev main_v125_8 : Ref sig .tc := ⟨.hbm, 379, rfl⟩
abbrev main_while3c_c_29 : Ref sig .tc := ⟨.hbm, 380, rfl⟩
abbrev main_while3c_v144 : Ref sig .tc := ⟨.hbm, 381, rfl⟩
abbrev main_while3b_call9_c : Ref sig .tc := ⟨.hbm, 382, rfl⟩
abbrev main_while3b_call9_c_0 : Ref sig .tc := ⟨.hbm, 383, rfl⟩
abbrev main_while3b_call9_v0 : Ref sig .tc := ⟨.hbm, 384, rfl⟩
abbrev main_while3b_v144 : Ref sig .tc := ⟨.hbm, 385, rfl⟩
abbrev main_while3b_v145 : Ref sig .tc := ⟨.hbm, 386, rfl⟩
abbrev main_while3b_v146 : Ref sig .tc := ⟨.hbm, 387, rfl⟩
abbrev main_while3b_v147 : Ref sig .tc := ⟨.hbm, 388, rfl⟩
abbrev main_while3b_v148 : Ref sig .tc := ⟨.hbm, 389, rfl⟩
abbrev main_while3b_v149 : Ref sig .tc := ⟨.hbm, 390, rfl⟩
abbrev main_while3b_v150 : Ref sig .tc := ⟨.hbm, 391, rfl⟩
abbrev main_while3b_v151 : Ref sig .tc := ⟨.hbm, 392, rfl⟩
abbrev main_while3b_v152 : Ref sig .tc := ⟨.hbm, 393, rfl⟩
abbrev main_while3b_v153 : Ref sig .tc := ⟨.hbm, 394, rfl⟩
abbrev main_while3b_v154 : Ref sig .tc := ⟨.hbm, 395, rfl⟩
abbrev main_while3b_v155 : Ref sig .tc := ⟨.hbm, 396, rfl⟩
abbrev main_while3b_v156 : Ref sig .tc := ⟨.hbm, 397, rfl⟩
abbrev main_while3b_v157 : Ref sig .tc := ⟨.hbm, 398, rfl⟩
abbrev main_while3b_v158 : Ref sig .tc := ⟨.hbm, 399, rfl⟩
abbrev main_while3b_v159 : Ref sig .tc := ⟨.hbm, 400, rfl⟩
abbrev main_while3b_v160 : Ref sig .tc := ⟨.hbm, 401, rfl⟩
abbrev main_while3b_v161 : Ref sig .tc := ⟨.hbm, 402, rfl⟩
abbrev main_while3b_cst_29 : Ref sig .tc := ⟨.hbm, 403, rfl⟩
abbrev main_while3b_v162 : Ref sig .tc := ⟨.hbm, 404, rfl⟩
abbrev main_while3b_v163 : Ref sig .tc := ⟨.hbm, 405, rfl⟩
abbrev main_while3b_cst_30 : Ref sig .tc := ⟨.hbm, 406, rfl⟩
abbrev main_while3b_v164 : Ref sig .tc := ⟨.hbm, 407, rfl⟩
abbrev main_while3b_v165 : Ref sig .tc := ⟨.hbm, 408, rfl⟩
abbrev main_while3b_v166 : Ref sig .tc := ⟨.hbm, 409, rfl⟩
abbrev main_while3b_v167 : Ref sig .tc := ⟨.hbm, 410, rfl⟩
abbrev main_while3b_v168 : Ref sig .tc := ⟨.hbm, 411, rfl⟩
abbrev main_while3b_cst_31 : Ref sig .tc := ⟨.hbm, 412, rfl⟩
abbrev main_while3b_v169 : Ref sig .tc := ⟨.hbm, 413, rfl⟩
abbrev main_while3b_v170 : Ref sig .tc := ⟨.hbm, 414, rfl⟩
abbrev main_while3b_cst_32 : Ref sig .tc := ⟨.hbm, 415, rfl⟩
abbrev main_while3b_v171 : Ref sig .tc := ⟨.hbm, 416, rfl⟩
abbrev main_while3b_v172 : Ref sig .tc := ⟨.hbm, 417, rfl⟩
abbrev main_while3b_v173 : Ref sig .tc := ⟨.hbm, 418, rfl⟩
abbrev main_while3b_v174 : Ref sig .tc := ⟨.hbm, 419, rfl⟩
abbrev main_while3b_v175 : Ref sig .tc := ⟨.hbm, 420, rfl⟩
abbrev main_while3b_v176 : Ref sig .tc := ⟨.hbm, 421, rfl⟩
abbrev main_while3b_v177 : Ref sig .tc := ⟨.hbm, 422, rfl⟩
abbrev main_while3b_cst_33 : Ref sig .tc := ⟨.hbm, 423, rfl⟩
abbrev main_while3b_v178 : Ref sig .tc := ⟨.hbm, 424, rfl⟩
abbrev main_while3b_v179 : Ref sig .tc := ⟨.hbm, 425, rfl⟩
abbrev main_while3b_cst_34 : Ref sig .tc := ⟨.hbm, 426, rfl⟩
abbrev main_while3b_v180 : Ref sig .tc := ⟨.hbm, 427, rfl⟩
abbrev main_while3b_v181 : Ref sig .tc := ⟨.hbm, 428, rfl⟩
abbrev main_while3b_v182 : Ref sig .tc := ⟨.hbm, 429, rfl⟩
abbrev main_while3b_v183 : Ref sig .tc := ⟨.hbm, 430, rfl⟩
abbrev main_while3b_call10_v0 : Ref sig .tc := ⟨.hbm, 431, rfl⟩
abbrev main_while3b_call10_c : Ref sig .tc := ⟨.hbm, 432, rfl⟩
abbrev main_while3b_call10_c_0 : Ref sig .tc := ⟨.hbm, 433, rfl⟩
abbrev main_while3b_v184 : Ref sig .tc := ⟨.hbm, 434, rfl⟩
abbrev main_while3b_c_35 : Ref sig .tc := ⟨.hbm, 435, rfl⟩
abbrev main_while3b_v185 : Ref sig .tc := ⟨.hbm, 436, rfl⟩
abbrev main_v126 : Ref sig .tc := ⟨.hbm, 437, rfl⟩
abbrev main_v127 : Ref sig .tc := ⟨.hbm, 438, rfl⟩
abbrev main_v128 : Ref sig .tc := ⟨.hbm, 439, rfl⟩
abbrev main_v129 : Ref sig .tc := ⟨.hbm, 440, rfl⟩
abbrev main_v130 : Ref sig .tc := ⟨.hbm, 441, rfl⟩
abbrev main_v131 : Ref sig .tc := ⟨.hbm, 442, rfl⟩
abbrev main_cst_19 : Ref sig .tc := ⟨.hbm, 443, rfl⟩
abbrev main_v132 : Ref sig .tc := ⟨.hbm, 444, rfl⟩
abbrev main_v133 : Ref sig .tc := ⟨.hbm, 445, rfl⟩
abbrev main_v134 : Ref sig .tc := ⟨.hbm, 446, rfl⟩
abbrev main_v135 : Ref sig .tc := ⟨.hbm, 447, rfl⟩
abbrev main_v136 : Ref sig .tc := ⟨.hbm, 448, rfl⟩
abbrev main_v137 : Ref sig .tc := ⟨.hbm, 449, rfl⟩
abbrev main_v138 : Ref sig .tc := ⟨.hbm, 450, rfl⟩
abbrev main_v139 : Ref sig .tc := ⟨.hbm, 451, rfl⟩
abbrev main_v140 : Ref sig .tc := ⟨.hbm, 452, rfl⟩
abbrev main_v141 : Ref sig .tc := ⟨.hbm, 453, rfl⟩
abbrev main_cst_20 : Ref sig .tc := ⟨.hbm, 454, rfl⟩
abbrev main_v142 : Ref sig .tc := ⟨.hbm, 455, rfl⟩
abbrev main_v143 : Ref sig .tc := ⟨.hbm, 456, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩

abbrev main_while2_count : Scf.Loop 32 := ⟨0#32, 32#32, 1#32⟩

abbrev main_while3_count : Scf.Loop 32 := ⟨0#32, 32#32, 1#32⟩
-- ==== Proof.I.Gather.lean ====
/-
  The gather loop of the first kernel: sixteen rows per trip are picked out of the feature table, each by
  a number read from the index table.  A trip asks that every number it reads lies in the feature table;
  it is run here once, at a symbolic trip, from the hypothesis that every entry of the index table does.
-/
module

public import proofs.«01_k».proof.Proof.Gen.KernelIdeal.Launch
public import proofs.«01_k».proof.Proof.Gen.KernelIdeal.Loops
public import Idealize.ShloMosaic.Lib.Pointwise
public import Idealize.ShloMosaic.Lib.WritesUnit
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline's algebra, the invariant names and the levels every statement of this proof lives over. -/
abbrev UU : Type := UR sig nD τ

local notation "𝕄" => MT nD τ sig Unit (Elt F) ℕ UU ℕ

/-- A row number's block of eight rows lies in the table of 16384 rows, and starts at a multiple of eight. -/
def RowOK (v : BitVec 32) : Prop := v.toNat < 16384

/-- The first row of the block of eight rows that row `v` lies in, as the kernel computes it. -/
theorem base_toNat (v : BitVec 32) (h : RowOK v) :
    (Scalar.shli (Scalar.shrsi v 3#32) 3#32).toNat = v.toNat / 8 * 8 := by
  have hv : v.toNat < 16384 := h
  have hm : v.msb = false := by
    rw [BitVec.msb_eq_decide]; simp only [decide_eq_false_iff_not]; omega
  have e1 : Scalar.shrsi v 3#32 = v >>> 3 := by
    unfold Scalar.shrsi IntOp.shrsi
    rw [if_pos (by decide), BitVec.sshiftRight_eq', BitVec.sshiftRight_eq_of_msb_false hm]; rfl
  have e2 : Scalar.shli (v >>> 3) 3#32 = (v >>> 3) <<< 3 := by
    unfold Scalar.shli IntOp.shli
    rw [if_pos (by decide)]; rfl
  rw [e1, e2, BitVec.toNat_shiftLeft, BitVec.toNat_ushiftRight, Nat.shiftRight_eq_div_pow, Nat.shiftLeft_eq]
  omega

/-- The condition a trip asks of a row number, from the row number's bound. -/
theorem chk_of (v : BitVec 32) (h : RowOK v) : k0_chk1 v := by
  have hb := base_toNat v h
  have hv : v.toNat < 16384 := h
  refine ⟨?_, fun a => ?_⟩
  · show 8 ∣ (Scalar.shli (Scalar.shrsi v 3#32) 3#32).toNat
    rw [hb]; exact Nat.dvd_mul_left _ _
  · match a with
    | ⟨0, _⟩ => show (Scalar.shli (Scalar.shrsi v 3#32) 3#32).toNat + 8 ≤ 16384; omega
    | ⟨1, _⟩ => show 0 + 32 ≤ 32; omega

/-- What one trip holds: the index table and the feature table at their contents, the rows picked so far. -/
abbrev Trip (c : Dev nD) (arg1 : Memref sig .tc .smem S16x1024 .i32) (arg6 : Memref sig .tc .vmem S1x1024x32 .f32) (arg7 : Memref sig .tc .vmem S16384x32 .f32)
    (X1 : BufTy.Contents (Elt F) arg1.view.ty) (X7 : BufTy.Contents (Elt F) arg7.view.ty) (f6 : BufTy.Contents (Elt F) arg6.view.ty) : sProp 𝕄 :=
  iprop((arg1.view.loc (c : Thread nD τ) ↦[arg1.view.set]{fullShare} X1) ∗ (arg7.view.loc (c : Thread nD τ) ↦[arg7.view.set]{fullShare} X7)
    ∗ (arg6.view.loc (c : Thread nD τ) ↦[arg6.view.set]{fullShare} f6))

/-- One trip, run at a symbolic trip number: the pieces it writes are the run's own find. -/
@[irreducible] def trip (c : Dev nD) (i : grid0.Coords) (arg1 : Memref sig .tc .smem S16x1024 .i32) (harg1 : arg1.IsWhole) (arg2 : Memref sig .tc .vmem S1x136x136x64 .f32) (harg2 : arg2.IsWhole) (arg3 : Memref sig .tc .vmem S9x64x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x1024x32 .f32) (harg6 : arg6.IsWhole) (arg7 : Memref sig .tc .vmem S16384x32 .f32) (harg7 : arg7.IsWhole) (arg0 : BitVec 32) (v74 : IVec S8x32 32)
    (X1 : BufTy.Contents (Elt F) arg1.view.ty) (X7 : BufTy.Contents (Elt F) arg7.view.ty)
    (hX : ∀ x, RowOK (arg1.view.read (Elt F) X1 x)) (k : Fin k0_t1_loop.trips) :
    { L : List (View.Piece (Elt F) S1x1024x32 .f32) // ∀ (f6 : BufTy.Contents (Elt F) arg6.view.ty),
      Trip c arg1 arg6 arg7 X1 X7 f6
      ⊢ wp frame (wpE (defs₀ (F := F)) Variants.none (c : Thread nD τ) none) Set.univ
          (k0_t1_body (F := F) i arg1 harg1 arg2 harg2 arg3 harg3 arg4 harg4 arg5 harg5 arg6 harg6 arg7 harg7 arg0 v74 k ⟨⟩)
          (fun _ => Trip c arg1 arg6 arg7 X1 X7 (arg6.view.writes (Elt F) f6 L)) } := by
  refine ⟨?_, fun f6 => ?run⟩
  case run =>
    unfold k0_t1_body
    iintro ⟨H1, H7, H6⟩
    sl_exec (disch := (exact chk_of _ (hX _)))
    sl_step
    sl_close

/-- The lane numbers of a block of eight rows. -/
abbrev lanes : IVec S8x32 32 := iota .tc S8x32 32 [0] iota_S8x32_d0_w32

/-- Sixteen rows laid under one another. -/
def cat16 (R : Fin 16 → FVec F S1x32 .f32) : FVec F S1x16x32 .f32 :=
  shapeCast S1x16x32 (concatenate S16x32 0 (List.ofFn fun n : Fin 16 => (⟨S1x32, R n⟩ : (s : Shape) × (s.Idx → Elt F .f32)))
    concatenates_S1x32_S1x32_S1x32_S1x32_S1x32_S1x32_S1x32_S1x32_S1x32_S1x32_S1x32_S1x32_S1x32_S1x32_S1x32_S1x32_S16x32_d0) shapeCasts_S16x32_S1x16x32

/-- Row `j` of the sixteen is the `j`-th. -/
theorem cat16_apply (R : Fin 16 → FVec F S1x32 .f32) (x : S1x16x32.Idx) : cat16 R x = R (x 1) (ix2 0 (x 2)) := by
  obtain ⟨a, j, d, rfl⟩ : ∃ (a : Fin 1) (j : Fin 16) (d : Fin 32), x = ix3 a j d := ⟨x 0, x 1, x 2, Shape.Idx.norm3 x⟩
  have h (C : FVec F S16x32 .f32) : shapeCast S1x16x32 C shapeCasts_S16x32_S1x16x32 (ix3 a j d) = C (ix2 j d) := by
    pointwise
  refine (h _).trans ?_
  exact concatenate_ofFn_unit_apply (t := S16x32) (s₁ := S1x32) 0 R _ rfl rfl (ix2 j d) j rfl (ix2 0 d) fun b hb => by
    match b with
    | ⟨0, _⟩ => exact absurd rfl hb
    | ⟨1, _⟩ => rfl

/-- The eight rows of the feature table that row `w` lies among. -/
def block8 (FE : S16384x32.Idx → Elt F .f32) (w : BitVec 32) : FVec F S8x32 .f32 :=
  fun x => FE (ix2 ⟨(w.toNat / 8 * 8 + (x 0).val) % 16384, Nat.mod_lt _ (by decide)⟩ (x 1))

theorem block8_eq (M : Memref sig .tc .vmem S16384x32 .f32) (X7 : BufTy.Contents (Elt F) M.view.ty) (w : BitVec 32) (hw : RowOK w) (hc : ∀ a, (k0_off2 w) a + S8x32.size a ≤ S16384x32.size a) :
    M.view.readAt (Elt F) (Rect.unit (s := S16384x32) (k0_off2 w) S8x32.size hc).toLoadRect X7 = block8 (M.view.read (Elt F) X7) w := by
  funext x
  have hv : w.toNat < 16384 := hw
  have hx : (x 0).val < 8 := (x 0).isLt
  refine congrArg (M.view.read (Elt F) X7) (funext fun a => Fin.ext ?_)
  match a with
  | ⟨0, _⟩ =>
    show (Scalar.shli (Scalar.shrsi w 3#32) 3#32).toNat + 1 * (x 0).val = (w.toNat / 8 * 8 + (x 0).val) % 16384
    rw [base_toNat w hw]; omega
  | ⟨1, _⟩ => show 0 + 1 * (x 1).val = (x 1).val; omega

/-- The row of the feature table whose number is `w`, as the kernel picks it: its block of eight rows, all but
    one multiplied by zero, added up. -/
def pick (FE : S16384x32.Idx → Elt F .f32) (w : BitVec 32) : FVec F S1x32 .f32 := k0_pay4 lanes w (block8 FE w)

/-- The `j`-th number that trip `k` of grid point `i` reads off the index table. -/
def word (LIN : S16x1024.Idx → BitVec 32) (i : grid0.Coords) (k : Fin k0_t1_loop.trips) (j : Fin 16) : BitVec 32 :=
  LIN (ix2 ⟨(i 0).val % 16, Nat.mod_lt _ (by decide)⟩ ⟨(16 * k.val + j.val) % 1024, Nat.mod_lt _ (by decide)⟩)

theorem word_eq (M : Memref sig .tc .smem S16x1024 .i32) (X1 : BufTy.Contents (Elt F) M.view.ty) (i : grid0.Coords) (k : Fin k0_t1_loop.trips) (j : Fin 16)
    (off : Fin 2 → ℕ) (ho : off = ![(i 0).val, 16 * k.val + j.val]) (hc : ∀ a, off a + S1x1.size a ≤ S16x1024.size a)
    (x : S1x1.Idx) :
    M.view.readAt (Elt F) (Rect.unit (s := S16x1024) off S1x1.size hc).toLoadRect X1 x = word (M.view.read (Elt F) X1) i k j := by
  subst ho
  have h0 := hc 0
  have h1 := hc 1
  have hx0 : (x 0).val < 1 := (x 0).isLt
  have hx1 : (x 1).val < 1 := (x 1).isLt
  change (i 0).val + 1 ≤ 16 at h0
  change 16 * k.val + j.val + 1 ≤ 1024 at h1
  refine congrArg (M.view.read (Elt F) X1) (funext fun a => Fin.ext ?_)
  match a with
  | ⟨0, _⟩ => show (i 0).val + 1 * (x 0).val = (i 0).val % 16; omega
  | ⟨1, _⟩ => show 16 * k.val + j.val + 1 * (x 1).val = (16 * k.val + j.val) % 1024; omega

/-- What a trip writes: sixteen picked rows. -/
def tripPay (LIN : S16x1024.Idx → BitVec 32) (FE : S16384x32.Idx → Elt F .f32) (i : grid0.Coords) (k : Fin k0_t1_loop.trips) : FVec F S1x16x32 .f32 :=
  cat16 fun j => pick FE (word LIN i k j)

/-- One picked row of a trip, as the run spells it. -/
theorem row_eq (M1 : Memref sig .tc .smem S16x1024 .i32) (M7 : Memref sig .tc .vmem S16384x32 .f32) (X1 : BufTy.Contents (Elt F) M1.view.ty) (X7 : BufTy.Contents (Elt F) M7.view.ty)
    (hX : ∀ x, RowOK (M1.view.read (Elt F) X1 x)) (i : grid0.Coords) (k : Fin k0_t1_loop.trips) (j : Fin 16)
    (off : Fin 2 → ℕ) (ho : off = ![(i 0).val, 16 * k.val + j.val]) (hc : ∀ a, off a + S1x1.size a ≤ S16x1024.size a) (x : S1x1.Idx)
    (hw : ∀ a, (k0_off2 (M1.view.readAt (Elt F) (Rect.unit (s := S16x1024) off S1x1.size hc).toLoadRect X1 x)) a + S8x32.size a ≤ S16384x32.size a) :
    k0_pay4 lanes (M1.view.readAt (Elt F) (Rect.unit (s := S16x1024) off S1x1.size hc).toLoadRect X1 x)
        (M7.view.readAt (Elt F) (Rect.unit (s := S16384x32) (k0_off2 (M1.view.readAt (Elt F) (Rect.unit (s := S16x1024) off S1x1.size hc).toLoadRect X1 x)) S8x32.size hw).toLoadRect X7)
      = pick (M7.view.read (Elt F) X7) (word (M1.view.read (Elt F) X1) i k j) := by
  have e := word_eq M1 X1 i k j off ho hc x
  have hr : RowOK (M1.view.readAt (Elt F) (Rect.unit (s := S16x1024) off S1x1.size hc).toLoadRect X1 x) := hX _
  rw [block8_eq M7 X7 _ hr hw, e]
  rfl

/-- A picked row before its eight rows are added up. -/
abbrev addUp (B : FVec F S8x32 .f32) : FVec F S1x32 .f32 :=
  shapeCast S1x32 (multiReduction .add [0] S32 B 0x00000000#32 reduces_S8x32_S32 (.inl rfl) rfl) shapeCasts_S32_S1x32

theorem pay3_eq (a0 a1 a2 a3 a4 a5 a6 a7 a8 a9 a10 a11 a12 a13 : FVec F S1x32 .f32) (b14 b15 : FVec F S8x32 .f32) :
    k0_pay3 a0 a1 a2 a3 a4 a5 a6 a7 a8 a9 a10 a11 a12 a13 b14 b15
      = cat16 ![a0, a1, a2, a3, a4, a5, a6, a7, a8, a9, a10, a11, a12, a13, addUp b14, addUp b15] := rfl

theorem trip_eq (c : Dev nD) (i : grid0.Coords) (arg1 : Memref sig .tc .smem S16x1024 .i32) (harg1 : arg1.IsWhole) (arg2 : Memref sig .tc .vmem S1x136x136x64 .f32) (harg2 : arg2.IsWhole) (arg3 : Memref sig .tc .vmem S9x64x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x1024x32 .f32) (harg6 : arg6.IsWhole) (arg7 : Memref sig .tc .vmem S16384x32 .f32) (harg7 : arg7.IsWhole) (arg0 : BitVec 32)
    (X1 : BufTy.Contents (Elt F) arg1.view.ty) (X7 : BufTy.Contents (Elt F) arg7.view.ty)
    (hX : ∀ x, RowOK (arg1.view.read (Elt F) X1 x)) (k : Fin k0_t1_loop.trips) :
    (trip c i arg1 harg1 arg2 harg2 arg3 harg3 arg4 harg4 arg5 harg5 arg6 harg6 arg7 harg7 arg0 lanes X1 X7 hX k).1
      = [⟨Rect.unit (s := S1x1024x32) (k0_off33 k) S1x16x32.size (k0_off33_inb k), tripPay (arg1.view.read (Elt F) X1) (arg7.view.read (Elt F) X7) i k⟩] := by
  unfold trip
  dsimp only
  rw [pay3_eq]
  refine congrArg (fun P => [(⟨Rect.unit (s := S1x1024x32) (k0_off33 k) S1x16x32.size (k0_off33_inb k), P⟩ : View.Piece (Elt F) S1x1024x32 .f32)])
    (congrArg cat16 (funext fun j => ?_))
  match j with
  | ⟨0, _⟩ => exact row_eq arg1 arg7 X1 X7 hX i k 0 (k0_off1 i k) (k0_off1_eq i k) _ _ _
  | ⟨1, _⟩ => exact row_eq arg1 arg7 X1 X7 hX i k 1 (k0_off3 i k) (k0_off3_eq i k) _ _ _
  | ⟨2, _⟩ => exact row_eq arg1 arg7 X1 X7 hX i k 2 (k0_off5 i k) (k0_off5_eq i k) _ _ _
  | ⟨3, _⟩ => exact row_eq arg1 arg7 X1 X7 hX i k 3 (k0_off7 i k) (k0_off7_eq i k) _ _ _
  | ⟨4, _⟩ => exact row_eq arg1 arg7 X1 X7 hX i k 4 (k0_off9 i k) (k0_off9_eq i k) _ _ _
  | ⟨5, _⟩ => exact row_eq arg1 arg7 X1 X7 hX i k 5 (k0_off11 i k) (k0_off11_eq i k) _ _ _
  | ⟨6, _⟩ => exact row_eq arg1 arg7 X1 X7 hX i k 6 (k0_off13 i k) (k0_off13_eq i k) _ _ _
  | ⟨7, _⟩ => exact row_eq arg1 arg7 X1 X7 hX i k 7 (k0_off15 i k) (k0_off15_eq i k) _ _ _
  | ⟨8, _⟩ => exact row_eq arg1 arg7 X1 X7 hX i k 8 (k0_off17 i k) (k0_off17_eq i k) _ _ _
  | ⟨9, _⟩ => exact row_eq arg1 arg7 X1 X7 hX i k 9 (k0_off19 i k) (k0_off19_eq i k) _ _ _
  | ⟨10, _⟩ => exact row_eq arg1 arg7 X1 X7 hX i k 10 (k0_off21 i k) (k0_off21_eq i k) _ _ _
  | ⟨11, _⟩ => exact row_eq arg1 arg7 X1 X7 hX i k 11 (k0_off23 i k) (k0_off23_eq i k) _ _ _
  | ⟨12, _⟩ => exact row_eq arg1 arg7 X1 X7 hX i k 12 (k0_off25 i k) (k0_off25_eq i k) _ _ _
  | ⟨13, _⟩ => exact row_eq arg1 arg7 X1 X7 hX i k 13 (k0_off27 i k) (k0_off27_eq i k) _ _ _
  | ⟨14, _⟩ => exact row_eq arg1 arg7 X1 X7 hX i k 14 (k0_off29 i k) (k0_off29_eq i k) _ _ _
  | ⟨15, _⟩ => exact row_eq arg1 arg7 X1 X7 hX i k 15 (k0_off31 i k) (k0_off31_eq i k) _ _ _
  | ⟨n + 16, h⟩ => exact absurd h (by omega)

end Cert.Proof.KernelIdeal
-- ==== Proof.I.Body0.lean ====
/-
  The body of the first kernel at one grid point: the convolution fills the feature table, the gather loop
  picks the rows the index table names.  What the output block holds afterwards is a function of the
  four arrays read.
-/
module

public import proofs.«01_k».proof.Proof.I.Gather
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The pieces the first `k` trips have written, newest first. -/
def pieces (LIN : S16x1024.Idx → BitVec 32) (FE : S16384x32.Idx → Elt F .f32) (i : grid0.Coords) : ℕ → List (View.Piece (Elt F) S1x1024x32 .f32)
  | 0 => []
  | k + 1 => if h : k < k0_t1_loop.trips then
      ⟨Rect.unit (s := S1x1024x32) (k0_off33 ⟨k, h⟩) S1x16x32.size (k0_off33_inb ⟨k, h⟩), tripPay LIN FE i ⟨k, h⟩⟩ :: pieces LIN FE i k
    else pieces LIN FE i k

theorem pieces_succ (LIN : S16x1024.Idx → BitVec 32) (FE : S16384x32.Idx → Elt F .f32) (i : grid0.Coords) (k : Fin k0_t1_loop.trips) :
    pieces LIN FE i (k.val + 1)
      = ⟨Rect.unit (s := S1x1024x32) (k0_off33 k) S1x16x32.size (k0_off33_inb k), tripPay LIN FE i k⟩ :: pieces LIN FE i k.val := by
  rw [pieces]; exact dif_pos k.isLt

/-- The rows of the feature table that the index table names for grid point `i`, in order. -/
def gathered (LIN : S16x1024.Idx → BitVec 32) (FE : S16384x32.Idx → Elt F .f32) (i : grid0.Coords) : S1x1024x32.Idx → Elt F .f32 :=
  fun y => pick FE (LIN (ix2 ⟨(i 0).val % 16, Nat.mod_lt _ (by decide)⟩ (y 1))) (ix2 0 (y 2))

theorem trips_eq : k0_t1_loop.trips = 64 := by decide

theorem read_pieces (M : Memref sig .tc .vmem S1x1024x32 .f32) (f : BufTy.Contents (Elt F) M.view.ty) (LIN : S16x1024.Idx → BitVec 32) (FE : S16384x32.Idx → Elt F .f32) (i : grid0.Coords) :
    ∀ (k : ℕ) (y : S1x1024x32.Idx), k ≤ 64 → (y 1).val < 16 * k →
      M.view.read (Elt F) (M.view.writes (Elt F) f (pieces LIN FE i k)) y = gathered LIN FE i y
  | 0, y, _, h => absurd h (by omega)
  | k + 1, y, hk, h => by
    have hk' : k < k0_t1_loop.trips := by rw [trips_eq]; omega
    have hy0 : (y 0).val < 1 := (y 0).isLt
    have hy1 : (y 1).val < 1024 := (y 1).isLt
    have hy2 : (y 2).val < 32 := (y 2).isLt
    rw [pieces_succ LIN FE i ⟨k, hk'⟩]
    by_cases hl : (y 1).val < 16 * k
    · rw [View.read_writes_cons_unit_of_not_mem M.view f _ _ _ y (k0_off33_eq ⟨k, hk'⟩) 1 (Or.inl hl)]
      exact read_pieces M f LIN FE i k y (by omega) hl
    · refine (View.read_writes_cons_unit_of_mem M.view f (k0_off33_inb ⟨k, hk'⟩) (tripPay LIN FE i ⟨k, hk'⟩) (pieces LIN FE i k) y
        (ix3 0 ⟨(y 1).val - 16 * k, by omega⟩ (y 2) : S1x16x32.Idx) (k0_off33_eq ⟨k, hk'⟩) (fun a => by
          match a with
          | ⟨0, _⟩ => show (y 0).val = 0 + 0; omega
          | ⟨1, _⟩ => show (y 1).val = 16 * k + ((y 1).val - 16 * k); omega
          | ⟨2, _⟩ => show (y 2).val = 0 + (y 2).val; omega)).trans ?_
      unfold tripPay
      rw [cat16_apply]
      unfold gathered word
      have e : (⟨(16 * k + ((y 1).val - 16 * k)) % 1024, Nat.mod_lt _ (by decide)⟩ : Fin 1024) = y 1 := Fin.ext (by
        show (16 * k + ((y 1).val - 16 * k)) % 1024 = (y 1).val; omega)
      show pick FE (LIN (ix2 _ (⟨(16 * k + ((y 1).val - 16 * k)) % 1024, Nat.mod_lt _ (by decide)⟩ : Fin 1024))) _ = _
      rw [e]
      rfl

/-- The gather loop's invariant: both tables as they are, the rows picked so far written. -/
abbrev ginv (c : Dev nD) (i : grid0.Coords) (arg1 : Memref sig .tc .smem S16x1024 .i32) (arg6 : Memref sig .tc .vmem S1x1024x32 .f32) (arg7 : Memref sig .tc .vmem S16384x32 .f32)
    (X1 : BufTy.Contents (Elt F) arg1.view.ty) (X7 : BufTy.Contents (Elt F) arg7.view.ty) (G : BufTy.Contents (Elt F) arg6.view.ty) (k : ℕ) : sProp 𝕄 :=
  iprop((arg1.view.loc (c : Thread nD τ) ↦[arg1.view.set]{fullShare} X1) ∗ (arg7.view.loc (c : Thread nD τ) ↦[arg7.view.set]{fullShare} X7)
    ∗ (∃ f, (arg6.view.loc (c : Thread nD τ) ↦[arg6.view.set]{fullShare} f)
        ∗ ⌜f = arg6.view.writes (Elt F) G (pieces (arg1.view.read (Elt F) X1) (arg7.view.read (Elt F) X7) i k)⌝))

set_option warn.classDefReducibility false in
/-- The gather loop by its invariant. -/
@[sl_loop] def gloop (c : Dev nD) (i : grid0.Coords) (arg1 : Memref sig .tc .smem S16x1024 .i32) (harg1 : arg1.IsWhole) (arg2 : Memref sig .tc .vmem S1x136x136x64 .f32) (harg2 : arg2.IsWhole) (arg3 : Memref sig .tc .vmem S9x64x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x1024x32 .f32) (harg6 : arg6.IsWhole) (arg7 : Memref sig .tc .vmem S16384x32 .f32) (harg7 : arg7.IsWhole) (arg0 : BitVec 32)
    (X1 : BufTy.Contents (Elt F) arg1.view.ty) (X7 : BufTy.Contents (Elt F) arg7.view.ty) (G : BufTy.Contents (Elt F) arg6.view.ty)
    (hX : ∀ x, RowOK (arg1.view.read (Elt F) X1 x)) :
    LoopInvTy_k0_t1 (F := F) Unit ℕ UU ℕ Variants.none c none Set.univ i arg1 harg1 arg2 harg2 arg3 harg3 arg4 harg4 arg5 harg5 arg6 harg6 arg7 harg7 arg0 lanes where
  inv k _ := ginv c i arg1 arg6 arg7 X1 X7 G k
  step k acc := by
    iintro ⟨H1, H7, ⟨%f, H6, %h⟩⟩
    iapply (wp_wand_r Idealize.ShloMosaic.frame (wpE (defs₀ (F := F)) Variants.none (c : Thread nD τ) none) Set.univ)
    isplitl [H1 H7 H6]
    · iapply ((trip c i arg1 harg1 arg2 harg2 arg3 harg3 arg4 harg4 arg5 harg5 arg6 harg6 arg7 harg7 arg0 lanes X1 X7 hX k).2 f)
      isplitl [H1]; · iexact H1
      isplitl [H7]; · iexact H7
      iexact H6
    · iintro %yld ⟨H1, H7, H6⟩
      isplitl [H1]; · iexact H1
      isplitl [H7]; · iexact H7
      iexists _; isplitl [H6]; · iexact H6
      ipureintro
      rw [trip_eq, h, pieces_succ, ← View.writes_append]
      rfl

/-- A block of an array at fixed offsets. -/
abbrev sl {s : Shape} {e : EltTy} (r : Rect s) (G : s.Idx → Elt F e) : r.shape.Idx → Elt F e := fun x => G (r.toLoadRect.idx x)

/-- The window of the padded image that tap `(dy, dx)` of the convolution reads, flat in its rows. -/
abbrev tapX (X : S1x136x136x64.Idx → Elt F .f32) (off : Fin 4 → ℕ) (h : ∀ a, off a + S1x128x128x64.size a ≤ S1x136x136x64.size a) : Vec F S1x128x128x64 .f32 :=
  sl (Rect.unit (s := S1x136x136x64) off S1x128x128x64.size h) X

/-- The weights of one tap. -/
abbrev tapW (W : S9x64x64.Idx → Elt F .f32) (off : Fin 3 → ℕ) (h : ∀ a, off a + S1x64x64.size a ≤ S9x64x64.size a) : Vec F S1x64x64 .f32 :=
  sl (Rect.unit (s := S9x64x64) off S1x64x64.size h) W

/-- The feature table: the nine taps added up, biased, clipped at zero, and projected to 32 columns. -/
def feat (X : S1x136x136x64.Idx → Elt F .f32) (W : S9x64x64.Idx → Elt F .f32) (B : S1x64.Idx → Elt F .f32) (W2 : S64x32.Idx → Elt F .f32) : FVec F S16384x32 .f32 :=
  k0_pay1
    (k0_pay22
      (k0_pay21 (tapX X ![0, 0, 0, 0] inb_S1x136x136x64_S1x128x128x64_0_0_0_0) (tapW W ![0, 0, 0] inb_S9x64x64_S1x64x64_0_0_0)
        (tapX X ![0, 0, 1, 0] inb_S1x136x136x64_S1x128x128x64_0_0_1_0) (tapW W ![1, 0, 0] inb_S9x64x64_S1x64x64_1_0_0)
        (tapX X ![0, 0, 2, 0] inb_S1x136x136x64_S1x128x128x64_0_0_2_0) (tapW W ![2, 0, 0] inb_S9x64x64_S1x64x64_2_0_0)
        (tapX X ![0, 1, 0, 0] inb_S1x136x136x64_S1x128x128x64_0_1_0_0) (tapW W ![3, 0, 0] inb_S9x64x64_S1x64x64_3_0_0))
      (tapX X ![0, 1, 1, 0] inb_S1x136x136x64_S1x128x128x64_0_1_1_0) (tapW W ![4, 0, 0] inb_S9x64x64_S1x64x64_4_0_0)
      (tapX X ![0, 1, 2, 0] inb_S1x136x136x64_S1x128x128x64_0_1_2_0) (tapW W ![5, 0, 0] inb_S9x64x64_S1x64x64_5_0_0)
      (tapX X ![0, 2, 0, 0] inb_S1x136x136x64_S1x128x128x64_0_2_0_0) (tapW W ![6, 0, 0] inb_S9x64x64_S1x64x64_6_0_0)
      (tapX X ![0, 2, 1, 0] inb_S1x136x136x64_S1x128x128x64_0_2_1_0) (tapW W ![7, 0, 0] inb_S9x64x64_S1x64x64_7_0_0))
    (tapX X ![0, 2, 2, 0] inb_S1x136x136x64_S1x128x128x64_0_2_2_0) (tapW W ![8, 0, 0] inb_S9x64x64_S1x64x64_8_0_0)
    (sl (Rect.unit (s := S1x64) ![0, 0] S1x64.size inb_S1x64_S1x64_0_0) B)
    (sl (Rect.unit (s := S64x32) ![0, 0] S64x32.size inb_S64x32_S64x32_0_0) W2)

/-- The whole body at one grid point. -/
theorem body0 (c : Dev nD) (i : grid0.Coords) (arg1 : Memref sig .tc .smem S16x1024 .i32) (harg1 : arg1.IsWhole) (arg2 : Memref sig .tc .vmem S1x136x136x64 .f32) (harg2 : arg2.IsWhole) (arg3 : Memref sig .tc .vmem S9x64x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x1024x32 .f32) (harg6 : arg6.IsWhole) (arg7 : Memref sig .tc .vmem S16384x32 .f32) (harg7 : arg7.IsWhole)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (f6 : BufTy.Contents (Elt F) arg6.view.ty) (f7 : BufTy.Contents (Elt F) arg7.view.ty)
    (hX : ∀ x, RowOK (arg1.view.read (Elt F) X1 x)) :
    (iprop((arg1.view.loc (c : Thread nD τ) ↦[arg1.view.set]{fullShare} X1) ∗ (arg2.view.loc (c : Thread nD τ) ↦[arg2.view.set]{fullShare} X2)
      ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} f6)
      ∗ (arg7.view.loc (c : Thread nD τ) ↦[arg7.view.set]{fullShare} f7)) : sProp 𝕄)
      ⊢ wp frame (wpE (defs₀ (F := F)) Variants.none (c : Thread nD τ) none) Set.univ
          (cc0__conv_gather_kernel (F := F) i arg1 harg1 arg2 harg2 arg3 harg3 arg4 harg4 arg5 harg5 arg6 harg6 arg7 harg7)
          (fun _ => iprop((arg1.view.loc (c : Thread nD τ) ↦[arg1.view.set]{fullShare} X1) ∗ (arg2.view.loc (c : Thread nD τ) ↦[arg2.view.set]{fullShare} X2)
            ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} X5)
            ∗ (∃ f, (arg6.view.loc (c : Thread nD τ) ↦[arg6.view.set]{fullShare} f)
                ∗ ⌜arg6.view.read (Elt F) f = gathered (arg1.view.read (Elt F) X1)
                    (feat (arg2.view.read (Elt F) X2) (arg3.view.read (Elt F) X3) (arg4.view.read (Elt F) X4) (arg5.view.read (Elt F) X5)) i⌝)
            ∗ (∃ f, (arg7.view.loc (c : Thread nD τ) ↦[arg7.view.set]{fullShare} f)))) := by
  simp only [cc0__conv_gather_kernel_eq_skeleton]
  unfold cc0__conv_gather_kernel_skel
  iintro ⟨H1, H2, H3, H4, H5, H6, H7⟩
  sl_exec
  sl_step
  isplitl [H1]; · iexact H1
  isplitl [H2]; · iexact H2
  isplitl [H3]; · iexact H3
  isplitl [H4]; · iexact H4
  isplitl [H5]; · iexact H5
  isplitl [H6]
  · iexists _; isplitl [H6]; · iexact H6
    ipureintro
    funext y
    refine (read_pieces arg6 f6 _ _ i 64 y (Nat.le_refl _) (y 1).isLt).trans ?_
    refine congrArg (fun FE => gathered (arg1.view.read (Elt F) X1) FE i y) ?_
    refine (View.read_writes_full arg7.view _ inb_S16384x32_S16384x32_0_0 _ []).trans ?_
    rfl
  · iexists _; iexact H7

end Cert.Proof.KernelIdeal
-- ==== Proof.I.Region0.lean ====
/-
  The first kernel's region: its grid of sixteen points over six windows, the body run at each.
-/
module

public import proofs.«01_k».proof.Proof.I.Body0
public import proofs.«01_k».proof.Proof.Gen.KernelIdeal.Points
public import Idealize.ShloMosaic.Lib.Pipeline.Regions
public import Idealize.ShloMosaic.Lib.Pipeline.Frame
public import Idealize.ShloMosaic.Lib.Pipeline.FrameBody
public import Idealize.ShloMosaic.Lib.Pipeline.RegionsLoop
public import Idealize.ShloMosaic.Lib.Tactic

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (V : (c : Dev nD) → (b : Ref sig .tc) → Buf (Elt F) ((c : Thread nD τ).loc b))

/-- A scratch buffer held whole, seen through the memref that names all of it. -/
theorem whole_pt (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [show (Memref.whole b).view.set = Finset.univ from View.set_whole _]

theorem whole_in (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f) := by
  rw [← whole_pt]

theorem whole_out (c : Dev nD) (b : Ref sig .tc) (f : Buf (Elt F) ((c : Thread nD τ).loc b)) :
    ((Memref.whole b).view.loc (c : Thread nD τ) ↦[(Memref.whole b).view.set]{fullShare} f : sProp 𝕄)
      ⊢ (((c : Thread nD τ).loc b) ↦{fullShare} f) := by
  rw [← whole_pt]

/-- The block of window `w`'s array that the transfers stage at point `t`. -/
abbrev blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data, entered from the valuation `V`: the inputs' buffers keep what was staged, the
    outputs' hold the body's values of it. -/
def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => gathered (blk0 V c 0 t) (feat (blk0 V c 1 t) (blk0 V c 2 t) (blk0 V c 3 t) (blk0 V c 4 t)) (grid0.coords t)
  Φ _ := Pipeline.scopedRest (Ix := Unit) (Name := ℕ) (U := UU) (Lvl := ℕ) (Val := Elt F) spec0 c
  q _ := fullShare
  owed _ := 0

theorem before0_0 (c : Dev nD) (t : Fin cfg0.N) (d : (cfg0.win 0).block.Idx → Elt F (cfg0.win 0).elt) : (dat0 V c).before 0 t d = blk0 V c 0 t :=
  ((dat0 V c).before_in_eq_fetched 0 rfl (fun _ => rfl) (fun _ _ _ => rfl) (fun _ => rfl) t d).trans rfl

theorem before0_1 (c : Dev nD) (t : Fin cfg0.N) (d : (cfg0.win 1).block.Idx → Elt F (cfg0.win 1).elt) : (dat0 V c).before 1 t d = blk0 V c 1 t :=
  ((dat0 V c).before_in_eq_fetched 1 rfl (fun _ => rfl) (fun _ _ _ => rfl) (fun _ => rfl) t d).trans rfl

theorem before0_2 (c : Dev nD) (t : Fin cfg0.N) (d : (cfg0.win 2).block.Idx → Elt F (cfg0.win 2).elt) : (dat0 V c).before 2 t d = blk0 V c 2 t :=
  ((dat0 V c).before_in_eq_fetched 2 rfl (fun _ => rfl) (fun _ _ _ => rfl) (fun _ => rfl) t d).trans rfl

theorem before0_3 (c : Dev nD) (t : Fin cfg0.N) (d : (cfg0.win 3).block.Idx → Elt F (cfg0.win 3).elt) : (dat0 V c).before 3 t d = blk0 V c 3 t :=
  ((dat0 V c).before_in_eq_fetched 3 rfl (fun _ => rfl) (fun _ _ _ => rfl) (fun _ => rfl) t d).trans rfl

theorem before0_4 (c : Dev nD) (t : Fin cfg0.N) (d : (cfg0.win 4).block.Idx → Elt F (cfg0.win 4).elt) : (dat0 V c).before 4 t d = blk0 V c 4 t :=
  ((dat0 V c).before_in_eq_fetched 4 rfl (fun _ => rfl) (fun _ _ _ => rfl) (fun _ => rfl) t d).trans rfl

/-- The body at any point of the grid: the staged blocks and the scratch taken apart, the run applied, its
    post put back together. -/
theorem obligation0 (hlin : ∀ c x, RowOK (V c main_v15 x)) (c : Dev nD) : BodyObligation (dat0 V c) (defs₀ (F := F)) Variants.none () Set.univ := fun t => by
  rw [bigSep_W0, bigSep_W0]
  rw [show (dat0 V c).Φ t.castSucc = Pipeline.scopedRest (Ix := Unit) (Name := ℕ) (U := UU) (Lvl := ℕ) (Val := Elt F) spec0 c from rfl,
    show (dat0 V c).Φ t.succ = Pipeline.scopedRest (Ix := Unit) (Name := ℕ) (U := UU) (Lvl := ℕ) (Val := Elt F) spec0 c from rfl,
    show (dat0 V c).owesAt () t.succ = (dat0 V c).owesAt () t.castSucc from rfl, scopedRest0_eq]
  show _ ⊢ wp frame _ _ (bodyAt0 t) _
  dsimp only [show (cfg0 (F := F)).idle = fun _ _ => false from rfl]
  unfold owns
  iintro ⟨⟨⟨%fs, Hs⟩, R1, R2, R3, R4, R5, R6, R7, R8, R9, R10, R11, R12, R13, R14, R15, R16⟩, Howes, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  rw [before0_0] at e0
  rw [before0_1] at e1
  rw [before0_2] at e2
  rw [before0_3] at e3
  rw [before0_4] at e4
  ihave Hs' := (whole_in c cc0_scratch0 fs) $$ Hs
  iapply (wp_wand_r Idealize.ShloMosaic.frame (wpE (defs₀ (F := F)) Variants.none (c : Thread nD τ) none) Set.univ)
  isplitl [H0 H1 H2 H3 H4 H5 Hs']
  · iapply (body0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _)
       f0 f1 f2 f3 f4 f5 fs (fun x => by rw [e0]; exact hlin c _))
    isplitl [H0]; · iexact H0
    isplitl [H1]; · iexact H1
    isplitl [H2]; · iexact H2
    isplitl [H3]; · iexact H3
    isplitl [H4]; · iexact H4
    isplitl [H5]; · iexact H5
    iexact Hs'
  · iintro %_ ⟨H0, H1, H2, H3, H4, ⟨%g5, H5, %h5⟩, ⟨%gs, Hs'⟩⟩
    ihave Hs := (whole_out c cc0_scratch0 gs) $$ Hs'
    isplitl [Hs R1 R2 R3 R4 R5 R6 R7 R8 R9 R10 R11 R12 R13 R14 R15 R16]
    · isplitl [Hs]; · iexists gs; iexact Hs
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      iexact R16
    isplitl [Howes]; · iexact Howes
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    iexists g5; isplitr; · ipureintro; exact h5.trans (by rw [e0, e1, e2, e3, e4]; rfl)
    iexact H5

/-- No core owes another anything, so no level is assigned. -/
abbrev noLev : GSem nD τ sig → Finset Unit := fun _ => ∅
abbrev noLv : GSem nD τ sig → Unit → ℕ := fun _ _ => 0

/-- The prefetched tables' admissible contents: there is no table. -/
abbrev adm : (p : Fin 2) → (pcfgs (F := F) p).Adm := fun p => (cfgs p).toPCfg_adm

set_option backward.isDefEq.respectTransparency.types false in
/-- Pipeline 0's region over the thread state "every unscoped buffer at the valuation, the core's dues":
    entered from `V`, left at any `Vp` that holds the written arrays and agrees with `V` elsewhere. -/
def reg0 (hlin : ∀ c x, RowOK (V c main_v15 x)) (pdats : (p : Fin 2) → (c : Dev nD) → Dat τ (Elt F) Unit ℕ UU ℕ (cfgs p) c) (hp : ∀ c, pdats 0 c = dat0 V c)
    (Vp : (c : Dev nD) → (b : Ref sig .tc) → Buf (Elt F) ((c : Thread nD τ).loc b))
    (hout5 : ∀ c, Vp c main_v21 = (dat0 V c).arrAt 5 cfg0.N)
    (hne : ∀ c (b : Ref sig .tc), b ≠ main_v21 → Vp c b = V c b) :
    Pipeline.RegionSeg (pcfgs (F := F)) adm pdats () defs₀ Variants.none noLev noLv 0 where
  win := launch0.win.to₀
  block_pos := launch0.block_pos
  stage_whole := launch0.stage_whole
  K := PEmpty
  osem k := k.elim
  ho := Pipeline.OwnSemFacts.none _
  hbody c := by
    rw [hp c]; exact (obligation0 V hlin c).loose
  hwaits := Pipeline.hwaits_of_owed_zero _ _ _ _ noLev noLv 0 fun c _ => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm pdats launch0.win launch0.arr_whole c
      ((pdats 0 c).share_full fun _ => by rw [hp c]; rfl) (V c) fun w => by rw [hp c]; rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat0 V c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, hp c]
    rw [show (dat0 V c).Φ (Fin.last (Pipeline.pin (pcfgs (F := F)) adm 0).N) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      pdats ((pdats 0 c).share_full fun _ => by rw [hp c]; rfl) (V c) (Vp c) ((pdats 0 c).arrAt · cfg0.N)
      (fun w => by
        rw [hp c]
        fin_cases w
        · exact ((dat0 V c).arrAt_in 0 rfl _).trans (hne c (Pipeline.arrRef spec0 0) (by decide)).symm
        · exact ((dat0 V c).arrAt_in 1 rfl _).trans (hne c (Pipeline.arrRef spec0 1) (by decide)).symm
        · exact ((dat0 V c).arrAt_in 2 rfl _).trans (hne c (Pipeline.arrRef spec0 2) (by decide)).symm
        · exact ((dat0 V c).arrAt_in 3 rfl _).trans (hne c (Pipeline.arrRef spec0 3) (by decide)).symm
        · exact ((dat0 V c).arrAt_in 4 rfl _).trans (hne c (Pipeline.arrRef spec0 4) (by decide)).symm
        · exact (hout5 c).symm)
      (fun b hb => hne c b (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    rw [hp c]
    unfold Pipeline.Dat.owesAt Pipeline.owesWithin
    icases HO with ⟨%W, -, HO⟩; iexists W; iexact HO

end Cert.Proof.KernelIdeal
-- ==== Proof.I.Body1.lean ====
/-
  The body of the second kernel: thirty-two steps of the encoder, whose hidden states are kept, then
  thirty-two of the decoder, each giving a block of the output.  Both loops are named here as recursions
  on the pair (hidden state, cell state), and what the outputs hold afterwards is given by them.
-/
module

public import proofs.«01_k».proof.Proof.I.Body0

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- One step of the encoder on (hidden state, cell state), reading row `k` of the sequence. -/
def encStep (X0 : S32x512x32.Idx → Elt F .f32) (X2 : S1x32.Idx → Elt F .f32) (X3 : S32x512.Idx → Elt F .f32) (X4 : S128x512.Idx → Elt F .f32) (X5 : S1x512.Idx → Elt F .f32) (k : Fin k1_t1_loop.trips) (hc : FVec F S512x128 .f32 × FVec F S512x128 .f32) : FVec F S512x128 .f32 × FVec F S512x128 .f32 :=
  (k1_pay4 hc.2 (k1_pay10 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5)) (k1_pay11 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5)) (k1_pay12 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5)) (k1_pay13 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5)),
   k1_pay3 hc.2 (k1_pay10 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5)) (k1_pay11 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5)) (k1_pay12 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5)))

/-- What the encoder stores at step `k`: its new hidden state, as a block. -/
def encOut (X0 : S32x512x32.Idx → Elt F .f32) (X2 : S1x32.Idx → Elt F .f32) (X3 : S32x512.Idx → Elt F .f32) (X4 : S128x512.Idx → Elt F .f32) (X5 : S1x512.Idx → Elt F .f32) (k : Fin k1_t1_loop.trips) (hc : FVec F S512x128 .f32 × FVec F S512x128 .f32) : FVec F S1x512x128 .f32 :=
  k1_pay5 hc.2 (k1_pay10 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5)) (k1_pay11 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5)) (k1_pay12 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5)) (k1_pay13 hc.1 (sl (Rect.unit (s := S32x512x32) (k1_off1 k) S1x512x32.size (k1_off1_inb k)) X0) (sl (Rect.unit (s := S1x32) ![0, 0] S1x32.size inb_S1x32_S1x32_0_0) X2) (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5))

/-- One step of the decoder. -/
def decStep (X15 : S32x512x128.Idx → Elt F .f32) (X6 : S128x512.Idx → Elt F .f32) (X7 : S128x512.Idx → Elt F .f32) (X8 : S1x512.Idx → Elt F .f32) (k : Fin k1_t2_loop.trips) (hc : FVec F S512x128 .f32 × FVec F S512x128 .f32) : FVec F S512x128 .f32 × FVec F S512x128 .f32 :=
  (k1_pay7 hc.2 (k1_pay15 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8)) (k1_pay16 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8)) (k1_pay17 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8)) (k1_pay18 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8)),
   k1_pay6 hc.2 (k1_pay15 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8)) (k1_pay16 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8)) (k1_pay17 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8)))

/-- What the decoder stores at step `k`: the output layers on its new hidden state. -/
def decOut (X15 : S32x512x128.Idx → Elt F .f32) (X6 : S128x512.Idx → Elt F .f32) (X7 : S128x512.Idx → Elt F .f32) (X8 : S1x512.Idx → Elt F .f32) (X9 : S128x64.Idx → Elt F .f32) (X10 : S1x64.Idx → Elt F .f32) (X11 : S64x128.Idx → Elt F .f32) (X12 : S1.Idx → Elt F .f32) (k : Fin k1_t2_loop.trips) (hc : FVec F S512x128 .f32 × FVec F S512x128 .f32) : FVec F S512x128 .f32 :=
  k1_pay8 hc.2 (k1_pay15 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8)) (k1_pay16 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8)) (k1_pay17 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8)) (k1_pay18 hc.1 (sl (Rect.unit (s := S32x512x128) (k1_off3 k) S1x512x128.size (k1_off3_inb k)) X15) (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8))
    (sl (Rect.unit (s := S128x64) ![0, 0] S128x64.size inb_S128x64_S128x64_0_0) X9) (sl (Rect.unit (s := S1x64) ![0, 0] S1x64.size inb_S1x64_S1x64_0_0) X10) (sl (Rect.unit (s := S64x128) ![0, 0] S64x128.size inb_S64x128_S64x128_0_0) X11) ((sl (Rect.unit (s := S1) ![0] S1.size inb_S1_S1_0) X12) (Shape.Idx.first (numel1_S1.symm ▸ Nat.one_pos)))

theorem trips1_eq : k1_t1_loop.trips = 32 := by decide

theorem trips2_eq : k1_t2_loop.trips = 32 := by decide

/-- The encoder's state after `k` steps. -/
def encSt (X0 : S32x512x32.Idx → Elt F .f32) (X2 : S1x32.Idx → Elt F .f32) (X3 : S32x512.Idx → Elt F .f32) (X4 : S128x512.Idx → Elt F .f32) (X5 : S1x512.Idx → Elt F .f32) : ℕ → FVec F S512x128 .f32 × FVec F S512x128 .f32
  | 0 => (k1_pay2, k1_pay2)
  | k + 1 => if h : k < k1_t1_loop.trips then encStep X0 X2 X3 X4 X5 ⟨k, h⟩ (encSt X0 X2 X3 X4 X5 k) else encSt X0 X2 X3 X4 X5 k

/-- The decoder's state after `k` steps. -/
def decSt (X15 : S32x512x128.Idx → Elt F .f32) (X6 : S128x512.Idx → Elt F .f32) (X7 : S128x512.Idx → Elt F .f32) (X8 : S1x512.Idx → Elt F .f32) (hc : FVec F S512x128 .f32 × FVec F S512x128 .f32) : ℕ → FVec F S512x128 .f32 × FVec F S512x128 .f32
  | 0 => hc
  | k + 1 => if h : k < k1_t2_loop.trips then decStep X15 X6 X7 X8 ⟨k, h⟩ (decSt X15 X6 X7 X8 hc k) else decSt X15 X6 X7 X8 hc k

/-- The blocks the encoder's first `k` steps have stored, newest first. -/
def encPieces (X0 : S32x512x32.Idx → Elt F .f32) (X2 : S1x32.Idx → Elt F .f32) (X3 : S32x512.Idx → Elt F .f32) (X4 : S128x512.Idx → Elt F .f32) (X5 : S1x512.Idx → Elt F .f32) : ℕ → List (View.Piece (Elt F) S32x512x128 .f32)
  | 0 => []
  | k + 1 => if h : k < k1_t1_loop.trips then ⟨Rect.unit (s := S32x512x128) (k1_off2 ⟨k, h⟩) S1x512x128.size (k1_off2_inb ⟨k, h⟩), encOut X0 X2 X3 X4 X5 ⟨k, h⟩ (encSt X0 X2 X3 X4 X5 k)⟩ :: encPieces X0 X2 X3 X4 X5 k else encPieces X0 X2 X3 X4 X5 k

/-- The blocks the decoder's first `k` steps have stored, newest first. -/
def decPieces (X15 : S32x512x128.Idx → Elt F .f32) (X6 : S128x512.Idx → Elt F .f32) (X7 : S128x512.Idx → Elt F .f32) (X8 : S1x512.Idx → Elt F .f32) (X9 : S128x64.Idx → Elt F .f32) (X10 : S1x64.Idx → Elt F .f32) (X11 : S64x128.Idx → Elt F .f32) (X12 : S1.Idx → Elt F .f32) (hc : FVec F S512x128 .f32 × FVec F S512x128 .f32) : ℕ → List (View.Piece (Elt F) S16384x128 .f32)
  | 0 => []
  | k + 1 => if h : k < k1_t2_loop.trips then ⟨Rect.unit (s := S16384x128) (k1_off4 ⟨k, h⟩) S512x128.size (k1_off4_inb ⟨k, h⟩), decOut X15 X6 X7 X8 X9 X10 X11 X12 ⟨k, h⟩ (decSt X15 X6 X7 X8 hc k)⟩ :: decPieces X15 X6 X7 X8 X9 X10 X11 X12 hc k else decPieces X15 X6 X7 X8 X9 X10 X11 X12 hc k

theorem encSt_succ (X0 : S32x512x32.Idx → Elt F .f32) (X2 : S1x32.Idx → Elt F .f32) (X3 : S32x512.Idx → Elt F .f32) (X4 : S128x512.Idx → Elt F .f32) (X5 : S1x512.Idx → Elt F .f32) (k : Fin k1_t1_loop.trips) : encSt X0 X2 X3 X4 X5 (k.val + 1) = encStep X0 X2 X3 X4 X5 k (encSt X0 X2 X3 X4 X5 k.val) := by
  rw [encSt]; exact dif_pos k.isLt

theorem decSt_succ (X15 : S32x512x128.Idx → Elt F .f32) (X6 : S128x512.Idx → Elt F .f32) (X7 : S128x512.Idx → Elt F .f32) (X8 : S1x512.Idx → Elt F .f32) (hc : FVec F S512x128 .f32 × FVec F S512x128 .f32) (k : Fin k1_t2_loop.trips) : decSt X15 X6 X7 X8 hc (k.val + 1) = decStep X15 X6 X7 X8 k (decSt X15 X6 X7 X8 hc k.val) := by
  rw [decSt]; exact dif_pos k.isLt

theorem encPieces_succ (X0 : S32x512x32.Idx → Elt F .f32) (X2 : S1x32.Idx → Elt F .f32) (X3 : S32x512.Idx → Elt F .f32) (X4 : S128x512.Idx → Elt F .f32) (X5 : S1x512.Idx → Elt F .f32) (k : Fin k1_t1_loop.trips) :
    encPieces X0 X2 X3 X4 X5 (k.val + 1) = ⟨Rect.unit (s := S32x512x128) (k1_off2 k) S1x512x128.size (k1_off2_inb k), encOut X0 X2 X3 X4 X5 k (encSt X0 X2 X3 X4 X5 k.val)⟩ :: encPieces X0 X2 X3 X4 X5 k.val := by
  rw [encPieces]; exact dif_pos k.isLt

theorem decPieces_succ (X15 : S32x512x128.Idx → Elt F .f32) (X6 : S128x512.Idx → Elt F .f32) (X7 : S128x512.Idx → Elt F .f32) (X8 : S1x512.Idx → Elt F .f32) (X9 : S128x64.Idx → Elt F .f32) (X10 : S1x64.Idx → Elt F .f32) (X11 : S64x128.Idx → Elt F .f32) (X12 : S1.Idx → Elt F .f32) (hc : FVec F S512x128 .f32 × FVec F S512x128 .f32) (k : Fin k1_t2_loop.trips) :
    decPieces X15 X6 X7 X8 X9 X10 X11 X12 hc (k.val + 1) = ⟨Rect.unit (s := S16384x128) (k1_off4 k) S512x128.size (k1_off4_inb k), decOut X15 X6 X7 X8 X9 X10 X11 X12 k (decSt X15 X6 X7 X8 hc k.val)⟩ :: decPieces X15 X6 X7 X8 X9 X10 X11 X12 hc k.val := by
  rw [decPieces]; exact dif_pos k.isLt

section
variable (c : Dev nD) (arg0 : Memref sig .tc .vmem S32x512x32 .f32) (harg0 : arg0.IsWhole) (arg1 : Memref sig .tc .vmem S16x1024 .i32) (harg1 : arg1.IsWhole) (arg2 : Memref sig .tc .vmem S1x32 .f32) (harg2 : arg2.IsWhole) (arg3 : Memref sig .tc .vmem S32x512 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S1x512 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .smem S1 .f32) (harg12 : arg12.IsWhole) (arg13 : Memref sig .tc .vmem S16384x128 .f32) (harg13 : arg13.IsWhole) (arg14 : Memref sig .tc .vmem S16x1024 .f32) (harg14 : arg14.IsWhole) (arg15 : Memref sig .tc .vmem S32x512x128 .f32) (harg15 : arg15.IsWhole)

theorem trip1_R (X0 : BufTy.Contents (Elt F) arg0.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k1_t1_loop.trips) (hc : FVec F S512x128 .f32 × FVec F S512x128 .f32) :
    (trip_k1_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X2 X3 X4 X5 k).1 hc = encStep (arg0.view.read (Elt F) X0) (arg2.view.read (Elt F) X2) (arg3.view.read (Elt F) X3) (arg4.view.read (Elt F) X4) (arg5.view.read (Elt F) X5) k hc := by
  unfold trip_k1_t1; rfl

theorem trip1_L (X0 : BufTy.Contents (Elt F) arg0.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k1_t1_loop.trips) (hc : FVec F S512x128 .f32 × FVec F S512x128 .f32) :
    (trip_k1_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X2 X3 X4 X5 k).2.1 hc = [⟨Rect.unit (s := S32x512x128) (k1_off2 k) S1x512x128.size (k1_off2_inb k), encOut (arg0.view.read (Elt F) X0) (arg2.view.read (Elt F) X2) (arg3.view.read (Elt F) X3) (arg4.view.read (Elt F) X4) (arg5.view.read (Elt F) X5) k hc⟩] := by
  unfold trip_k1_t1; rfl

theorem trip2_R (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X15 : BufTy.Contents (Elt F) arg15.view.ty) (k : Fin k1_t2_loop.trips) (hc : FVec F S512x128 .f32 × FVec F S512x128 .f32) :
    (trip_k1_t2 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 X7 X8 X9 X10 X11 X12 X15 k).1 hc = decStep (arg15.view.read (Elt F) X15) (arg6.view.read (Elt F) X6) (arg7.view.read (Elt F) X7) (arg8.view.read (Elt F) X8) k hc := by
  unfold trip_k1_t2; rfl

theorem trip2_L (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X15 : BufTy.Contents (Elt F) arg15.view.ty) (k : Fin k1_t2_loop.trips) (hc : FVec F S512x128 .f32 × FVec F S512x128 .f32) :
    (trip_k1_t2 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 X7 X8 X9 X10 X11 X12 X15 k).2.1 hc = [⟨Rect.unit (s := S16384x128) (k1_off4 k) S512x128.size (k1_off4_inb k), decOut (arg15.view.read (Elt F) X15) (arg6.view.read (Elt F) X6) (arg7.view.read (Elt F) X7) (arg8.view.read (Elt F) X8) (arg9.view.read (Elt F) X9) (arg10.view.read (Elt F) X10) (arg11.view.read (Elt F) X11) (arg12.view.read (Elt F) X12) k hc⟩] := by
  unfold trip_k1_t2; rfl

/-- The encoder loop's state is the recursion's. -/
theorem st1_eq (X0 : BufTy.Contents (Elt F) arg0.view.ty) (X2 : BufTy.Contents (Elt F) arg2.view.ty) (X3 : BufTy.Contents (Elt F) arg3.view.ty) (X4 : BufTy.Contents (Elt F) arg4.view.ty) (X5 : BufTy.Contents (Elt F) arg5.view.ty) : ∀ k : ℕ, k ≤ 32 →
    st_k1_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X2 X3 X4 X5 (k1_pay2, k1_pay2) k = (encSt (arg0.view.read (Elt F) X0) (arg2.view.read (Elt F) X2) (arg3.view.read (Elt F) X3) (arg4.view.read (Elt F) X4) (arg5.view.read (Elt F) X5) k, encPieces (arg0.view.read (Elt F) X0) (arg2.view.read (Elt F) X2) (arg3.view.read (Elt F) X3) (arg4.view.read (Elt F) X4) (arg5.view.read (Elt F) X5) k)
  | 0, _ => rfl
  | k + 1, hk => by
    have h : k < k1_t1_loop.trips := by rw [trips1_eq]; omega
    refine (st_k1_t1_succ (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X2 X3 X4 X5 (k1_pay2, k1_pay2) ⟨k, h⟩).trans ?_
    rw [st1_eq X0 X2 X3 X4 X5 k (by omega), encSt_succ (arg0.view.read (Elt F) X0) (arg2.view.read (Elt F) X2) (arg3.view.read (Elt F) X3) (arg4.view.read (Elt F) X4) (arg5.view.read (Elt F) X5) ⟨k, h⟩, encPieces_succ (arg0.view.read (Elt F) X0) (arg2.view.read (Elt F) X2) (arg3.view.read (Elt F) X3) (arg4.view.read (Elt F) X4) (arg5.view.read (Elt F) X5) ⟨k, h⟩]
    refine Prod.ext ?_ ?_
    · exact trip1_R c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X2 X3 X4 X5 ⟨k, h⟩ _
    · exact congrArg (fun l => l ++ encPieces (arg0.view.read (Elt F) X0) (arg2.view.read (Elt F) X2) (arg3.view.read (Elt F) X3) (arg4.view.read (Elt F) X4) (arg5.view.read (Elt F) X5) k) (trip1_L c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X2 X3 X4 X5 ⟨k, h⟩ (encSt (arg0.view.read (Elt F) X0) (arg2.view.read (Elt F) X2) (arg3.view.read (Elt F) X3) (arg4.view.read (Elt F) X4) (arg5.view.read (Elt F) X5) k))

/-- The decoder loop's state is the recursion's. -/
theorem st2_eq (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X15 : BufTy.Contents (Elt F) arg15.view.ty) (hc : FVec F S512x128 .f32 × FVec F S512x128 .f32) : ∀ k : ℕ, k ≤ 32 →
    st_k1_t2 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 X7 X8 X9 X10 X11 X12 X15 hc k = (decSt (arg15.view.read (Elt F) X15) (arg6.view.read (Elt F) X6) (arg7.view.read (Elt F) X7) (arg8.view.read (Elt F) X8) hc k, decPieces (arg15.view.read (Elt F) X15) (arg6.view.read (Elt F) X6) (arg7.view.read (Elt F) X7) (arg8.view.read (Elt F) X8) (arg9.view.read (Elt F) X9) (arg10.view.read (Elt F) X10) (arg11.view.read (Elt F) X11) (arg12.view.read (Elt F) X12) hc k)
  | 0, _ => rfl
  | k + 1, hk => by
    have h : k < k1_t2_loop.trips := by rw [trips2_eq]; omega
    refine (st_k1_t2_succ (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 X7 X8 X9 X10 X11 X12 X15 hc ⟨k, h⟩).trans ?_
    rw [st2_eq X6 X7 X8 X9 X10 X11 X12 X15 hc k (by omega), decSt_succ (arg15.view.read (Elt F) X15) (arg6.view.read (Elt F) X6) (arg7.view.read (Elt F) X7) (arg8.view.read (Elt F) X8) hc ⟨k, h⟩, decPieces_succ (arg15.view.read (Elt F) X15) (arg6.view.read (Elt F) X6) (arg7.view.read (Elt F) X7) (arg8.view.read (Elt F) X8) (arg9.view.read (Elt F) X9) (arg10.view.read (Elt F) X10) (arg11.view.read (Elt F) X11) (arg12.view.read (Elt F) X12) hc ⟨k, h⟩]
    refine Prod.ext ?_ ?_
    · exact trip2_R c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 X7 X8 X9 X10 X11 X12 X15 ⟨k, h⟩ _
    · exact congrArg (fun l => l ++ decPieces (arg15.view.read (Elt F) X15) (arg6.view.read (Elt F) X6) (arg7.view.read (Elt F) X7) (arg8.view.read (Elt F) X8) (arg9.view.read (Elt F) X9) (arg10.view.read (Elt F) X10) (arg11.view.read (Elt F) X11) (arg12.view.read (Elt F) X12) hc k) (trip2_L c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 X7 X8 X9 X10 X11 X12 X15 ⟨k, h⟩ (decSt (arg15.view.read (Elt F) X15) (arg6.view.read (Elt F) X6) (arg7.view.read (Elt F) X7) (arg8.view.read (Elt F) X8) hc k))

end

/-- The hidden states the encoder keeps, one block per step. -/
def encAll (X0 : S32x512x32.Idx → Elt F .f32) (X2 : S1x32.Idx → Elt F .f32) (X3 : S32x512.Idx → Elt F .f32) (X4 : S128x512.Idx → Elt F .f32) (X5 : S1x512.Idx → Elt F .f32) : S32x512x128.Idx → Elt F .f32 := fun y =>
  encOut X0 X2 X3 X4 X5 ⟨(y 0).val, (y 0).isLt.trans_eq trips1_eq.symm⟩ (encSt X0 X2 X3 X4 X5 (y 0).val) (ix3 0 (y 1) (y 2))

/-- The decoder's output, row `512 t + s` from step `t`. -/
def decAll (X15 : S32x512x128.Idx → Elt F .f32) (X6 : S128x512.Idx → Elt F .f32) (X7 : S128x512.Idx → Elt F .f32) (X8 : S1x512.Idx → Elt F .f32) (X9 : S128x64.Idx → Elt F .f32) (X10 : S1x64.Idx → Elt F .f32) (X11 : S64x128.Idx → Elt F .f32) (X12 : S1.Idx → Elt F .f32) (hc : FVec F S512x128 .f32 × FVec F S512x128 .f32) : S16384x128.Idx → Elt F .f32 := fun y =>
  decOut X15 X6 X7 X8 X9 X10 X11 X12 ⟨(y 0).val / 512, by have : (y 0).val < 16384 := (y 0).isLt; rw [trips2_eq]; omega⟩ (decSt X15 X6 X7 X8 hc ((y 0).val / 512))
    (ix2 ⟨(y 0).val % 512, Nat.mod_lt _ (by decide)⟩ (y 1))

theorem read_encPieces (M : Memref sig .tc .vmem S32x512x128 .f32) (f : BufTy.Contents (Elt F) M.view.ty) (X0 : S32x512x32.Idx → Elt F .f32) (X2 : S1x32.Idx → Elt F .f32) (X3 : S32x512.Idx → Elt F .f32) (X4 : S128x512.Idx → Elt F .f32) (X5 : S1x512.Idx → Elt F .f32) :
    ∀ (k : ℕ) (y : S32x512x128.Idx), k ≤ 32 → (y 0).val < k →
      M.view.read (Elt F) (M.view.writes (Elt F) f (encPieces X0 X2 X3 X4 X5 k)) y = encAll X0 X2 X3 X4 X5 y
  | 0, y, _, h => absurd h (by omega)
  | k + 1, y, hk, h => by
    have hk' : k < k1_t1_loop.trips := by rw [trips1_eq]; omega
    rw [encPieces_succ X0 X2 X3 X4 X5 ⟨k, hk'⟩]
    by_cases hl : (y 0).val < k
    · rw [View.read_writes_cons_unit_of_not_mem M.view f _ _ _ y (k1_off2_eq ⟨k, hk'⟩) 0 (Or.inl hl)]
      exact read_encPieces M f X0 X2 X3 X4 X5 k y (by omega) hl
    · have e : (y 0).val = k := by omega
      refine (View.read_writes_cons_unit_of_mem M.view f (k1_off2_inb ⟨k, hk'⟩) (encOut X0 X2 X3 X4 X5 ⟨k, hk'⟩ (encSt X0 X2 X3 X4 X5 k)) (encPieces X0 X2 X3 X4 X5 k) y
        (ix3 0 (y 1) (y 2) : S1x512x128.Idx) (k1_off2_eq ⟨k, hk'⟩) (fun a => by
          match a with
          | ⟨0, _⟩ => show (y 0).val = k + 0; omega
          | ⟨1, _⟩ => show (y 1).val = 0 + (y 1).val; omega
          | ⟨2, _⟩ => show (y 2).val = 0 + (y 2).val; omega)).trans ?_
      unfold encAll
      simp only [e]

theorem read_decPieces (M : Memref sig .tc .vmem S16384x128 .f32) (f : BufTy.Contents (Elt F) M.view.ty) (X15 : S32x512x128.Idx → Elt F .f32) (X6 : S128x512.Idx → Elt F .f32) (X7 : S128x512.Idx → Elt F .f32) (X8 : S1x512.Idx → Elt F .f32) (X9 : S128x64.Idx → Elt F .f32) (X10 : S1x64.Idx → Elt F .f32) (X11 : S64x128.Idx → Elt F .f32) (X12 : S1.Idx → Elt F .f32) (hc : FVec F S512x128 .f32 × FVec F S512x128 .f32) :
    ∀ (k : ℕ) (y : S16384x128.Idx), k ≤ 32 → (y 0).val < 512 * k →
      M.view.read (Elt F) (M.view.writes (Elt F) f (decPieces X15 X6 X7 X8 X9 X10 X11 X12 hc k)) y = decAll X15 X6 X7 X8 X9 X10 X11 X12 hc y
  | 0, y, _, h => absurd h (by omega)
  | k + 1, y, hk, h => by
    have hk' : k < k1_t2_loop.trips := by rw [trips2_eq]; omega
    rw [decPieces_succ X15 X6 X7 X8 X9 X10 X11 X12 hc ⟨k, hk'⟩]
    by_cases hl : (y 0).val < 512 * k
    · rw [View.read_writes_cons_unit_of_not_mem M.view f _ _ _ y (k1_off4_eq ⟨k, hk'⟩) 0 (Or.inl hl)]
      exact read_decPieces M f X15 X6 X7 X8 X9 X10 X11 X12 hc k y (by omega) hl
    · have e : (y 0).val / 512 = k := by omega
      refine (View.read_writes_cons_unit_of_mem M.view f (k1_off4_inb ⟨k, hk'⟩) (decOut X15 X6 X7 X8 X9 X10 X11 X12 ⟨k, hk'⟩ (decSt X15 X6 X7 X8 hc k)) (decPieces X15 X6 X7 X8 X9 X10 X11 X12 hc k) y
        (ix2 ⟨(y 0).val % 512, Nat.mod_lt _ (by decide)⟩ (y 1) : S512x128.Idx) (k1_off4_eq ⟨k, hk'⟩) (fun a => by
          match a with
          | ⟨0, _⟩ => show (y 0).val = 512 * k + (y 0).val % 512; omega
          | ⟨1, _⟩ => show (y 1).val = 0 + (y 1).val; omega)).trans ?_
      unfold decAll
      simp only [e]

/-- The first output of the second kernel, from the twelve arrays it reads. -/
def out13 (X0 : S32x512x32.Idx → Elt F .f32) (X2 : S1x32.Idx → Elt F .f32) (X3 : S32x512.Idx → Elt F .f32) (X4 : S128x512.Idx → Elt F .f32) (X5 : S1x512.Idx → Elt F .f32) (X6 : S128x512.Idx → Elt F .f32) (X7 : S128x512.Idx → Elt F .f32) (X8 : S1x512.Idx → Elt F .f32) (X9 : S128x64.Idx → Elt F .f32) (X10 : S1x64.Idx → Elt F .f32) (X11 : S64x128.Idx → Elt F .f32) (X12 : S1.Idx → Elt F .f32) : S16384x128.Idx → Elt F .f32 :=
  decAll (encAll X0 X2 X3 X4 X5) X6 X7 X8 X9 X10 X11 X12 (encSt X0 X2 X3 X4 X5 32)

/-- The second output: the integer table as floats, times four. -/
def out14 (X1 : S16x1024.Idx → BitVec 32) : S16x1024.Idx → Elt F .f32 :=
  k1_pay1 (sl (Rect.unit (s := S16x1024) ![0, 0] S16x1024.size inb_S16x1024_S16x1024_0_0) X1)

/-- The whole body. -/
theorem body1 (c : Dev nD) (arg0 : Memref sig .tc .vmem S32x512x32 .f32) (harg0 : arg0.IsWhole) (arg1 : Memref sig .tc .vmem S16x1024 .i32) (harg1 : arg1.IsWhole) (arg2 : Memref sig .tc .vmem S1x32 .f32) (harg2 : arg2.IsWhole) (arg3 : Memref sig .tc .vmem S32x512 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S1x512 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .smem S1 .f32) (harg12 : arg12.IsWhole) (arg13 : Memref sig .tc .vmem S16384x128 .f32) (harg13 : arg13.IsWhole) (arg14 : Memref sig .tc .vmem S16x1024 .f32) (harg14 : arg14.IsWhole) (arg15 : Memref sig .tc .vmem S32x512x128 .f32) (harg15 : arg15.IsWhole)
    (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) :
    (iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) Variants.none (c : Thread nD τ) none) Set.univ
          (cc1__lstm_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)
            ∗ (∃ f, (arg13.view.loc (c : Thread nD τ) ↦[arg13.view.set]{fullShare} f) ∗ ⌜arg13.view.read (Elt F) f = out13 (arg0.view.read (Elt F) X0) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12)⌝)
            ∗ (∃ f, (arg14.view.loc (c : Thread nD τ) ↦[arg14.view.set]{fullShare} f) ∗ ⌜arg14.view.read (Elt F) f = out14 (arg1.view.read (Elt F) X1)⌝)
            ∗ (∃ f, (arg15.view.loc (c : Thread nD τ) ↦[arg15.view.set]{fullShare} f)))) := by
  simp only [cc1__lstm_kernel_eq_skeleton]
  unfold cc1__lstm_kernel_skel
  iintro ⟨H0, H1, H2, H3, H4, H5, H6, H7, H8, H9, H10, H11, H12, H13, H14, H15⟩
  sl_exec
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitl [H13]; · iexact H13
    ipureintro
    have e32 : Scf.trips k1_t1_loop.lb k1_t1_loop.ub k1_t1_loop.st = 32 := trips1_eq
    rw [e32, st1_eq c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X2 X3 X4 X5 32 (Nat.le_refl _)]
    rw [st2_eq c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 X7 X8 X9 X10 X11 X12 _ _ 32 (Nat.le_refl _)]
    funext y
    refine (read_decPieces arg13 f13 _ _ _ _ _ _ _ _ _ 32 y (Nat.le_refl _) (y 0).isLt).trans ?_
    unfold out13
    refine congrArg (fun X15 => decAll X15 (arg6.view.read (Elt F) X6) (arg7.view.read (Elt F) X7) (arg8.view.read (Elt F) X8) (arg9.view.read (Elt F) X9) (arg10.view.read (Elt F) X10) (arg11.view.read (Elt F) X11) (arg12.view.read (Elt F) X12) (encSt (arg0.view.read (Elt F) X0) (arg2.view.read (Elt F) X2) (arg3.view.read (Elt F) X3) (arg4.view.read (Elt F) X4) (arg5.view.read (Elt F) X5) 32) y) ?_
    funext z
    exact read_encPieces arg15 f15 (arg0.view.read (Elt F) X0) (arg2.view.read (Elt F) X2) (arg3.view.read (Elt F) X3) (arg4.view.read (Elt F) X4) (arg5.view.read (Elt F) X5) 32 z (Nat.le_refl _) (z 0).isLt
  isplitl [H14]
  · iexists _; isplitl [H14]; · iexact H14
    ipureintro
    refine (View.read_writes_full arg14.view _ inb_S16x1024_S16x1024_0_0 _ []).trans ?_
    rfl
  · iexists _; iexact H15

end Cert.Proof.KernelIdeal
-- ==== Proof.I.Region1.lean ====
/-
  The second kernel's region: one point over fifteen whole-array windows.
-/
module

public import proofs.«01_k».proof.Proof.I.Body1
public import proofs.«01_k».proof.Proof.I.Region0
public import proofs.«01_k».proof.Proof.Gen.KernelIdeal.Points
public import Idealize.ShloMosaic.Lib.Pipeline.Regions
public import Idealize.ShloMosaic.Lib.Pipeline.Frame
public import Idealize.ShloMosaic.Lib.Pipeline.FrameBody
public import Idealize.ShloMosaic.Lib.Pipeline.RegionsLoop
public import Idealize.ShloMosaic.Lib.Tactic

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (V : (c : Dev nD) → (b : Ref sig .tc) → Buf (Elt F) ((c : Thread nD τ).loc b))

/-- The block of window `w`'s array that the transfers stage at point `t`. -/
abbrev blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data, entered from the valuation `V`: the inputs' buffers keep what was staged, the
    outputs' hold the body's values of it. -/
def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => blk1 V c 12 t
    | ⟨13, _⟩ => out13 (blk1 V c 0 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t)
    | ⟨14, _⟩ => out14 (blk1 V c 1 t)
  Φ _ := Pipeline.scopedRest (Ix := Unit) (Name := ℕ) (U := UU) (Lvl := ℕ) (Val := Elt F) spec1 c
  q _ := fullShare
  owed _ := 0

theorem before1_0 (c : Dev nD) (t : Fin cfg1.N) (d : (cfg1.win 0).block.Idx → Elt F (cfg1.win 0).elt) : (dat1 V c).before 0 t d = blk1 V c 0 t :=
  ((dat1 V c).before_in_eq_fetched 0 rfl (fun _ => rfl) (fun _ _ _ => rfl) (fun _ => rfl) t d).trans rfl

theorem before1_1 (c : Dev nD) (t : Fin cfg1.N) (d : (cfg1.win 1).block.Idx → Elt F (cfg1.win 1).elt) : (dat1 V c).before 1 t d = blk1 V c 1 t :=
  ((dat1 V c).before_in_eq_fetched 1 rfl (fun _ => rfl) (fun _ _ _ => rfl) (fun _ => rfl) t d).trans rfl

theorem before1_2 (c : Dev nD) (t : Fin cfg1.N) (d : (cfg1.win 2).block.Idx → Elt F (cfg1.win 2).elt) : (dat1 V c).before 2 t d = blk1 V c 2 t :=
  ((dat1 V c).before_in_eq_fetched 2 rfl (fun _ => rfl) (fun _ _ _ => rfl) (fun _ => rfl) t d).trans rfl

theorem before1_3 (c : Dev nD) (t : Fin cfg1.N) (d : (cfg1.win 3).block.Idx → Elt F (cfg1.win 3).elt) : (dat1 V c).before 3 t d = blk1 V c 3 t :=
  ((dat1 V c).before_in_eq_fetched 3 rfl (fun _ => rfl) (fun _ _ _ => rfl) (fun _ => rfl) t d).trans rfl

theorem before1_4 (c : Dev nD) (t : Fin cfg1.N) (d : (cfg1.win 4).block.Idx → Elt F (cfg1.win 4).elt) : (dat1 V c).before 4 t d = blk1 V c 4 t :=
  ((dat1 V c).before_in_eq_fetched 4 rfl (fun _ => rfl) (fun _ _ _ => rfl) (fun _ => rfl) t d).trans rfl

theorem before1_5 (c : Dev nD) (t : Fin cfg1.N) (d : (cfg1.win 5).block.Idx → Elt F (cfg1.win 5).elt) : (dat1 V c).before 5 t d = blk1 V c 5 t :=
  ((dat1 V c).before_in_eq_fetched 5 rfl (fun _ => rfl) (fun _ _ _ => rfl) (fun _ => rfl) t d).trans rfl

theorem before1_6 (c : Dev nD) (t : Fin cfg1.N) (d : (cfg1.win 6).block.Idx → Elt F (cfg1.win 6).elt) : (dat1 V c).before 6 t d = blk1 V c 6 t :=
  ((dat1 V c).before_in_eq_fetched 6 rfl (fun _ => rfl) (fun _ _ _ => rfl) (fun _ => rfl) t d).trans rfl

theorem before1_7 (c : Dev nD) (t : Fin cfg1.N) (d : (cfg1.win 7).block.Idx → Elt F (cfg1.win 7).elt) : (dat1 V c).before 7 t d = blk1 V c 7 t :=
  ((dat1 V c).before_in_eq_fetched 7 rfl (fun _ => rfl) (fun _ _ _ => rfl) (fun _ => rfl) t d).trans rfl

theorem before1_8 (c : Dev nD) (t : Fin cfg1.N) (d : (cfg1.win 8).block.Idx → Elt F (cfg1.win 8).elt) : (dat1 V c).before 8 t d = blk1 V c 8 t :=
  ((dat1 V c).before_in_eq_fetched 8 rfl (fun _ => rfl) (fun _ _ _ => rfl) (fun _ => rfl) t d).trans rfl

theorem before1_9 (c : Dev nD) (t : Fin cfg1.N) (d : (cfg1.win 9).block.Idx → Elt F (cfg1.win 9).elt) : (dat1 V c).before 9 t d = blk1 V c 9 t :=
  ((dat1 V c).before_in_eq_fetched 9 rfl (fun _ => rfl) (fun _ _ _ => rfl) (fun _ => rfl) t d).trans rfl

theorem before1_10 (c : Dev nD) (t : Fin cfg1.N) (d : (cfg1.win 10).block.Idx → Elt F (cfg1.win 10).elt) : (dat1 V c).before 10 t d = blk1 V c 10 t :=
  ((dat1 V c).before_in_eq_fetched 10 rfl (fun _ => rfl) (fun _ _ _ => rfl) (fun _ => rfl) t d).trans rfl

theorem before1_11 (c : Dev nD) (t : Fin cfg1.N) (d : (cfg1.win 11).block.Idx → Elt F (cfg1.win 11).elt) : (dat1 V c).before 11 t d = blk1 V c 11 t :=
  ((dat1 V c).before_in_eq_fetched 11 rfl (fun _ => rfl) (fun _ _ _ => rfl) (fun _ => rfl) t d).trans rfl

theorem before1_12 (c : Dev nD) (t : Fin cfg1.N) (d : (cfg1.win 12).block.Idx → Elt F (cfg1.win 12).elt) : (dat1 V c).before 12 t d = blk1 V c 12 t :=
  ((dat1 V c).before_in_eq_fetched 12 rfl (fun _ => rfl) (fun _ _ _ => rfl) (fun _ => rfl) t d).trans rfl

/-- The body at any point of the grid: the staged blocks and the scratch taken apart, the run applied, its
    post put back together. -/
theorem obligation1 (c : Dev nD) : BodyObligation (dat1 V c) (defs₀ (F := F)) Variants.none () Set.univ := fun t => by
  rw [bigSep_W1, bigSep_W1]
  rw [show (dat1 V c).Φ t.castSucc = Pipeline.scopedRest (Ix := Unit) (Name := ℕ) (U := UU) (Lvl := ℕ) (Val := Elt F) spec1 c from rfl,
    show (dat1 V c).Φ t.succ = Pipeline.scopedRest (Ix := Unit) (Name := ℕ) (U := UU) (Lvl := ℕ) (Val := Elt F) spec1 c from rfl,
    show (dat1 V c).owesAt () t.succ = (dat1 V c).owesAt () t.castSucc from rfl, scopedRest1_eq]
  show _ ⊢ wp frame _ _ (bodyAt1 t) _
  dsimp only [show (cfg1 (F := F)).idle = fun _ _ => false from rfl]
  unfold owns
  iintro ⟨⟨R0, R1, R2, R3, R4, R5, R6, R7, ⟨%fs, Hs⟩, R9⟩, Howes, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩⟩
  rw [before1_0] at e0
  rw [before1_1] at e1
  rw [before1_2] at e2
  rw [before1_3] at e3
  rw [before1_4] at e4
  rw [before1_5] at e5
  rw [before1_6] at e6
  rw [before1_7] at e7
  rw [before1_8] at e8
  rw [before1_9] at e9
  rw [before1_10] at e10
  rw [before1_11] at e11
  rw [before1_12] at e12
  ihave Hs' := (whole_in c cc1_scratch0 fs) $$ Hs
  iapply (wp_wand_r Idealize.ShloMosaic.frame (wpE (defs₀ (F := F)) Variants.none (c : Thread nD τ) none) Set.univ)
  isplitl [H0 H1 H2 H3 H4 H5 H6 H7 H8 H9 H10 H11 H12 H13 H14 Hs']
  · iapply (body1 c (win1_0.stage (cfg1.slots t 0)) (hstage1_0 0) (win1_1.stage (cfg1.slots t 1)) (hstage1_1 0) (win1_2.stage (cfg1.slots t 2)) (hstage1_2 0) (win1_3.stage (cfg1.slots t 3)) (hstage1_3 0) (win1_4.stage (cfg1.slots t 4)) (hstage1_4 0) (win1_5.stage (cfg1.slots t 5)) (hstage1_5 0) (win1_6.stage (cfg1.slots t 6)) (hstage1_6 0) (win1_7.stage (cfg1.slots t 7)) (hstage1_7 0) (win1_8.stage (cfg1.slots t 8)) (hstage1_8 0) (win1_9.stage (cfg1.slots t 9)) (hstage1_9 0) (win1_10.stage (cfg1.slots t 10)) (hstage1_10 0) (win1_11.stage (cfg1.slots t 11)) (hstage1_11 0) (win1_12.stage (cfg1.slots t 12)) (hstage1_12 0) (win1_13.stage (cfg1.slots t 13)) (hstage1_13 0) (win1_14.stage (cfg1.slots t 14)) (hstage1_14 0) (Memref.whole cc1_scratch0) (Memref.isWhole_whole _)
       f0 f1 f2 f3 f4 f5 f6 f7 f8 f9 f10 f11 f12 f13 f14 fs)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact Hs'
  · iintro %_ ⟨H0, H1, H2, H3, H4, H5, H6, H7, H8, H9, H10, H11, H12, ⟨%g13, H13, %h13⟩, ⟨%g14, H14, %h14⟩, ⟨%gs, Hs'⟩⟩
    ihave Hs := (whole_out c cc1_scratch0 gs) $$ Hs'
    isplitl [R0 R1 R2 R3 R4 R5 R6 R7 Hs R9]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [Hs]; · iexists gs; iexact Hs
      iexact R9
    isplitl [Howes]; · iexact Howes
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    isplitl [H11]
    · iexists f11; isplitr; · ipureintro; exact e11
      iexact H11
    isplitl [H12]
    · iexists f12; isplitr; · ipureintro; exact e12
      iexact H12
    isplitl [H13]
    · iexists g13; isplitr; · ipureintro; exact h13.trans (by rw [e0, e2, e3, e4, e5, e6, e7, e8, e9, e10, e11, e12]; rfl)
      iexact H13
    iexists g14; isplitr; · ipureintro; exact h14.trans (by rw [e1]; rfl)
    iexact H14

set_option backward.isDefEq.respectTransparency.types false in
/-- Pipeline 1's region over the thread state "every unscoped buffer at the valuation, the core's dues":
    entered from `V`, left at any `Vp` that holds the written arrays and agrees with `V` elsewhere. -/
def reg1 (pdats : (p : Fin 2) → (c : Dev nD) → Dat τ (Elt F) Unit ℕ UU ℕ (cfgs p) c) (hp : ∀ c, pdats 1 c = dat1 V c)
    (Vp : (c : Dev nD) → (b : Ref sig .tc) → Buf (Elt F) ((c : Thread nD τ).loc b))
    (hout13 : ∀ c, Vp c main_v40_0 = (dat1 V c).arrAt 13 cfg1.N) (hout14 : ∀ c, Vp c main_v40_1 = (dat1 V c).arrAt 14 cfg1.N)
    (hne : ∀ c (b : Ref sig .tc), b ≠ main_v40_0 → b ≠ main_v40_1 → Vp c b = V c b) :
    Pipeline.RegionSeg (pcfgs (F := F)) adm pdats () defs₀ Variants.none noLev noLv 1 where
  win := launch1.win.to₀
  block_pos := launch1.block_pos
  stage_whole := launch1.stage_whole
  K := PEmpty
  osem k := k.elim
  ho := Pipeline.OwnSemFacts.none _
  hbody c := by
    rw [hp c]; exact (obligation1 V c).loose
  hwaits := Pipeline.hwaits_of_owed_zero _ _ _ _ noLev noLv 1 fun c _ => by rw [hp c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (V c)
  hentry c := by
    rw [Pipeline.ownSems0_none]
    have hsplit := Pipeline.arrays_of_unscopedBufs (p := 1) (pcfgs (F := F)) adm pdats launch1.win launch1.arr_whole c
      ((pdats 1 c).share_full fun _ => by rw [hp c]; rfl) (V c) fun w => by rw [hp c]; rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat1 V c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, hp c]
    rw [show (dat1 V c).Φ (Fin.last (Pipeline.pin (pcfgs (F := F)) adm 1).N) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      pdats ((pdats 1 c).share_full fun _ => by rw [hp c]; rfl) (V c) (Vp c) ((pdats 1 c).arrAt · cfg1.N)
      (fun w => by
        rw [hp c]
        fin_cases w
        · exact ((dat1 V c).arrAt_in 0 rfl _).trans (hne c (Pipeline.arrRef spec1 0) (by decide) (by decide)).symm
        · exact ((dat1 V c).arrAt_in 1 rfl _).trans (hne c (Pipeline.arrRef spec1 1) (by decide) (by decide)).symm
        · exact ((dat1 V c).arrAt_in 2 rfl _).trans (hne c (Pipeline.arrRef spec1 2) (by decide) (by decide)).symm
        · exact ((dat1 V c).arrAt_in 3 rfl _).trans (hne c (Pipeline.arrRef spec1 3) (by decide) (by decide)).symm
        · exact ((dat1 V c).arrAt_in 4 rfl _).trans (hne c (Pipeline.arrRef spec1 4) (by decide) (by decide)).symm
        · exact ((dat1 V c).arrAt_in 5 rfl _).trans (hne c (Pipeline.arrRef spec1 5) (by decide) (by decide)).symm
        · exact ((dat1 V c).arrAt_in 6 rfl _).trans (hne c (Pipeline.arrRef spec1 6) (by decide) (by decide)).symm
        · exact ((dat1 V c).arrAt_in 7 rfl _).trans (hne c (Pipeline.arrRef spec1 7) (by decide) (by decide)).symm
        · exact ((dat1 V c).arrAt_in 8 rfl _).trans (hne c (Pipeline.arrRef spec1 8) (by decide) (by decide)).symm
        · exact ((dat1 V c).arrAt_in 9 rfl _).trans (hne c (Pipeline.arrRef spec1 9) (by decide) (by decide)).symm
        · exact ((dat1 V c).arrAt_in 10 rfl _).trans (hne c (Pipeline.arrRef spec1 10) (by decide) (by decide)).symm
        · exact ((dat1 V c).arrAt_in 11 rfl _).trans (hne c (Pipeline.arrRef spec1 11) (by decide) (by decide)).symm
        · exact ((dat1 V c).arrAt_in 12 rfl _).trans (hne c (Pipeline.arrRef spec1 12) (by decide) (by decide)).symm
        · exact (hout13 c).symm
        · exact (hout14 c).symm)
      (fun b hb => hne c b (fun h => hb (h ▸ Finset.mem_image.mpr ⟨13, Finset.mem_univ _, rfl⟩)) (fun h => hb (h ▸ Finset.mem_image.mpr ⟨14, Finset.mem_univ _, rfl⟩)))
    iintro ⟨Ha, HO, -, Hrest⟩
    imodintro
    isplitl [Ha Hrest]
    · iapply hjoin; isplitl [Ha] <;> iassumption
    rw [hp c]
    unfold Pipeline.Dat.owesAt Pipeline.owesWithin
    icases HO with ⟨%W, -, HO⟩; iexists W; iexact HO

end Cert.Proof.KernelIdeal
-- ==== Proof.I.Host0.lean ====
/-
  What the host lines before the first kernel leave, read at an index: the clipped coordinates and the table of
  cell numbers.
-/
module

public import proofs.«01_k».proof.Proof.I.Gather
public import proofs.«01_k».proof.Proof.Gen.KernelIdeal.Regions
public import Idealize.ShloMosaic.Lib.StableHlo.ReadAt
public import Idealize.ShloMosaic.Lib.Pointwise
public import Idealize.ShloMosaic.Lib.Tactic.WordOmega

@[expose] public section

set_option maxRecDepth 16384
set_option maxHeartbeats 1000000

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- A coordinate clipped to the image. -/
def clip (w : BitVec 32) : BitVec 32 := IntOp.minsi 127#32 (IntOp.maxsi 0#32 w)

theorem clip_lt (w : BitVec 32) : (clip w).toNat < 128 := by
  have h : (IntOp.maxsi 0#32 w).toInt = max 0 w.toInt := by
    unfold IntOp.maxsi
    split
    · rename_i h; rw [BitVec.slt_iff_toInt_lt] at h; simp at h ⊢; omega
    · rename_i h; rw [BitVec.slt_iff_toInt_lt] at h; simp at h ⊢; omega
  unfold clip IntOp.minsi
  split
  · decide
  · rename_i h2
    rw [BitVec.slt_iff_toInt_lt, h] at h2
    have e := BitVec.toInt_eq_toNat_cond (IntOp.maxsi 0#32 w)
    have := (IntOp.maxsi 0#32 w).isLt
    rw [h] at e
    simp at h2 e
    split at e <;> omega

/-- The clipped coordinate `a` of the landmark `t` of contour `n` of image `b`. -/
def crd (c : Dev nD) (b n : Fin 16) (t : Fin 32) (a : Fin 2) : BitVec 32 :=
  clip (V0 m c main_arg1 (ix4 b n t a))

theorem v2_at (c : Dev nD) (b n : Fin 16) (t : Fin 32) (a : Fin 2) :
    (V5 m c main_v2 (ix4 b n t a) : BitVec 32) = crd m c b n t a := by
  after_reads_at
  rfl

/-- The cell number of a landmark whose row is `u` and column is `v`. -/
def cell (u v : BitVec 32) : BitVec 32 := IntOp.addi (IntOp.muli u 128#32) v

theorem cell_toNat (u v : BitVec 32) (hu : u.toNat < 128) (hv : v.toNat < 128) :
    (cell u v).toNat = u.toNat * 128 + v.toNat := by
  unfold cell IntOp.addi IntOp.muli
  word_omega

theorem v15_at (c : Dev nD) (b : Fin 16) (j : Fin 1024) :
    (V5 m c main_v15 (ix2 b j) : BitVec 32) =
      if h : j.val < 512 then
        cell (crd m c b ⟨j.val / 32, by omega⟩ ⟨j.val % 32, by omega⟩ 0) (crd m c b ⟨j.val / 32, by omega⟩ ⟨j.val % 32, by omega⟩ 1)
      else
        cell (crd m c b ⟨(j.val - 512) / 32, by omega⟩ ⟨(j.val - 512) % 32, by omega⟩ 1)
          (crd m c b ⟨(j.val - 512) / 32, by omega⟩ ⟨(j.val - 512) % 32, by omega⟩ 0) := by
  after_reads_at
  rfl

theorem lin_lt (c : Dev nD) (b : Fin 16) (j : Fin 1024) : (V5 m c main_v15 (ix2 b j) : BitVec 32).toNat < 16384 := by
  rw [v15_at]
  have hc : ∀ b n t a, (crd m c b n t a).toNat < 128 := fun b n t a => clip_lt _
  split
  all_goals
    rw [cell_toNat _ _ (hc ..) (hc ..)]
    generalize hu : crd m c _ _ _ 0 = u
    have := hu ▸ hc _ _ _ 0
    generalize hv : crd m c _ _ _ 1 = v
    have := hv ▸ hc _ _ _ 1
    omega

/-- Every entry of the table names a cell of the image. -/
theorem linOK (c : Dev nD) (x : S16x1024.Idx) : RowOK (V5 m c main_v15 x) := by
  rw [eq_ix2 x]
  exact lin_lt m c _ _

end Cert.Proof.KernelIdeal
-- ==== Proof.I.Run.lean ====
/-
  The whole program: what every unscoped buffer holds when @main has run.
-/
module

public import proofs.«01_k».proof.Proof.I.Region0
public import proofs.«01_k».proof.Proof.I.Region1
public import proofs.«01_k».proof.Proof.I.Host0
public import proofs.«01_k».proof.Proof.Gen.KernelIdeal.Regions

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ)

/-- The thread state a region is entered from, as a family over the TensorCore's references. -/
abbrev atTc (V : Dev nD → Valuation τ sig (Elt F)) : (c : Dev nD) → (b : Ref sig .tc) → Buf (Elt F) ((c : Thread nD τ).loc b) :=
  fun c b => V c (Proc.devRef .tc b)

/-- The features the first region leaves. -/
def left0 (c : Dev nD) : Buf (Elt F) ((c : Thread nD τ).loc main_v21) :=
  (dat0 (atTc (V5 m)) c).arrAt 5 cfg0.N

/-- The contents left so far, with the first region's output only. -/
def outsA : Outs (F := F) := fun _ =>
  Function.update (fun r c => V5 m c (Proc.devRef .tc r)) main_v21 (left0 m)

/-- The predictions the second region leaves. -/
def left1 (c : Dev nD) : Buf (Elt F) ((c : Thread nD τ).loc main_v40_0) :=
  (dat1 (atTc (V7 m (outsA m))) c).arrAt 13 cfg1.N

/-- The targets the second region leaves. -/
def left2 (c : Dev nD) : Buf (Elt F) ((c : Thread nD τ).loc main_v40_1) :=
  (dat1 (atTc (V7 m (outsA m))) c).arrAt 14 cfg1.N

/-- What the two regions leave. -/
def outs : Outs (F := F) := fun _ =>
  Function.update (Function.update (outsA m 0) main_v40_0 (left1 m)) main_v40_1 (left2 m)

theorem outs_21 (j : ℕ) : outs m j main_v21 = left0 m := by
  unfold outs
  rw [Function.update_of_ne (by decide), Function.update_of_ne (by decide)]
  unfold outsA
  exact Function.update_self ..

theorem outsA_21 (j : ℕ) : outsA m j main_v21 = left0 m := by
  unfold outsA
  exact Function.update_self ..

theorem outs_40_0 (j : ℕ) : outs m j main_v40_0 = left1 m := by
  unfold outs
  rw [Function.update_of_ne (by decide)]
  exact Function.update_self ..

theorem outs_40_1 (j : ℕ) : outs m j main_v40_1 = left2 m := by
  unfold outs
  exact Function.update_self ..

theorem V6_outs (c : Dev nD) : V6 m (outs m) c = V6 m (outsA m) c := by
  unfold V6
  rw [outs_21, outsA_21]

theorem V7_outs : V7 m (outs m) = V7 m (outsA m) := by
  funext c
  unfold V7
  rw [V6_outs]

/-- The two regions' proof data. -/
def pdats : (p : Fin 2) → (c : Dev nD) → Dat τ (Elt F) Unit ℕ UU ℕ (cfgs p) c
  | ⟨0, _⟩ => fun c => dat0 (atTc (V5 m)) c
  | ⟨1, _⟩ => fun c => dat1 (atTc (V7 m (outsA m))) c

/-- The first region. -/
def R0 : RegionSeg (pcfgs (F := F)) adm (pdats m) () defs₀ Variants.none noLev noLv 0 :=
  reg0 (atTc (V5 m)) (fun c x => linOK m c x) (pdats m) (fun _ => rfl) (atTc (V6 m (outs m)))
    (fun c => by
      show Function.update (V5 m c) (Proc.devRef .tc main_v21) _ _ = _
      rw [Function.update_self, outs_21]; rfl)
    (fun c b hb => Function.update_of_ne (fun h => hb (Proc.devRef_injective _ h)) _ _)

/-- The second region. -/
def R1 : RegionSeg (pcfgs (F := F)) adm (pdats m) () defs₀ Variants.none noLev noLv 1 :=
  reg1 (atTc (V7 m (outsA m))) (pdats m) (fun _ => rfl) (atTc (V8 m (outs m)))
    (fun c => by
      show Function.update (Function.update _ (Proc.devRef .tc main_v40_0) _) (Proc.devRef .tc main_v40_1) _ _ = _
      rw [Function.update_of_ne (by decide), Function.update_self, outs_40_0]; rfl)
    (fun c => by
      show Function.update (Function.update _ (Proc.devRef .tc main_v40_0) _) (Proc.devRef .tc main_v40_1) _ _ = _
      rw [Function.update_self, outs_40_1]; rfl)
    (fun c b hb hb' => by
      show Function.update (Function.update _ (Proc.devRef .tc main_v40_0) _) (Proc.devRef .tc main_v40_1) _ _ = _
      rw [Function.update_of_ne (fun h => hb' (Proc.devRef_injective _ h)),
        Function.update_of_ne (fun h => hb (Proc.devRef_injective _ h)), V7_outs])

/-- What rides along with the buffers: the thread owes nothing. -/
abbrev Ride : Fin 3 → Dev nD → sProp 𝕄 := fun _ c =>
  iprop(∃ W, owes (c : Thread nD τ) (0 : CellTallies nD τ sig Unit) W)

-- The kit theorem's implicit arguments are found by unifying with this statement, which unfolds plain definitions.
set_option backward.isDefEq.respectTransparency.types false in
/-- Every fair execution of @main terminates, every unscoped buffer of a TensorCore then holds what the last
valuation says, and every semaphore is at zero. -/
theorem run (ρ : Dev nD → PrngReg) :
    θ_run defs (onTc (τ := τ) (main (F := F))) ⟨m, fun _ => 0, ρ⟩ (fun r => (∀ c : Dev nD, ∀ b ∈ Pipeline.ucRefs τ sig,
      r.2.mem ((c : Thread nD τ).1, b) = V9 m (outs m) c b) ∧ r.2.sem = fun _ => 0) := by
  refine Pipeline.θ_run_regions_kit_dev_sems (pcfgs (F := F)) adm (pdats m) () cellOf_inj emb₁ defs₀ Variants.none noLev noLv m ρ main
    (segs m (outs m) Variants.none noLev noLv Ride () (pdats m) (R0 m) (R1 m))
    (fun c Q => by
      rewrite [main_chain c, Seg.run_eq_chain,
        show (segs m (outs m) Variants.none noLev noLv Ride () (pdats m) (R0 m) (R1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride 0 c))
    (Tₙ := fun c => StableHlo.held (c : Thread nD τ) (Pipeline.ucRefs τ sig) (V9 m (outs m) c))
    (hch := fun c => ⟨.rfl, .rfl, .rfl, .rfl, .rfl,
      sep_mono (Entails.of_eq (Pipeline.unscopedBufs_held c (V5 m c)).symm) .rfl,
      sep_mono (Entails.of_eq (Pipeline.unscopedBufs_held c (V6 m (outs m) c))) .rfl,
      sep_mono (Entails.of_eq ((congrArg _ (congrFun (V7_outs m) c)).trans (Pipeline.unscopedBufs_held c (V7 m (outsA m) c)).symm)) .rfl,
      sep_mono (Entails.of_eq (Pipeline.unscopedBufs_held c (V8 m (outs m) c))) .rfl,
      .rfl⟩)
    (hinit := by
      refine Pipeline.initEach noLev noLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = V9 m (outs m) c b)
    (hfin := fun c s' => by
      unfold StableHlo.held
      iintro ⟨Hh, HSI⟩
      ihave Hr := (pointsTo_read_all (Pipeline.ucRefs τ sig) (fun b => ((c : Thread nD τ).1, b)) (V9 m (outs m) c) s') $$ [Hh HSI]
      · isplitl [Hh] <;> iassumption
      imodintro
      iexact Hr)
    (hQ := fun _ h hz => ⟨h, funext fun g => hz g (.inr (regions_no_unscoped g.2))⟩)

end Cert.Proof.KernelIdeal
-- ==== Proof.I.Frame.lean ====
/-
  The frame: @main terminates, the arguments are as launched and every semaphore is at zero.
-/
module

public import proofs.«01_k».proof.Proof.I.Run
public import proofs.«01_k».proof.Defs

@[expose] public section

set_option maxRecDepth 16384

noncomputable section

namespace Cert.Proof.KernelIdeal

open Cert.KernelIdeal Cert.KernelIdeal.Gen
open Idealize.ShloMosaic Idealize.ShloMosaic.TcCoe
open Idealize.SL.Sem

variable {F : FTy → Type} [FloatOps F]

/-- What a final memory holds that agrees with the last valuation: each argument as launched. -/
theorem args_kept (m s : (ℓ : Loc nD τ sig) → Buf (Elt F) ℓ) (c : Dev nD)
    (h : ∀ b ∈ Pipeline.ucRefs τ sig, s ((c : Thread nD τ).1, b) = V9 m (outs m) c b) :
    s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6)
    ∧ s ((c.tc : Thread nD τ).loc main_arg7) = m ((c.tc : Thread nD τ).loc main_arg7)
    ∧ s ((c.tc : Thread nD τ).loc main_arg8) = m ((c.tc : Thread nD τ).loc main_arg8)
    ∧ s ((c.tc : Thread nD τ).loc main_arg9) = m ((c.tc : Thread nD τ).loc main_arg9)
    ∧ s ((c.tc : Thread nD τ).loc main_arg10) = m ((c.tc : Thread nD τ).loc main_arg10)
    ∧ s ((c.tc : Thread nD τ).loc main_arg11) = m ((c.tc : Thread nD τ).loc main_arg11)
    ∧ s ((c.tc : Thread nD τ).loc main_arg12) = m ((c.tc : Thread nD τ).loc main_arg12)
    ∧ s ((c.tc : Thread nD τ).loc main_arg13) = m ((c.tc : Thread nD τ).loc main_arg13)
    ∧ s ((c.tc : Thread nD τ).loc main_arg14) = m ((c.tc : Thread nD τ).loc main_arg14)
    ∧ s ((c.tc : Thread nD τ).loc main_arg15) = m ((c.tc : Thread nD τ).loc main_arg15)
    ∧ s ((c.tc : Thread nD τ).loc main_arg16) = m ((c.tc : Thread nD τ).loc main_arg16)
    ∧ s ((c.tc : Thread nD τ).loc main_arg17) = m ((c.tc : Thread nD τ).loc main_arg17)
    ∧ s ((c.tc : Thread nD τ).loc main_arg18) = m ((c.tc : Thread nD τ).loc main_arg18)
    ∧ s ((c.tc : Thread nD τ).loc main_arg19) = m ((c.tc : Thread nD τ).loc main_arg19)
    ∧ s ((c.tc : Thread nD τ).loc main_arg20) = m ((c.tc : Thread nD τ).loc main_arg20)
    ∧ s ((c.tc : Thread nD τ).loc main_arg21) = m ((c.tc : Thread nD τ).loc main_arg21) :=
  ⟨(h (Proc.devRef .tc main_arg0) (Finset.mem_filter.mpr ⟨StableHlo.devRef_mem_tcRefs main_arg0, by decide⟩)).trans (V9_main_arg0 m (outs m) c),
    (h (Proc.devRef .tc main_arg1) (Finset.mem_filter.mpr ⟨StableHlo.devRef_mem_tcRefs main_arg1, by decide⟩)).trans (V9_main_arg1 m (outs m) c),
    (h (Proc.devRef .tc main_arg2) (Finset.mem_filter.mpr ⟨StableHlo.devRef_mem_tcRefs main_arg2, by decide⟩)).trans (V9_main_arg2 m (outs m) c),
    (h (Proc.devRef .tc main_arg3) (Finset.mem_filter.mpr ⟨StableHlo.devRef_mem_tcRefs main_arg3, by decide⟩)).trans (V9_main_arg3 m (outs m) c),
    (h (Proc.devRef .tc main_arg4) (Finset.mem_filter.mpr ⟨StableHlo.devRef_mem_tcRefs main_arg4, by decide⟩)).trans (V9_main_arg4 m (outs m) c),
    (h (Proc.devRef .tc main_arg5) (Finset.mem_filter.mpr ⟨StableHlo.devRef_mem_tcRefs main_arg5, by decide⟩)).trans (V9_main_arg5 m (outs m) c),
    (h (Proc.devRef .tc main_arg6) (Finset.mem_filter.mpr ⟨StableHlo.devRef_mem_tcRefs main_arg6, by decide⟩)).trans (V9_main_arg6 m (outs m) c),
    (h (Proc.devRef .tc main_arg7) (Finset.mem_filter.mpr ⟨StableHlo.devRef_mem_tcRefs main_arg7, by decide⟩)).trans (V9_main_arg7 m (outs m) c),
    (h (Proc.devRef .tc main_arg8) (Finset.mem_filter.mpr ⟨StableHlo.devRef_mem_tcRefs main_arg8, by decide⟩)).trans (V9_main_arg8 m (outs m) c),
    (h (Proc.devRef .tc main_arg9) (Finset.mem_filter.mpr ⟨StableHlo.devRef_mem_tcRefs main_arg9, by decide⟩)).trans (V9_main_arg9 m (outs m) c),
    (h (Proc.devRef .tc main_arg10) (Finset.mem_filter.mpr ⟨StableHlo.devRef_mem_tcRefs main_arg10, by decide⟩)).trans (V9_main_arg10 m (outs m) c),
    (h (Proc.devRef .tc main_arg11) (Finset.mem_filter.mpr ⟨StableHlo.devRef_mem_tcRefs main_arg11, by decide⟩)).trans (V9_main_arg11 m (outs m) c),
    (h (Proc.devRef .tc main_arg12) (Finset.mem_filter.mpr ⟨StableHlo.devRef_mem_tcRefs main_arg12, by decide⟩)).trans (V9_main_arg12 m (outs m) c),
    (h (Proc.devRef .tc main_arg13) (Finset.mem_filter.mpr ⟨StableHlo.devRef_mem_tcRefs main_arg13, by decide⟩)).trans (V9_main_arg13 m (outs m) c),
    (h (Proc.devRef .tc main_arg14) (Finset.mem_filter.mpr ⟨StableHlo.devRef_mem_tcRefs main_arg14, by decide⟩)).trans (V9_main_arg14 m (outs m) c),
    (h (Proc.devRef .tc main_arg15) (Finset.mem_filter.mpr ⟨StableHlo.devRef_mem_tcRefs main_arg15, by decide⟩)).trans (V9_main_arg15 m (outs m) c),
    (h (Proc.devRef .tc main_arg16) (Finset.mem_filter.mpr ⟨StableHlo.devRef_mem_tcRefs main_arg16, by decide⟩)).trans (V9_main_arg16 m (outs m) c),
    (h (Proc.devRef .tc main_arg17) (Finset.mem_filter.mpr ⟨StableHlo.devRef_mem_tcRefs main_arg17, by decide⟩)).trans (V9_main_arg17 m (outs m) c),
    (h (Proc.devRef .tc main_arg18) (Finset.mem_filter.mpr ⟨StableHlo.devRef_mem_tcRefs main_arg18, by decide⟩)).trans (V9_main_arg18 m (outs m) c),
    (h (Proc.devRef .tc main_arg19) (Finset.mem_filter.mpr ⟨StableHlo.devRef_mem_tcRefs main_arg19, by decide⟩)).trans (V9_main_arg19 m (outs m) c),
    (h (Proc.devRef .tc main_arg20) (Finset.mem_filter.mpr ⟨StableHlo.devRef_mem_tcRefs main_arg20, by decide⟩)).trans (V9_main_arg20 m (outs m) c),
    (h (Proc.devRef .tc main_arg21) (Finset.mem_filter.mpr ⟨StableHlo.devRef_mem_tcRefs main_arg21, by decide⟩)).trans (V9_main_arg21 m (outs m) c)⟩

end Cert.Proof.KernelIdeal
-- ==== Proof.Ref.Ops.lean ====
/-
  The reference program as lines of host operations. Its main function is five straight lines with four counted
  host loops between them; each loop's body is one straight line. The lists are found by matching the printed
  program against `seqK`, so that no operation is written twice.
-/
module

public import proofs.«01_k».proof.Proof.Gen.ReferenceIdeal
public import Idealize.ShloMosaic.Lib.StableHlo.RunLoop
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.StableHlo
open Idealize.SL.Sem

variable {F : FTy → Type} [FloatOps F]

/-- A program of this module's kind. -/
abbrev RProg (F : FTy → Type) [FloatOps F] (R : Type) : Type 1 :=
  Prog (TpuEff nD τ sig (Elt F) (HostLoop.Sig (Pipeline.Sig Λ₀ (Fin 0) fun p => (pcfgs (F := F) p).Adm) 4) .tc) R

/-- An operation's step in front of a line is a line one longer. -/
theorem line_cons {op : HloOp τ sig (Elt F)} {ops : List (HloOp τ sig (Elt F))} {k k' : RProg F PUnit} (h : k = seqK ops k') :
    ((hlo rfl op fun _ => .ret (⟨⟩ : PUnit)) >>= fun _ => k : RProg F PUnit) = seqK (op :: ops) k' := by
  subst h; rfl

/-- The empty line. -/
theorem line_nil {k : RProg F PUnit} : k = seqK [] k := rfl

/-- A loop's entry ends a line. -/
theorem line_enter {l : Fin 4} {k k' : RProg F PUnit} (h : k = k') :
    (HostLoop.enter l >>= fun _ => k : RProg F PUnit) = seqK [] (HostLoop.enter l >>= fun _ => k') := by subst h; rfl

/-- The body of loop 0 as one line of operations. -/
def body0 : { ops : List (HloOp τ sig (Elt F)) // (main_while0_body : RProg F PUnit) = seqK ops (pure ⟨⟩) } := by
  apply Subtype.mk
  unfold main_while0_body
  simp only [fn_dynamic_index_in_dim.body, fn_dynamic_update_index_in_dim.body, bind_assoc, pure_bind]
  repeat apply line_cons (F := F)
  exact line_nil (F := F)

/-- The body of loop 1 as one line of operations. -/
def body1 : { ops : List (HloOp τ sig (Elt F)) // (main_while1_body : RProg F PUnit) = seqK ops (pure ⟨⟩) } := by
  apply Subtype.mk
  unfold main_while1_body
  simp only [fn_dynamic_index_in_dim_0.body, fn_dynamic_update_index_in_dim.body, bind_assoc, pure_bind]
  repeat apply line_cons (F := F)
  exact line_nil (F := F)

/-- The body of loop 2 as one line of operations. -/
def body2 : { ops : List (HloOp τ sig (Elt F)) // (main_while2_body : RProg F PUnit) = seqK ops (pure ⟨⟩) } := by
  apply Subtype.mk
  unfold main_while2_body
  simp only [fn_dynamic_index_in_dim.body, fn_dynamic_update_index_in_dim.body, bind_assoc, pure_bind]
  repeat apply line_cons (F := F)
  exact line_nil (F := F)

/-- The body of loop 3 as one line of operations. -/
def body3 : { ops : List (HloOp τ sig (Elt F)) // (main_while3_body : RProg F PUnit) = seqK ops (pure ⟨⟩) } := by
  apply Subtype.mk
  unfold main_while3_body
  simp only [fn_dynamic_index_in_dim_0.body, fn_dynamic_update_index_in_dim.body, bind_assoc, pure_bind]
  repeat apply line_cons (F := F)
  exact line_nil (F := F)

/-- The main function as five lines with the four loops between them. -/
structure MainLines (F : FTy → Type) [FloatOps F] where
  (l0 l1 l2 l3 l4 : List (HloOp τ sig (Elt F)))
  eq : ∀ d, (main d : RProg F PUnit) = seqK l0 (HostLoop.enter 0 >>= fun _ => seqK l1 (HostLoop.enter 1 >>= fun _ =>
    seqK l2 (HostLoop.enter 2 >>= fun _ => seqK l3 (HostLoop.enter 3 >>= fun _ => seqK l4 (pure ⟨⟩)))))

set_option maxHeartbeats 4000000 in
/-- The printed main function's lines. -/
def mainLines : MainLines F := by
  apply MainLines.mk
  intro d
  unfold main main_part0 main_part1 main_part2 main_part3
  simp only [fn_pad.body, fn_relu.body, fn_clip.body, bind_assoc, pure_bind]
  repeat apply line_cons (F := F)
  apply line_enter (F := F)
  repeat apply line_cons (F := F)
  apply line_enter (F := F)
  repeat apply line_cons (F := F)
  apply line_enter (F := F)
  repeat apply line_cons (F := F)
  apply line_enter (F := F)
  repeat apply line_cons (F := F)
  exact line_nil (F := F)

end Cert.Proof.Ref

end
-- ==== Proof.Ref.Run.lean ====
/-
  The four host loops of the reference program: their conditions, their counters and their bodies as plain lines.
-/
module

public import proofs.«01_k».proof.Proof.Ref.Ops
public import Idealize.ShloMosaic.Lib.Scf.ExitTest
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

variable {F : FTy → Type} [FloatOps F]

-- no ghost state of the proof's own is used: the program launches no kernel
local notation "𝕄" => MT nD τ sig Unit (Elt F) ℕ (Option PUnit) ℕ

/-- No pipeline is admitted anything. -/
abbrev adm : (p : Fin 0) → (pcfgs (F := F) p).Adm := fun p => p.elim0
/-- No ticket is consumed. -/
abbrev tk : Fin 0 → Ticket (Ix := Unit) (Name := ℕ) (U := Option PUnit) (Lvl := ℕ) (nD := nD) (τ := τ) (pcfgs (F := F)) adm := fun j => j.elim0
/-- No cell has a level. -/
abbrev L0 : GSem nD τ sig → Finset Unit := fun _ => ∅
/-- The level of no cell. -/
abbrev lv0 : GSem nD τ sig → Unit → ℕ := fun _ _ => 0

/-- Beside the buffers each core holds its (empty) debts. -/
abbrev Rw (c : Dev nD) : sProp 𝕄 := iprop(∃ W, owes (c : Thread nD τ) (0 : CellTallies nD τ sig Unit) W)

omit [FloatOps F] in
/-- Plain lines are built an operation at a time. -/
theorem plain_cons {op : HloOp τ sig (Elt F)} {ops : List (HloOp τ sig (Elt F))} (h : op.bufs ⊆ tcRefs τ sig) (hf : op.fresh = ∅)
    (t : Plain [ops]) : Plain [op :: ops] := fun o ho => by
  obtain rfl : o = op :: ops := by simpa using ho
  have t' := t ops List.mem_cons_self
  exact ⟨fun x hx => (List.mem_cons.mp hx).elim (fun e => e ▸ h) (t'.1 x), fun x hx => (List.mem_cons.mp hx).elim (fun e => e ▸ hf) (t'.2 x)⟩

omit [FloatOps F] in
theorem plain_nil : Plain ([[]] : List (List (HloOp τ sig (Elt F)))) := fun o ho => by
  obtain rfl : o = [] := by simpa using ho
  exact ⟨fun _ h => absurd h List.not_mem_nil, fun _ h => absurd h List.not_mem_nil⟩

theorem cells_inj : Function.Injective (Pipeline.cellOf (nD := nD) (τ := τ) (Pipeline.pin (pcfgs (F := F)) adm)) :=
  fun k => k.1.elim0

/-! ## Loop 0 -/

/-- The two operations of loop 0's condition. -/
abbrev cond0 : List (HloOp τ sig (Elt F)) :=
  [nullary main_while0c_c_29 (constantI S_ 32 32#32), binary main_v103_5 main_while0c_c_29 main_while0c_v144 (cmpi .slt)]

theorem body0_plain : Plain [(body0 (F := F)).1] := by
  unfold body0
  repeat refine plain_cons (by first | with_reducible exact nullary_bufs_sub .. | with_reducible exact unary_bufs_sub .. | with_reducible exact binary_bufs_sub .. | with_reducible exact ternary_bufs_sub .. | with_reducible exact reshape_bufs_sub .. | (unfold TRef.unaryIndexed; exact unaryIndexed_bufs_sub ..) | (unfold TRef.binaryIndexed; exact binaryIndexed_bufs_sub ..) | (unfold TRef.reshape; exact reshape_bufs_sub ..)      ) rfl ?_
  exact plain_nil

/-- A trip adds one to the loop's counter. -/
theorem body0_ctr (V : Valuation τ sig (Elt F)) :
    after body0.1 V main_v103_5 = addi (V main_v103_5) (constantI S_ 32 1#32) := by
  dsimp only [body0]
  after_reads_simp
  rfl

/-- The condition's operations leave every buffer but their own two. -/
theorem cond0_of_ne (V : Valuation τ sig (Elt F)) {r : Ref sig .tc} (h : r ∉ [main_while0c_c_29, main_while0c_v144]) :
    after cond0 V r = V r := by
  refine after_of_writes_sub cond0 V (forall_writes_sub_of_map ?_) h
  rfl

/-- The buffers before trip `k` of loop 0, entered at `W`. -/
abbrev at0 (W : Valuation τ sig (Elt F)) (k : ℕ) : Valuation τ sig (Elt F) :=
  atTrip (nD := nD) cond0 [body0.1] (fun _ => W) k 0

/-- The counter before trip `k` is `k`. -/
theorem at0_ctr (W : Dev nD → Valuation τ sig (Elt F)) (c : Dev nD) (h0 : W c main_v103_5 = fun _ => (0#32 : BitVec 32)) :
    ∀ k, atTrip cond0 [body0.1] W k c main_v103_5 = fun _ => Scf.iv (0#32 : BitVec 32) 1#32 k
  | 0 => by rw [atTrip_zero, h0]; funext; rw [Scf.iv_zero]
  | k + 1 => by
    rw [atTrip_succ, afterL_cons, afterL_nil, body0_ctr, cond0_of_ne _ (by decide), at0_ctr W c h0 k]
    funext i
    rw [Scf.iv_succ]
    rfl

/-- Loop 0's condition holds before trip `k` exactly when `k < 32`. -/
theorem cond0_spec (W : Dev nD → Valuation τ sig (Elt F)) (h0 : ∀ c, W c main_v103_5 = fun _ => (0#32 : BitVec 32)) :
    LoopCond (Ix := Unit) (Name := ℕ) (U := Option PUnit) (Lvl := ℕ) (pcfgs (F := F)) defs₀ Variants.none loops Rw main_while0_cond cond0 [body0.1] W 32 := by
  intro k hk c bd
  have hctr := at0_ctr W c (h0 c) k
  simp only [main_while0_cond, bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  set_option backward.isDefEq.respectTransparency false in rw [HostLoop.elt_apply, wp_ret]
  imodintro
  isplitr
  · ipureintro
    show Iff (IntOp.cmpi .slt (HloOp.result _ (atTrip cond0 [body0.1] W k c) main_v103_5 HostLoop.idx0)
        (HloOp.result _ (atTrip cond0 [body0.1] W k c) main_while0c_c_29 HostLoop.idx0) = 1#1) (k < 32)
    rw [StableHlo.nullary_result_ne _ _ _ _ (by decide), StableHlo.nullary_result, hctr]
    exact Scf.cmpi_slt_iv_ub_iff (lb := 0#32) (ub := 32#32) (st := 1#32) main_while0_ok hk
  isplitl [Hb]; · iexact Hb
  isplitl [Hh]
  · rw [StableHlo.after_cons, StableHlo.after_cons, StableHlo.after_nil]; iexact Hh
  iexact HR

/-! ## Loop 1 -/

/-- The two operations of loop 1's condition. -/
abbrev cond1 : List (HloOp τ sig (Elt F)) :=
  [nullary main_while1c_c_29 (constantI S_ 32 32#32), binary main_v105_5 main_while1c_c_29 main_while1c_v144 (cmpi .slt)]

theorem body1_plain : Plain [(body1 (F := F)).1] := by
  unfold body1
  repeat refine plain_cons (by first | with_reducible exact nullary_bufs_sub .. | with_reducible exact unary_bufs_sub .. | with_reducible exact binary_bufs_sub .. | with_reducible exact ternary_bufs_sub .. | with_reducible exact reshape_bufs_sub .. | (unfold TRef.unaryIndexed; exact unaryIndexed_bufs_sub ..) | (unfold TRef.binaryIndexed; exact binaryIndexed_bufs_sub ..) | (unfold TRef.reshape; exact reshape_bufs_sub ..)      ) rfl ?_
  exact plain_nil

/-- A trip adds one to the loop's counter. -/
theorem body1_ctr (V : Valuation τ sig (Elt F)) :
    after body1.1 V main_v105_5 = addi (V main_v105_5) (constantI S_ 32 1#32) := by
  dsimp only [body1]
  after_reads_simp
  rfl

/-- The condition's operations leave every buffer but their own two. -/
theorem cond1_of_ne (V : Valuation τ sig (Elt F)) {r : Ref sig .tc} (h : r ∉ [main_while1c_c_29, main_while1c_v144]) :
    after cond1 V r = V r := by
  refine after_of_writes_sub cond1 V (forall_writes_sub_of_map ?_) h
  rfl

/-- The buffers before trip `k` of loop 1, entered at `W`. -/
abbrev at1 (W : Valuation τ sig (Elt F)) (k : ℕ) : Valuation τ sig (Elt F) :=
  atTrip (nD := nD) cond1 [body1.1] (fun _ => W) k 0

/-- The counter before trip `k` is `k`. -/
theorem at1_ctr (W : Dev nD → Valuation τ sig (Elt F)) (c : Dev nD) (h0 : W c main_v105_5 = fun _ => (0#32 : BitVec 32)) :
    ∀ k, atTrip cond1 [body1.1] W k c main_v105_5 = fun _ => Scf.iv (0#32 : BitVec 32) 1#32 k
  | 0 => by rw [atTrip_zero, h0]; funext; rw [Scf.iv_zero]
  | k + 1 => by
    rw [atTrip_succ, afterL_cons, afterL_nil, body1_ctr, cond1_of_ne _ (by decide), at1_ctr W c h0 k]
    funext i
    rw [Scf.iv_succ]
    rfl

/-- Loop 1's condition holds before trip `k` exactly when `k < 32`. -/
theorem cond1_spec (W : Dev nD → Valuation τ sig (Elt F)) (h0 : ∀ c, W c main_v105_5 = fun _ => (0#32 : BitVec 32)) :
    LoopCond (Ix := Unit) (Name := ℕ) (U := Option PUnit) (Lvl := ℕ) (pcfgs (F := F)) defs₀ Variants.none loops Rw main_while1_cond cond1 [body1.1] W 32 := by
  intro k hk c bd
  have hctr := at1_ctr W c (h0 c) k
  simp only [main_while1_cond, bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  set_option backward.isDefEq.respectTransparency false in rw [HostLoop.elt_apply, wp_ret]
  imodintro
  isplitr
  · ipureintro
    show Iff (IntOp.cmpi .slt (HloOp.result _ (atTrip cond1 [body1.1] W k c) main_v105_5 HostLoop.idx0)
        (HloOp.result _ (atTrip cond1 [body1.1] W k c) main_while1c_c_29 HostLoop.idx0) = 1#1) (k < 32)
    rw [StableHlo.nullary_result_ne _ _ _ _ (by decide), StableHlo.nullary_result, hctr]
    exact Scf.cmpi_slt_iv_ub_iff (lb := 0#32) (ub := 32#32) (st := 1#32) main_while1_ok hk
  isplitl [Hb]; · iexact Hb
  isplitl [Hh]
  · rw [StableHlo.after_cons, StableHlo.after_cons, StableHlo.after_nil]; iexact Hh
  iexact HR

/-! ## Loop 2 -/

/-- The two operations of loop 2's condition. -/
abbrev cond2 : List (HloOp τ sig (Elt F)) :=
  [nullary main_while2c_c_29 (constantI S_ 32 32#32), binary main_v123_5 main_while2c_c_29 main_while2c_v144 (cmpi .slt)]

theorem body2_plain : Plain [(body2 (F := F)).1] := by
  unfold body2
  repeat refine plain_cons (by first | with_reducible exact nullary_bufs_sub .. | with_reducible exact unary_bufs_sub .. | with_reducible exact binary_bufs_sub .. | with_reducible exact ternary_bufs_sub .. | with_reducible exact reshape_bufs_sub .. | (unfold TRef.unaryIndexed; exact unaryIndexed_bufs_sub ..) | (unfold TRef.binaryIndexed; exact binaryIndexed_bufs_sub ..) | (unfold TRef.reshape; exact reshape_bufs_sub ..)      ) rfl ?_
  exact plain_nil

/-- A trip adds one to the loop's counter. -/
theorem body2_ctr (V : Valuation τ sig (Elt F)) :
    after body2.1 V main_v123_5 = addi (V main_v123_5) (constantI S_ 32 1#32) := by
  dsimp only [body2]
  after_reads_simp
  rfl

/-- The condition's operations leave every buffer but their own two. -/
theorem cond2_of_ne (V : Valuation τ sig (Elt F)) {r : Ref sig .tc} (h : r ∉ [main_while2c_c_29, main_while2c_v144]) :
    after cond2 V r = V r := by
  refine after_of_writes_sub cond2 V (forall_writes_sub_of_map ?_) h
  rfl

/-- The buffers before trip `k` of loop 2, entered at `W`. -/
abbrev at2 (W : Valuation τ sig (Elt F)) (k : ℕ) : Valuation τ sig (Elt F) :=
  atTrip (nD := nD) cond2 [body2.1] (fun _ => W) k 0

/-- The counter before trip `k` is `k`. -/
theorem at2_ctr (W : Dev nD → Valuation τ sig (Elt F)) (c : Dev nD) (h0 : W c main_v123_5 = fun _ => (0#32 : BitVec 32)) :
    ∀ k, atTrip cond2 [body2.1] W k c main_v123_5 = fun _ => Scf.iv (0#32 : BitVec 32) 1#32 k
  | 0 => by rw [atTrip_zero, h0]; funext; rw [Scf.iv_zero]
  | k + 1 => by
    rw [atTrip_succ, afterL_cons, afterL_nil, body2_ctr, cond2_of_ne _ (by decide), at2_ctr W c h0 k]
    funext i
    rw [Scf.iv_succ]
    rfl

/-- Loop 2's condition holds before trip `k` exactly when `k < 32`. -/
theorem cond2_spec (W : Dev nD → Valuation τ sig (Elt F)) (h0 : ∀ c, W c main_v123_5 = fun _ => (0#32 : BitVec 32)) :
    LoopCond (Ix := Unit) (Name := ℕ) (U := Option PUnit) (Lvl := ℕ) (pcfgs (F := F)) defs₀ Variants.none loops Rw main_while2_cond cond2 [body2.1] W 32 := by
  intro k hk c bd
  have hctr := at2_ctr W c (h0 c) k
  simp only [main_while2_cond, bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  set_option backward.isDefEq.respectTransparency false in rw [HostLoop.elt_apply, wp_ret]
  imodintro
  isplitr
  · ipureintro
    show Iff (IntOp.cmpi .slt (HloOp.result _ (atTrip cond2 [body2.1] W k c) main_v123_5 HostLoop.idx0)
        (HloOp.result _ (atTrip cond2 [body2.1] W k c) main_while2c_c_29 HostLoop.idx0) = 1#1) (k < 32)
    rw [StableHlo.nullary_result_ne _ _ _ _ (by decide), StableHlo.nullary_result, hctr]
    exact Scf.cmpi_slt_iv_ub_iff (lb := 0#32) (ub := 32#32) (st := 1#32) main_while2_ok hk
  isplitl [Hb]; · iexact Hb
  isplitl [Hh]
  · rw [StableHlo.after_cons, StableHlo.after_cons, StableHlo.after_nil]; iexact Hh
  iexact HR

/-! ## Loop 3 -/

/-- The two operations of loop 3's condition. -/
abbrev cond3 : List (HloOp τ sig (Elt F)) :=
  [nullary main_while3c_c_29 (constantI S_ 32 32#32), binary main_v125_5 main_while3c_c_29 main_while3c_v144 (cmpi .slt)]

theorem body3_plain : Plain [(body3 (F := F)).1] := by
  unfold body3
  repeat refine plain_cons (by first | with_reducible exact nullary_bufs_sub .. | with_reducible exact unary_bufs_sub .. | with_reducible exact binary_bufs_sub .. | with_reducible exact ternary_bufs_sub .. | with_reducible exact reshape_bufs_sub .. | (unfold TRef.unaryIndexed; exact unaryIndexed_bufs_sub ..) | (unfold TRef.binaryIndexed; exact binaryIndexed_bufs_sub ..) | (unfold TRef.reshape; exact reshape_bufs_sub ..)      ) rfl ?_
  exact plain_nil

/-- A trip adds one to the loop's counter. -/
theorem body3_ctr (V : Valuation τ sig (Elt F)) :
    after body3.1 V main_v125_5 = addi (V main_v125_5) (constantI S_ 32 1#32) := by
  dsimp only [body3]
  after_reads_simp
  rfl

/-- The condition's operations leave every buffer but their own two. -/
theorem cond3_of_ne (V : Valuation τ sig (Elt F)) {r : Ref sig .tc} (h : r ∉ [main_while3c_c_29, main_while3c_v144]) :
    after cond3 V r = V r := by
  refine after_of_writes_sub cond3 V (forall_writes_sub_of_map ?_) h
  rfl

/-- The buffers before trip `k` of loop 3, entered at `W`. -/
abbrev at3 (W : Valuation τ sig (Elt F)) (k : ℕ) : Valuation τ sig (Elt F) :=
  atTrip (nD := nD) cond3 [body3.1] (fun _ => W) k 0

/-- The counter before trip `k` is `k`. -/
theorem at3_ctr (W : Dev nD → Valuation τ sig (Elt F)) (c : Dev nD) (h0 : W c main_v125_5 = fun _ => (0#32 : BitVec 32)) :
    ∀ k, atTrip cond3 [body3.1] W k c main_v125_5 = fun _ => Scf.iv (0#32 : BitVec 32) 1#32 k
  | 0 => by rw [atTrip_zero, h0]; funext; rw [Scf.iv_zero]
  | k + 1 => by
    rw [atTrip_succ, afterL_cons, afterL_nil, body3_ctr, cond3_of_ne _ (by decide), at3_ctr W c h0 k]
    funext i
    rw [Scf.iv_succ]
    rfl

/-- Loop 3's condition holds before trip `k` exactly when `k < 32`. -/
theorem cond3_spec (W : Dev nD → Valuation τ sig (Elt F)) (h0 : ∀ c, W c main_v125_5 = fun _ => (0#32 : BitVec 32)) :
    LoopCond (Ix := Unit) (Name := ℕ) (U := Option PUnit) (Lvl := ℕ) (pcfgs (F := F)) defs₀ Variants.none loops Rw main_while3_cond cond3 [body3.1] W 32 := by
  intro k hk c bd
  have hctr := at3_ctr W c (h0 c) k
  simp only [main_while3_cond, bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  set_option backward.isDefEq.respectTransparency false in rw [HostLoop.elt_apply, wp_ret]
  imodintro
  isplitr
  · ipureintro
    show Iff (IntOp.cmpi .slt (HloOp.result _ (atTrip cond3 [body3.1] W k c) main_v125_5 HostLoop.idx0)
        (HloOp.result _ (atTrip cond3 [body3.1] W k c) main_while3c_c_29 HostLoop.idx0) = 1#1) (k < 32)
    rw [StableHlo.nullary_result_ne _ _ _ _ (by decide), StableHlo.nullary_result, hctr]
    exact Scf.cmpi_slt_iv_ub_iff (lb := 0#32) (ub := 32#32) (st := 1#32) main_while3_ok hk
  isplitl [Hb]; · iexact Hb
  isplitl [Hh]
  · rw [StableHlo.after_cons, StableHlo.after_cons, StableHlo.after_nil]; iexact Hh
  iexact HR

end Cert.Proof.Ref

end
-- ==== Proof.Ref.Main.lean ====
/-
  The run of the reference program: every execution terminates, every semaphore ends at zero, and every buffer of a
  tensor value ends at the fold of the five lines and the four loops of thirty-two trips.
-/
module

public import proofs.«01_k».proof.Proof.Ref.Run
public import Idealize.ShloMosaic.Lib.Scf.ExitTest
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

variable {F : FTy → Type} [FloatOps F]

-- no ghost state of the proof's own is used: the program launches no kernel
local notation "𝕄" => MT nD τ sig Unit (Elt F) ℕ (Option PUnit) ℕ

/-! ## The main function -/

theorem line0_plain : Plain [(mainLines (F := F)).l0] := by
  unfold mainLines
  repeat refine plain_cons (by first | with_reducible exact nullary_bufs_sub .. | with_reducible exact unary_bufs_sub .. | with_reducible exact binary_bufs_sub .. | with_reducible exact ternary_bufs_sub .. | with_reducible exact reshape_bufs_sub .. | (unfold TRef.unaryIndexed; exact unaryIndexed_bufs_sub ..) | (unfold TRef.binaryIndexed; exact binaryIndexed_bufs_sub ..) | (unfold TRef.reshape; exact reshape_bufs_sub ..)    ) rfl ?_
  exact plain_nil

theorem line1_plain : Plain [(mainLines (F := F)).l1] := by
  unfold mainLines
  repeat refine plain_cons (by first | with_reducible exact nullary_bufs_sub .. | with_reducible exact unary_bufs_sub .. | with_reducible exact binary_bufs_sub .. | with_reducible exact ternary_bufs_sub .. | with_reducible exact reshape_bufs_sub .. | (unfold TRef.unaryIndexed; exact unaryIndexed_bufs_sub ..) | (unfold TRef.binaryIndexed; exact binaryIndexed_bufs_sub ..) | (unfold TRef.reshape; exact reshape_bufs_sub ..)    ) rfl ?_
  exact plain_nil

theorem line2_plain : Plain [(mainLines (F := F)).l2] := by
  unfold mainLines
  repeat refine plain_cons (by first | with_reducible exact nullary_bufs_sub .. | with_reducible exact unary_bufs_sub .. | with_reducible exact binary_bufs_sub .. | with_reducible exact ternary_bufs_sub .. | with_reducible exact reshape_bufs_sub .. | (unfold TRef.unaryIndexed; exact unaryIndexed_bufs_sub ..) | (unfold TRef.binaryIndexed; exact binaryIndexed_bufs_sub ..) | (unfold TRef.reshape; exact reshape_bufs_sub ..)    ) rfl ?_
  exact plain_nil

theorem line3_plain : Plain [(mainLines (F := F)).l3] := by
  unfold mainLines
  repeat refine plain_cons (by first | with_reducible exact nullary_bufs_sub .. | with_reducible exact unary_bufs_sub .. | with_reducible exact binary_bufs_sub .. | with_reducible exact ternary_bufs_sub .. | with_reducible exact reshape_bufs_sub .. | (unfold TRef.unaryIndexed; exact unaryIndexed_bufs_sub ..) | (unfold TRef.binaryIndexed; exact binaryIndexed_bufs_sub ..) | (unfold TRef.reshape; exact reshape_bufs_sub ..)    ) rfl ?_
  exact plain_nil

theorem line4_plain : Plain [(mainLines (F := F)).l4] := by
  unfold mainLines
  repeat refine plain_cons (by first | with_reducible exact nullary_bufs_sub .. | with_reducible exact unary_bufs_sub .. | with_reducible exact binary_bufs_sub .. | with_reducible exact ternary_bufs_sub .. | with_reducible exact reshape_bufs_sub .. | (unfold TRef.unaryIndexed; exact unaryIndexed_bufs_sub ..) | (unfold TRef.binaryIndexed; exact binaryIndexed_bufs_sub ..) | (unfold TRef.reshape; exact reshape_bufs_sub ..)    ) rfl ?_
  exact plain_nil

/-- Loop 0 is entered with its counter at zero. -/
theorem line0_ctr (V : Valuation τ sig (Elt F)) : after mainLines.l0 V main_v103_5 = fun _ => (0#32 : BitVec 32) := by
  dsimp only [mainLines]
  after_reads_simp
  rfl

/-- Loop 1 is entered with its counter at zero. -/
theorem line1_ctr (V : Valuation τ sig (Elt F)) : after mainLines.l1 V main_v105_5 = fun _ => (0#32 : BitVec 32) := by
  dsimp only [mainLines]
  after_reads_simp
  rfl

/-- Loop 2 is entered with its counter at zero. -/
theorem line2_ctr (V : Valuation τ sig (Elt F)) : after mainLines.l2 V main_v123_5 = fun _ => (0#32 : BitVec 32) := by
  dsimp only [mainLines]
  after_reads_simp
  rfl

/-- Loop 3 is entered with its counter at zero. -/
theorem line3_ctr (V : Valuation τ sig (Elt F)) : after mainLines.l3 V main_v125_5 = fun _ => (0#32 : BitVec 32) := by
  dsimp only [mainLines]
  after_reads_simp
  rfl

/-- The buffers at the main function's start, from the memory `m`. -/
abbrev S0 (m : (ℓ : Loc nD τ sig) → Buf (Elt F) ℓ) (c : Dev nD) : Valuation τ sig (Elt F) := launchContents m c
/-- The buffers where loop 0 is entered. -/
abbrev W0 (m : (ℓ : Loc nD τ sig) → Buf (Elt F) ℓ) (c : Dev nD) : Valuation τ sig (Elt F) := after mainLines.l0 (S0 m c)
/-- The buffers where loop 0 is left. -/
abbrev E0 (m : (ℓ : Loc nD τ sig) → Buf (Elt F) ℓ) (c : Dev nD) : Valuation τ sig (Elt F) := after cond0 (atTrip cond0 [body0.1] (W0 m) 32 c)
/-- The buffers where loop 1 is entered. -/
abbrev W1 (m : (ℓ : Loc nD τ sig) → Buf (Elt F) ℓ) (c : Dev nD) : Valuation τ sig (Elt F) := after mainLines.l1 (E0 m c)
/-- The buffers where loop 1 is left. -/
abbrev E1 (m : (ℓ : Loc nD τ sig) → Buf (Elt F) ℓ) (c : Dev nD) : Valuation τ sig (Elt F) := after cond1 (atTrip cond1 [body1.1] (W1 m) 32 c)
/-- The buffers where loop 2 is entered. -/
abbrev W2 (m : (ℓ : Loc nD τ sig) → Buf (Elt F) ℓ) (c : Dev nD) : Valuation τ sig (Elt F) := after mainLines.l2 (E1 m c)
/-- The buffers where loop 2 is left. -/
abbrev E2 (m : (ℓ : Loc nD τ sig) → Buf (Elt F) ℓ) (c : Dev nD) : Valuation τ sig (Elt F) := after cond2 (atTrip cond2 [body2.1] (W2 m) 32 c)
/-- The buffers where loop 3 is entered. -/
abbrev W3 (m : (ℓ : Loc nD τ sig) → Buf (Elt F) ℓ) (c : Dev nD) : Valuation τ sig (Elt F) := after mainLines.l3 (E2 m c)
/-- The buffers where loop 3 is left. -/
abbrev E3 (m : (ℓ : Loc nD τ sig) → Buf (Elt F) ℓ) (c : Dev nD) : Valuation τ sig (Elt F) := after cond3 (atTrip cond3 [body3.1] (W3 m) 32 c)
/-- The buffers at the main function's end. -/
abbrev Z (m : (ℓ : Loc nD τ sig) → Buf (Elt F) ℓ) (c : Dev nD) : Valuation τ sig (Elt F) := after mainLines.l4 (E3 m c)

theorem body0_chain : (main_while0_body : RProg F PUnit) = Pipeline.chain (([body0.1] : List (List (HloOp τ sig (Elt F)))).map fun ops => (seq ops : RProg F PUnit)) := by
  refine body0.2.trans ?_
  simp only [List.map_cons, List.map_nil, Pipeline.chain_cons, Pipeline.chain_nil, seq_bind_seqK]

theorem body1_chain : (main_while1_body : RProg F PUnit) = Pipeline.chain (([body1.1] : List (List (HloOp τ sig (Elt F)))).map fun ops => (seq ops : RProg F PUnit)) := by
  refine body1.2.trans ?_
  simp only [List.map_cons, List.map_nil, Pipeline.chain_cons, Pipeline.chain_nil, seq_bind_seqK]

theorem body2_chain : (main_while2_body : RProg F PUnit) = Pipeline.chain (([body2.1] : List (List (HloOp τ sig (Elt F)))).map fun ops => (seq ops : RProg F PUnit)) := by
  refine body2.2.trans ?_
  simp only [List.map_cons, List.map_nil, Pipeline.chain_cons, Pipeline.chain_nil, seq_bind_seqK]

theorem body3_chain : (main_while3_body : RProg F PUnit) = Pipeline.chain (([body3.1] : List (List (HloOp τ sig (Elt F)))).map fun ops => (seq ops : RProg F PUnit)) := by
  refine body3.2.trans ?_
  simp only [List.map_cons, List.map_nil, Pipeline.chain_cons, Pipeline.chain_nil, seq_bind_seqK]

/-- The main function's segments: a line, a loop, a line, … -/
def segs (m : (ℓ : Loc nD τ sig) → Buf (Elt F) ℓ) : List (CSeg (Ix := Unit) (Name := ℕ) (U := Option PUnit) (Lvl := ℕ) (pcfgs (F := F)) adm defs₀ Variants.none L0 lv0 loops tk) :=
  segsOf pcfgs adm defs₀ Variants.none L0 lv0 loops tk Rw [mainLines.l0] line0_plain (S0 m)
    ++ (loopSeg pcfgs adm defs₀ Variants.none L0 lv0 loops tk 0 main_while0_cond main_while0_body rfl cond0 [body0.1] body0_plain body0_chain 32 (W0 m) Rw (cond0_spec (W0 m) fun c => line0_ctr _)
    :: (  segsOf pcfgs adm defs₀ Variants.none L0 lv0 loops tk Rw [mainLines.l1] line1_plain (E0 m)
    ++ (loopSeg pcfgs adm defs₀ Variants.none L0 lv0 loops tk 1 main_while1_cond main_while1_body rfl cond1 [body1.1] body1_plain body1_chain 32 (W1 m) Rw (cond1_spec (W1 m) fun c => line1_ctr _)
    :: (  segsOf pcfgs adm defs₀ Variants.none L0 lv0 loops tk Rw [mainLines.l2] line2_plain (E1 m)
    ++ (loopSeg pcfgs adm defs₀ Variants.none L0 lv0 loops tk 2 main_while2_cond main_while2_body rfl cond2 [body2.1] body2_plain body2_chain 32 (W2 m) Rw (cond2_spec (W2 m) fun c => line2_ctr _)
    :: (  segsOf pcfgs adm defs₀ Variants.none L0 lv0 loops tk Rw [mainLines.l3] line3_plain (E2 m)
    ++ (loopSeg pcfgs adm defs₀ Variants.none L0 lv0 loops tk 3 main_while3_cond main_while3_body rfl cond3 [body3.1] body3_plain body3_chain 32 (W3 m) Rw (cond3_spec (W3 m) fun c => line3_ctr _)
    :: ( segsOf pcfgs adm defs₀ Variants.none L0 lv0 loops tk Rw [mainLines.l4] line4_plain (E3 m)))))))))

theorem segs_prog (m : (ℓ : Loc nD τ sig) → Buf (Elt F) ℓ) (c : Dev nD) : Pipeline.chain ((segs m).map CSeg.prog) = (main c : RProg F PUnit) := by
  rw [mainLines.eq c]
  unfold segs
  simp only [List.map_append, List.map_cons, segsOf_prog, List.map_nil, List.cons_append, List.nil_append, Pipeline.chain_cons, Pipeline.chain_nil, seq_bind_seqK]
  rfl

theorem segs_chains (m : (ℓ : Loc nD τ sig) → Buf (Elt F) ℓ) :
    CSeg.Chains (fun c => iprop(held (c : Thread nD τ) (ucRefs τ sig) (S0 m c) ∗ Rw c)) (segs m)
      (fun c => iprop(iprop(held (c : Thread nD τ) (ucRefs τ sig) (Z m c)) ∗ ∃ W, owes (c : Thread nD τ) (0 : CellTallies nD τ sig Unit) W)) := by
  unfold segs
  refine CSeg.Chains.append (segsOf_chains _ _ _ _ _ _ _ _ Rw _ line0_plain _) ⟨fun _ => .rfl, ?_⟩
  refine CSeg.Chains.append (segsOf_chains _ _ _ _ _ _ _ _ Rw _ line1_plain _) ⟨fun _ => .rfl, ?_⟩
  refine CSeg.Chains.append (segsOf_chains _ _ _ _ _ _ _ _ Rw _ line2_plain _) ⟨fun _ => .rfl, ?_⟩
  refine CSeg.Chains.append (segsOf_chains _ _ _ _ _ _ _ _ Rw _ line3_plain _) ⟨fun _ => .rfl, ?_⟩
  exact segsOf_chains _ _ _ _ _ _ _ _ Rw _ line4_plain _

/-- No TensorCore semaphore of this program outlives a kernel. -/
theorem no_sem (sm : SemLoc sig) : sm.isScoped .tc = true := by
  revert sm; decide

/-- THE RUN of the reference: every weakly fair execution terminates with every semaphore at zero and every buffer of a
    tensor value at the fold of the lines and loops. -/
theorem run (m : (ℓ : Loc nD τ sig) → Buf (Elt F) ℓ) (ρ : Dev nD → PrngReg) :
    θ_run defs (onTc (τ := τ) main) ⟨m, fun _ => 0, ρ⟩ (fun r =>
      (∀ (c : Dev nD) (b : Ref sig .tc), (Proc.devRef .tc b : DevRef τ sig).isScoped = false →
        r.2.mem ((c.tc : Thread nD τ).loc b) = Z m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs adm cells_inj defs₀ Variants.none L0 lv0 loops tk m ρ main (segs m)
    (fun c Q => by
      rw [← segs_prog m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (S0 m c) ∗ Rw c))
    (Tₙ := fun c => iprop(held (c : Thread nD τ) (ucRefs τ sig) (Z m c)))
    (hch := segs_chains m)
    (hinit := by
      refine Pipeline.initEach L0 lv0 fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Z m c b)
    (hfin := fun c s' => by
      unfold held
      iintro ⟨Hh, HSI⟩
      ihave Hr := (pointsTo_read_all (ucRefs τ sig) (fun b => ((c : Dev nD), b)) (fun b => Z m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb),
      sem_eq_zero hs fun c sm hsm => absurd (no_sem sm) (by rw [hsm]; decide)⟩)

end Cert.Proof.Ref

end
-- ==== Proof.Ref.Frame.lean ====
/-
  No line of the reference writes an argument: every argument reaches the end as it was at the start.
-/
module

public import proofs.«01_k».proof.Proof.Ref.Main

@[expose] public section

set_option maxRecDepth 16384
set_option maxHeartbeats 4000000

noncomputable section

namespace Cert.Proof.Ref

open Cert.ReferenceIdeal Cert.ReferenceIdeal.Gen
open Idealize.ShloMosaic Idealize.ShloMosaic.StableHlo
open Idealize.ShloMosaic.TcCoe

variable {F : FTy → Type} [FloatOps F]

/-- The program's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- A line that leaves every argument as it was. -/
abbrev Keeps (ops : List (HloOp τ sig (Elt F))) : Prop :=
  ∀ V : Valuation τ sig (Elt F), ∀ r ∈ argRefs, after ops V (Proc.devRef .tc r) = V (Proc.devRef .tc r)

theorem keeps_l0 : Keeps (F := F) mainLines.l0 := by
  intro V
  dsimp only [mainLines]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_l1 : Keeps (F := F) mainLines.l1 := by
  intro V
  dsimp only [mainLines]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_l2 : Keeps (F := F) mainLines.l2 := by
  intro V
  dsimp only [mainLines]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_l3 : Keeps (F := F) mainLines.l3 := by
  intro V
  dsimp only [mainLines]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_l4 : Keeps (F := F) mainLines.l4 := by
  intro V
  dsimp only [mainLines]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_cond0 : Keeps (F := F) cond0 := by
  intro V
  dsimp only [cond0]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_cond1 : Keeps (F := F) cond1 := by
  intro V
  dsimp only [cond1]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_cond2 : Keeps (F := F) cond2 := by
  intro V
  dsimp only [cond2]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_cond3 : Keeps (F := F) cond3 := by
  intro V
  dsimp only [cond3]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_body0 : Keeps (F := F) body0.1 := by
  intro V
  dsimp only [body0]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_body1 : Keeps (F := F) body1.1 := by
  intro V
  dsimp only [body1]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_body2 : Keeps (F := F) body2.1 := by
  intro V
  dsimp only [body2]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

theorem keeps_body3 : Keeps (F := F) body3.1 := by
  intro V
  dsimp only [body3]
  simp only [argRefs, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_⟩
  all_goals after_reads_simp

/-- Trips of a loop whose condition and body keep the arguments keep them. -/
theorem keeps_trips {cond body : List (HloOp τ sig (Elt F))} (hc : Keeps cond) (hb : Keeps body)
    (W : Dev nD → Valuation τ sig (Elt F)) (c : Dev nD) (r : Ref sig .tc) (hr : r ∈ argRefs) (k : ℕ) :
    atTrip cond [body] W k c (Proc.devRef .tc r) = W c (Proc.devRef .tc r) := by
  induction k with
  | zero => rfl
  | succ k ih => exact ((hb _ r hr).trans (hc _ r hr)).trans ih

/-- Every argument reaches the end as launched. -/
theorem Z_arg (m : (ℓ : Loc nD τ sig) → Buf (Elt F) ℓ) (c : Dev nD) (r : Ref sig .tc) (hr : r ∈ argRefs) :
    Z m c (Proc.devRef .tc r) = S0 m c (Proc.devRef .tc r) :=
  (keeps_l4 _ r hr).trans <| (keeps_cond3 _ r hr).trans <| (keeps_trips keeps_cond3 keeps_body3 _ c r hr 32).trans <|
  (keeps_l3 _ r hr).trans <| (keeps_cond2 _ r hr).trans <| (keeps_trips keeps_cond2 keeps_body2 _ c r hr 32).trans <|
  (keeps_l2 _ r hr).trans <| (keeps_cond1 _ r hr).trans <| (keeps_trips keeps_cond1 keeps_body1 _ c r hr 32).trans <|
  (keeps_l1 _ r hr).trans <| (keeps_cond0 _ r hr).trans <| (keeps_trips keeps_cond0 keeps_body0 _ c r hr 32).trans <|
  keeps_l0 _ r hr

end Cert.Proof.Ref

end
-- ==== Proof.Math.Feat.lean ====
/-
  The feature map as plain functions of an image and its weights: a 3×3 convolution of the zero-padded image as nine
  taps, a bias, a clip at zero, and a projection of the channels. No program is mentioned here.
-/
module

public import Idealize.ShloMosaic.PureOps.Ideal

@[expose] public section

noncomputable section

namespace Cert.Proof.Math

/-- An image with a border of zeros: row `u` and column `v` are those of the image plus one. -/
def padded (x : Fin 64 → Fin 128 → Fin 128 → EReal) (u v : ℕ) (i : Fin 64) : EReal :=
  if h : (1 ≤ u ∧ u ≤ 128) ∧ 1 ≤ v ∧ v ≤ 128 then x i ⟨u - 1, by omega⟩ ⟨v - 1, by omega⟩ else 0

/-- One tap of the convolution at row `u` and column `v`: the padded image there, moved by `(p, q)`, against the tap's weights. -/
def tap (xp : ℕ → ℕ → Fin 64 → EReal) (w : Fin 64 → Fin 64 → Fin 3 → Fin 3 → EReal) (u v : ℕ) (o : Fin 64) (p q : Fin 3) : EReal :=
  ∑ i, xp (u + p.val) (v + q.val) i * w o i p q

/-- The convolution: the nine taps, added row by row. -/
def conv (xp : ℕ → ℕ → Fin 64 → EReal) (w : Fin 64 → Fin 64 → Fin 3 → Fin 3 → EReal) (u v : ℕ) (o : Fin 64) : EReal :=
  tap xp w u v o 0 0 + tap xp w u v o 0 1 + tap xp w u v o 0 2 + tap xp w u v o 1 0 + tap xp w u v o 1 1 + tap xp w u v o 1 2
    + tap xp w u v o 2 0 + tap xp w u v o 2 1 + tap xp w u v o 2 2

/-- The projected features at row `u` and column `v`, before the projection's bias. -/
def feature (xp : ℕ → ℕ → Fin 64 → EReal) (w : Fin 64 → Fin 64 → Fin 3 → Fin 3 → EReal) (b : Fin 64 → EReal) (w2 : Fin 32 → Fin 64 → EReal)
    (u v : ℕ) (d : Fin 32) : EReal :=
  ∑ o, max (conv xp w u v o + b o) 0 * w2 d o

end Cert.Proof.Math

end
-- ==== Proof.I.HostV.lean ====
/-
  What the host lines around the kernels leave, read at an index: the padded image and the weights the first kernel
  takes, and the weights, the sequences and the outputs of the second.
-/
module

public import proofs.«01_k».proof.Proof.I.Host0
public import proofs.«01_k».proof.Proof.Math.Feat
public import Idealize.ShloMosaic.Lib.Routing.OpsOne
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe
open Cert.Proof.Math

variable (m : (ℓ : Loc nD τ sig) → Buf (Elt Ideal) ℓ)

/-! ## Before the first kernel -/

theorem v1_at (c : Dev nD) (b : Fin 16) (u v : Fin 136) (i : Fin 64) :
    (V5 m c main_v1 (ix4 b u v i) : EReal) = padded (fun i y x => V0 m c main_arg0 (ix4 b i y x)) u.val v.val i := by
  after_reads_at
  pointwise
  unfold padded
  have hz : (FloatOps.sitofp (F := Ideal) FTy.f32 0#32 : EReal) = 0 := by
    show (((0#32 : BitVec 32).toInt : ℝ) : EReal) = 0
    simp
  by_cases h : (1 ≤ u.val ∧ u.val ≤ 128) ∧ 1 ≤ v.val ∧ v.val ≤ 128
  · rw [dif_pos h, dif_pos (by omega)]
  · rw [dif_neg h, dif_neg (by omega), hz]

theorem v18_at (c : Dev nD) (p q : Fin 3) (i o : Fin 64) :
    (V5 m c main_v18 (ix3 ⟨3 * p.val + q.val, by omega⟩ i o) : EReal) = V0 m c main_arg2 (ix4 o i p q) := by
  after_reads_at

theorem v19_at (c : Dev nD) (o : Fin 64) : (V5 m c main_v19 (ix2 0 o) : EReal) = V0 m c main_arg3 (ix1 o) := by
  after_reads_at

theorem v20_at (c : Dev nD) (o : Fin 64) (d : Fin 32) : (V5 m c main_v20 (ix2 o d) : EReal) = V0 m c main_arg4 (ix2 d o) := by
  after_reads_at

theorem v16_at (c : Dev nD) (b n : Fin 16) (t : Fin 32) (a : Fin 2) (h : 64 * n.val + 2 * t.val + a.val < 1024) :
    (V5 m c main_v16 (ix2 b ⟨64 * n.val + 2 * t.val + a.val, h⟩) : BitVec 32) = crd m c b n t a := by
  after_reads_at
  rfl

/-! ## Between the kernels -/

variable (outs : Outs (F := Ideal))

/-- An array that no host line and no kernel writes is still as it was at launch. -/
theorem V6_kept (c : Dev nD) (r : Ref sig .tc) (h6 : r ∉ ([main_v21] : List (Ref sig .tc))) (h5 : r ∉ hostOps0_4_W) (h4 : r ∉ hostOps0_3_W)
    (h3 : r ∉ hostOps0_2_W) (h2 : r ∉ hostOps0_1_W) (h1 : r ∉ hostOps0_W) : V6 m outs c r = V0 m c r :=
  (V6_of m outs c r h6).trans <| (V5_of m c r h5).trans <| (V4_of m c r h4).trans <| (V3_of m c r h3).trans <|
    (V2_of m c r h2).trans (V1_of m c r h1)

theorem v24_at (c : Dev nD) (t : Fin 32) (s : Fin 512) (d : Fin 32) :
    (V7 m outs c main_v24 (ix3 t s d) : EReal) =
      outs 6 main_v21 c (ix3 ⟨s.val / 16 % 16, by omega⟩ ⟨s.val / 256 * 512 + s.val % 16 * 32 + t.val, by omega⟩ d) := by
  after_reads_at
  exact congrFun (Function.update_self (f := V5 m c) (Proc.devRef .tc main_v21) (outs 6 main_v21 c)) _

/-- A column of updates set into a column of a matrix, read in that column. -/
theorem set_col (x : S64x128.Idx → EReal) (i : IVec S1 32) (hi : i (ix1 0) = 0#32) (u : S64.Idx → EReal) (q : Fin 64) :
    Host.scatter scatter_S64x128_S1_S64_0_1_1_0 (fun _ b => b) x i u (ix2 q 0) = u (ix1 q) := by
  have l := fun w' : Fin 64 => Routing.lands_col (A := 64) (N := 128) scatter_S64x128_S1_S64_0_1_1_0 rfl rfl i 0
    ((congrArg BitVec.toInt hi).trans rfl) w' q 0
  refine Routing.scatter_set_hit _ _ _ _ _ _ (fun j hj => ?_) (ix1 q) ((l q).2 ⟨rfl, rfl⟩)
  rw [eq_ix1 j] at hj ⊢
  rw [((l _).1 hj).1]

theorem v28_at (c : Dev nD) (q : Fin 64) : (V7 m outs c main_v28 (ix2 q 0) : EReal) = V0 m c main_arg20 (ix2 0 q) := by
  after_reads_at
  refine (set_col _ _ rfl _ q).trans ?_
  exact congrFun (V6_kept m outs c main_arg20 (by decide) (by decide) (by decide) (by decide) (by decide) (by decide)) _

theorem v29_at (c : Dev nD) (d : Fin 32) : (V7 m outs c main_v29 (ix2 0 d) : EReal) = V0 m c main_arg5 (ix1 d) := by
  after_reads_at
  exact congrFun (V6_kept m outs c main_arg5 (by decide) (by decide) (by decide) (by decide) (by decide) (by decide)) _

theorem v30_at (c : Dev nD) (d : Fin 32) (g : Fin 512) : (V7 m outs c main_v30 (ix2 d g) : EReal) = V0 m c main_arg6 (ix2 g d) := by
  after_reads_at
  exact congrFun (V6_kept m outs c main_arg6 (by decide) (by decide) (by decide) (by decide) (by decide) (by decide)) _

theorem v31_at (c : Dev nD) (d : Fin 128) (g : Fin 512) : (V7 m outs c main_v31 (ix2 d g) : EReal) = V0 m c main_arg7 (ix2 g d) := by
  after_reads_at
  exact congrFun (V6_kept m outs c main_arg7 (by decide) (by decide) (by decide) (by decide) (by decide) (by decide)) _

theorem v34_at (c : Dev nD) (d : Fin 128) (g : Fin 512) : (V7 m outs c main_v34 (ix2 d g) : EReal) = V0 m c main_arg10 (ix2 g d) := by
  after_reads_at
  exact congrFun (V6_kept m outs c main_arg10 (by decide) (by decide) (by decide) (by decide) (by decide) (by decide)) _

theorem v35_at (c : Dev nD) (d : Fin 128) (g : Fin 512) : (V7 m outs c main_v35 (ix2 d g) : EReal) = V0 m c main_arg11 (ix2 g d) := by
  after_reads_at
  exact congrFun (V6_kept m outs c main_arg11 (by decide) (by decide) (by decide) (by decide) (by decide) (by decide)) _

theorem v38_at (c : Dev nD) (d : Fin 128) (g : Fin 64) : (V7 m outs c main_v38 (ix2 d g) : EReal) = V0 m c main_arg18 (ix2 g d) := by
  after_reads_at
  exact congrFun (V6_kept m outs c main_arg18 (by decide) (by decide) (by decide) (by decide) (by decide) (by decide)) _

theorem v39_at (c : Dev nD) (d : Fin 64) : (V7 m outs c main_v39 (ix2 0 d) : EReal) = V0 m c main_arg19 (ix1 d) := by
  after_reads_at
  exact congrFun (V6_kept m outs c main_arg19 (by decide) (by decide) (by decide) (by decide) (by decide) (by decide)) _

theorem v33_at (c : Dev nD) (g : Fin 512) :
    (V7 m outs c main_v33 (ix2 0 g) : EReal) = HAdd.hAdd (α := EReal) (V0 m c main_arg8 (ix1 g)) (V0 m c main_arg9 (ix1 g)) := by
  after_reads_at
  pointwise
  rw [V6_kept m outs c main_arg8 (by decide) (by decide) (by decide) (by decide) (by decide) (by decide),
    V6_kept m outs c main_arg9 (by decide) (by decide) (by decide) (by decide) (by decide) (by decide)]

theorem v37_at (c : Dev nD) (g : Fin 512) :
    (V7 m outs c main_v37 (ix2 0 g) : EReal) = HAdd.hAdd (α := EReal) (V0 m c main_arg12 (ix1 g)) (V0 m c main_arg13 (ix1 g)) := by
  after_reads_at
  pointwise
  rw [V6_kept m outs c main_arg12 (by decide) (by decide) (by decide) (by decide) (by decide) (by decide),
    V6_kept m outs c main_arg13 (by decide) (by decide) (by decide) (by decide) (by decide) (by decide)]

theorem arg21_at (c : Dev nD) : (V7 m outs c main_arg21 (ix1 0) : EReal) = V0 m c main_arg21 (ix1 0) :=
  congrFun ((V7_of m outs c main_arg21 (by decide)).trans
    (V6_kept m outs c main_arg21 (by decide) (by decide) (by decide) (by decide) (by decide) (by decide))) _

theorem v16_kept (c : Dev nD) : V7 m outs c main_v16 = V5 m c main_v16 :=
  (V7_of m outs c main_v16 (by decide)).trans (V6_of m outs c main_v16 (by decide))

/-! ## After the second kernel -/

theorem v44_at (c : Dev nD) (b n : Fin 16) (t : Fin 32) (a : Fin 2) :
    (V9 m outs c main_v44 (ix4 b n t a) : EReal) =
      outs 8 main_v40_0 c (ix2 ⟨t.val * 512 + a.val * 256 + b.val * 16 + n.val, by omega⟩ 0) := by
  after_reads_at
  exact congrFun ((Function.update_of_ne (StableHlo.devRef_ne_of_ne (by decide : main_v40_0 ≠ main_v40_1)) _ _).trans
    (Function.update_self (f := V7 m outs c) (Proc.devRef .tc main_v40_0) (outs 8 main_v40_0 c))) _

theorem v45_at (c : Dev nD) (b n : Fin 16) (t : Fin 32) (a : Fin 2) :
    (V9 m outs c main_v45 (ix4 b n t a) : EReal) =
      outs 8 main_v40_1 c (ix2 b ⟨n.val * 64 + t.val * 2 + a.val, by omega⟩) := by
  after_reads_at
  unfold V8
  rw [Function.update_self]

end Cert.Proof.KernelIdeal

end
-- ==== Proof.Math.Cell.lean ====
/-
  The network over the extended reals, a row at a time: the logistic function in its two forms, one step of an LSTM
  cell, a run of steps, and the two output layers.
-/
module

public import Idealize.ShloMosaic.Lib.IdealHost
public import Idealize.ShloMosaic.PureOps.Ideal

@[expose] public section

noncomputable section

namespace Cert.Proof.Math

open Idealize.ShloMosaic

/-- The logistic function as the reference computes it. -/
def sg (v : EReal) : EReal := Ideal.div 1 (1 + Ideal.exp (-v))

theorem half_bits : Ideal.ofBits .f32 1056964608#32 = ((1 / 2 : ℝ) : EReal) := by
  simp [Ideal.ofBits, Ideal.ieee, -EReal.coe_mul]; norm_num

theorem one_bits : Ideal.ofBits .f32 1065353216#32 = 1 := by
  rw [show (1 : EReal) = ((1 : ℝ) : EReal) from EReal.coe_one.symm]
  simp [Ideal.ofBits, Ideal.ieee, -EReal.coe_mul, -EReal.coe_one]; norm_num

theorem real_form (r : ℝ) : Real.tanh (r * (1 / 2)) * (1 / 2) + 1 / 2 = (1 + Real.exp (-r))⁻¹ := by
  rw [Real.tanh_eq_sinh_div_cosh, Real.sinh_eq, Real.cosh_eq,
    show -r = -(r * (1 / 2)) + -(r * (1 / 2)) by ring, Real.exp_add, Real.exp_neg]
  have h := Real.exp_pos (r * (1 / 2))
  field_simp
  ring

/-- The logistic function as the kernel computes it, from the hyperbolic tangent. -/
theorem tanh_form (v : EReal) :
    Ideal.tanh (v * Ideal.ofBits .f32 1056964608#32) * Ideal.ofBits .f32 1056964608#32 + Ideal.ofBits .f32 1056964608#32 = sg v := by
  rw [half_bits]
  unfold sg Ideal.div
  induction v using EReal.rec with
  | bot =>
    rw [EReal.bot_mul_coe_of_pos (by norm_num), Ideal.tanh_bot, EReal.neg_bot, Ideal.exp_top,
      EReal.add_top_of_ne_bot (by decide), if_neg (by decide), EReal.inv_top, mul_zero,
      show (-1 : EReal) = ((-1 : ℝ) : EReal) by rw [EReal.coe_neg, EReal.coe_one], ← EReal.coe_mul, ← EReal.coe_add]
    norm_num
  | top =>
    rw [EReal.top_mul_coe_of_pos (by norm_num), Ideal.tanh_top, EReal.neg_top, Ideal.exp_bot, add_zero,
      if_neg one_ne_zero, one_mul, one_mul, ← EReal.coe_add,
      show (1 : EReal) = ((1 : ℝ) : EReal) by norm_cast, ← EReal.coe_inv]
    norm_num
  | coe r =>
    have h := Real.exp_pos (-r)
    rw [← EReal.coe_mul, Ideal.tanh_coe, ← EReal.coe_mul, ← EReal.coe_add, real_form, ← EReal.coe_neg, Ideal.exp_coe,
      show (1 : EReal) = ((1 : ℝ) : EReal) by norm_cast, ← EReal.coe_add, if_neg (by norm_cast; positivity),
      ← EReal.coe_inv, ← EReal.coe_mul, one_mul]

/-- An LSTM cell's weights. -/
structure Cell (D : ℕ) where
  /-- from the input -/
  W : Fin 512 → Fin D → EReal
  /-- the input's bias -/
  b : Fin 512 → EReal
  /-- from the hidden state -/
  U : Fin 512 → Fin 128 → EReal
  /-- the hidden state's bias -/
  e : Fin 512 → EReal

/-- A row's state: hidden and cell. -/
abbrev St : Type := (Fin 128 → EReal) × (Fin 128 → EReal)

variable {D : ℕ}

/-- The gates before their non-linearities, in the reference's order of additions. -/
def Cell.pre (P : Cell D) (x : Fin D → EReal) (h : Fin 128 → EReal) (g : Fin 512) : EReal :=
  ∑ d, x d * P.W g d + P.b g + ∑ j, h j * P.U g j + P.e g

/-- The new cell state. -/
def newC (p : Fin 512 → EReal) (c : Fin 128 → EReal) (j : Fin 128) : EReal :=
  sg (p ⟨128 + j.val, by omega⟩) * c j + sg (p ⟨j.val, by omega⟩) * Ideal.tanh (p ⟨256 + j.val, by omega⟩)

/-- The new hidden state. -/
def newH (p : Fin 512 → EReal) (c : Fin 128 → EReal) (j : Fin 128) : EReal :=
  sg (p ⟨384 + j.val, by omega⟩) * Ideal.tanh (newC p c j)

/-- One step on a row. -/
def Cell.step (P : Cell D) (x : Fin D → EReal) (s : St) : St :=
  (newH (P.pre x s.1) s.2, newC (P.pre x s.1) s.2)

/-- The state after `k` steps. -/
def Cell.run (P : Cell D) (xs : ℕ → Fin D → EReal) (s : St) : ℕ → St
  | 0 => s
  | k + 1 => P.step (xs k) (P.run xs s k)

theorem Cell.run_congr (P : Cell D) {xs ys : ℕ → Fin D → EReal} (s : St) (n : ℕ) (h : ∀ k < n, xs k = ys k) :
    P.run xs s n = P.run ys s n := by
  induction n with
  | zero => rfl
  | succ n ih => simp only [Cell.run, ih fun k hk => h k (by omega), h n (by omega)]

/-- The two output layers on a hidden state. -/
def head (w1 : Fin 64 → Fin 128 → EReal) (b1 : Fin 64 → EReal) (w2 : Fin 64 → EReal) (b2 : EReal) (h : Fin 128 → EReal) : EReal :=
  ∑ q, max (∑ j, h j * w1 q j + b1 q) 0 * w2 q + b2

/-- A row's whole pass: the encoder over its inputs from the zero state, the decoder over the encoder's hidden states
from the encoder's last state, the output layers on the decoder's hidden state after step `t`. -/
def pass (P : Cell 32) (Q : Cell 128) (w1 : Fin 64 → Fin 128 → EReal) (b1 : Fin 64 → EReal) (w2 : Fin 64 → EReal) (b2 : EReal)
    (xs : ℕ → Fin 32 → EReal) (t : ℕ) : EReal :=
  head w1 b1 w2 b2 (Q.run (fun k => (P.run xs (fun _ => 0, fun _ => 0) (k + 1)).1) (P.run xs (fun _ => 0, fun _ => 0) 32) (t + 1)).1

end Cert.Proof.Math
-- ==== Proof.I.Cell.lean ====
/-
  The second kernel's steps, read at a row: an LSTM step.
-/
module

public import proofs.«01_k».proof.Proof.I.Body1
public import proofs.«01_k».proof.Proof.I.Body0
public import proofs.«01_k».proof.Proof.Math.Cell
public import Idealize.ShloMosaic.Lib.Pointwise
public import Idealize.ShloMosaic.Lib.StableHlo.ReadAt
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe

open Cert.Proof.Math

/-- A block that is the whole array. -/
theorem sl_full {s : Shape} {e : EltTy} (off : Fin s.rank → ℕ) (h : ∀ a, off a + s.size a ≤ s.size a) (X : s.Idx → Elt Ideal e) (x : s.Idx) :
    sl (Rect.unit (s := s) off s.size h) X x = X x := by
  have h0 : ∀ a, off a = 0 := fun a => by have := h a; omega
  show X _ = X x
  congr 1
  funext a
  apply Fin.ext
  simp [Rect.toLoadRect, LoadRect.idx, Rect.unit, h0 a]

/-- The block of step `k` of the input sequence. -/
theorem sl_seq (k : Fin k1_t1_loop.trips) (X : S32x512x32.Idx → Elt Ideal .f32) (s : Fin 512) (d : Fin 32) :
    sl (Rect.unit (s := S32x512x32) (k1_off1 k) S1x512x32.size (k1_off1_inb k)) X (ix3 0 s d) = X (ix3 ⟨k.val, k.isLt.trans_eq trips1_eq⟩ s d) := by
  show X _ = X _
  congr 1
  funext a
  apply Fin.ext
  simp only [Rect.toLoadRect, LoadRect.idx, Rect.unit, k1_off1_eq]
  fin_cases a <;> simp [ix3]

/-- The block of step `k` of the encoder's hidden states. -/
theorem sl_enc (k : Fin k1_t2_loop.trips) (X : S32x512x128.Idx → Elt Ideal .f32) (s : Fin 512) (d : Fin 128) :
    sl (Rect.unit (s := S32x512x128) (k1_off3 k) S1x512x128.size (k1_off3_inb k)) X (ix3 0 s d) = X (ix3 ⟨k.val, k.isLt.trans_eq trips2_eq⟩ s d) := by
  show X _ = X _
  congr 1
  funext a
  apply Fin.ext
  simp only [Rect.toLoadRect, LoadRect.idx, Rect.unit, k1_off3_eq]
  fin_cases a <;> simp [ix3]

/-- The kernel's encoder weights are the cell's. -/
structure EncW (P : Cell 32) (X3 : S32x512.Idx → EReal) (X4 : S128x512.Idx → EReal) (X5 : S1x512.Idx → EReal) : Prop where
  W : ∀ d g, X3 (ix2 d g) = P.W g d
  U : ∀ j g, X4 (ix2 j g) = P.U g j
  b : ∀ g, X5 (ix2 0 g) = P.b g + P.e g

/-- The kernel's decoder weights are the cell's. -/
structure DecW (Q : Cell 128) (X6 : S128x512.Idx → EReal) (X7 : S128x512.Idx → EReal) (X8 : S1x512.Idx → EReal) : Prop where
  W : ∀ d g, X6 (ix2 d g) = Q.W g d
  U : ∀ j g, X7 (ix2 j g) = Q.U g j
  b : ∀ g, X8 (ix2 0 g) = Q.b g + Q.e g

/-- A row of a pair of state arrays. -/
def row (hc : FVec Ideal S512x128 .f32 × FVec Ideal S512x128 .f32) (s : Fin 512) : St := (fun j => hc.1 (ix2 s j), fun j => hc.2 (ix2 s j))

theorem enc_gate {P : Cell 32} (h : FVec Ideal S512x128 .f32) (v12 : Vec Ideal S1x512x32 .f32) (v14 : Vec Ideal S1x32 .f32) (v18 : Vec Ideal S32x512 .f32) (v20 : Vec Ideal S128x512 .f32) (v22 : Vec Ideal S1x512 .f32)
    (w : EncW P v18 v20 v22) (s : Fin 512) (g : Fin 512) :
    (k1_pay9 h v12 v14 v18 v20 v22 (ix2 s g) : EReal) = P.pre (fun d => v12 (ix3 0 s d) + v14 (ix2 0 d)) (fun j => h (ix2 s j)) g := by
  unfold k1_pay9
  pointwise
  unfold Cell.pre
  simp only [w.W, w.U, w.b]
  rw [add_add_add_comm, ← add_assoc]

theorem dec_gate {Q : Cell 128} (h : FVec Ideal S512x128 .f32) (v12 : Vec Ideal S1x512x128 .f32) (v18 : Vec Ideal S128x512 .f32) (v20 : Vec Ideal S128x512 .f32) (v22 : Vec Ideal S1x512 .f32)
    (w : DecW Q v18 v20 v22) (s : Fin 512) (g : Fin 512) :
    (k1_pay14 h v12 v18 v20 v22 (ix2 s g) : EReal) = Q.pre (fun d => v12 (ix3 0 s d)) (fun j => h (ix2 s j)) g := by
  unfold k1_pay14
  pointwise
  unfold Cell.pre
  simp only [w.W, w.U, w.b]
  rw [add_add_add_comm, ← add_assoc]

theorem enc_part0 {P : Cell 32} (h : FVec Ideal S512x128 .f32) (v12 : Vec Ideal S1x512x32 .f32) (v14 : Vec Ideal S1x32 .f32) (v18 : Vec Ideal S32x512 .f32) (v20 : Vec Ideal S128x512 .f32) (v22 : Vec Ideal S1x512 .f32) (w : EncW P v18 v20 v22) (s : Fin 512) (j : Fin 128) :
    (k1_pay10 h v12 v14 v18 v20 v22 (ix2 s j) : EReal) = sg (P.pre (fun d => v12 (ix3 0 s d) + v14 (ix2 0 d)) (fun j => h (ix2 s j)) ⟨j.val, by omega⟩) := by
  rw [← enc_gate h v12 v14 v18 v20 v22 w]
  unfold k1_pay10
  pointwise
  exact tanh_form _

theorem enc_part1 {P : Cell 32} (h : FVec Ideal S512x128 .f32) (v12 : Vec Ideal S1x512x32 .f32) (v14 : Vec Ideal S1x32 .f32) (v18 : Vec Ideal S32x512 .f32) (v20 : Vec Ideal S128x512 .f32) (v22 : Vec Ideal S1x512 .f32) (w : EncW P v18 v20 v22) (s : Fin 512) (j : Fin 128) :
    (k1_pay11 h v12 v14 v18 v20 v22 (ix2 s j) : EReal) = sg (P.pre (fun d => v12 (ix3 0 s d) + v14 (ix2 0 d)) (fun j => h (ix2 s j)) ⟨128 + j.val, by omega⟩) := by
  rw [← enc_gate h v12 v14 v18 v20 v22 w]
  unfold k1_pay11
  pointwise
  exact tanh_form _

theorem enc_part2 {P : Cell 32} (h : FVec Ideal S512x128 .f32) (v12 : Vec Ideal S1x512x32 .f32) (v14 : Vec Ideal S1x32 .f32) (v18 : Vec Ideal S32x512 .f32) (v20 : Vec Ideal S128x512 .f32) (v22 : Vec Ideal S1x512 .f32) (w : EncW P v18 v20 v22) (s : Fin 512) (j : Fin 128) :
    (k1_pay12 h v12 v14 v18 v20 v22 (ix2 s j) : EReal) = Ideal.tanh (P.pre (fun d => v12 (ix3 0 s d) + v14 (ix2 0 d)) (fun j => h (ix2 s j)) ⟨256 + j.val, by omega⟩) := by
  rw [← enc_gate h v12 v14 v18 v20 v22 w]
  unfold k1_pay12
  pointwise

theorem enc_part3 {P : Cell 32} (h : FVec Ideal S512x128 .f32) (v12 : Vec Ideal S1x512x32 .f32) (v14 : Vec Ideal S1x32 .f32) (v18 : Vec Ideal S32x512 .f32) (v20 : Vec Ideal S128x512 .f32) (v22 : Vec Ideal S1x512 .f32) (w : EncW P v18 v20 v22) (s : Fin 512) (j : Fin 128) :
    (k1_pay13 h v12 v14 v18 v20 v22 (ix2 s j) : EReal) = Ideal.tanh (P.pre (fun d => v12 (ix3 0 s d) + v14 (ix2 0 d)) (fun j => h (ix2 s j)) ⟨384 + j.val, by omega⟩ * Ideal.ofBits .f32 1056964608#32) := by
  rw [← enc_gate h v12 v14 v18 v20 v22 w]
  unfold k1_pay13
  pointwise

theorem dec_part0 {P : Cell 128} (h : FVec Ideal S512x128 .f32) (v12 : Vec Ideal S1x512x128 .f32) (v18 : Vec Ideal S128x512 .f32) (v20 : Vec Ideal S128x512 .f32) (v22 : Vec Ideal S1x512 .f32) (w : DecW P v18 v20 v22) (s : Fin 512) (j : Fin 128) :
    (k1_pay15 h v12 v18 v20 v22 (ix2 s j) : EReal) = sg (P.pre (fun d => v12 (ix3 0 s d)) (fun j => h (ix2 s j)) ⟨j.val, by omega⟩) := by
  rw [← dec_gate h v12 v18 v20 v22 w]
  unfold k1_pay15
  pointwise
  exact tanh_form _

theorem dec_part1 {P : Cell 128} (h : FVec Ideal S512x128 .f32) (v12 : Vec Ideal S1x512x128 .f32) (v18 : Vec Ideal S128x512 .f32) (v20 : Vec Ideal S128x512 .f32) (v22 : Vec Ideal S1x512 .f32) (w : DecW P v18 v20 v22) (s : Fin 512) (j : Fin 128) :
    (k1_pay16 h v12 v18 v20 v22 (ix2 s j) : EReal) = sg (P.pre (fun d => v12 (ix3 0 s d)) (fun j => h (ix2 s j)) ⟨128 + j.val, by omega⟩) := by
  rw [← dec_gate h v12 v18 v20 v22 w]
  unfold k1_pay16
  pointwise
  exact tanh_form _

theorem dec_part2 {P : Cell 128} (h : FVec Ideal S512x128 .f32) (v12 : Vec Ideal S1x512x128 .f32) (v18 : Vec Ideal S128x512 .f32) (v20 : Vec Ideal S128x512 .f32) (v22 : Vec Ideal S1x512 .f32) (w : DecW P v18 v20 v22) (s : Fin 512) (j : Fin 128) :
    (k1_pay17 h v12 v18 v20 v22 (ix2 s j) : EReal) = Ideal.tanh (P.pre (fun d => v12 (ix3 0 s d)) (fun j => h (ix2 s j)) ⟨256 + j.val, by omega⟩) := by
  rw [← dec_gate h v12 v18 v20 v22 w]
  unfold k1_pay17
  pointwise

theorem dec_part3 {P : Cell 128} (h : FVec Ideal S512x128 .f32) (v12 : Vec Ideal S1x512x128 .f32) (v18 : Vec Ideal S128x512 .f32) (v20 : Vec Ideal S128x512 .f32) (v22 : Vec Ideal S1x512 .f32) (w : DecW P v18 v20 v22) (s : Fin 512) (j : Fin 128) :
    (k1_pay18 h v12 v18 v20 v22 (ix2 s j) : EReal) = sg (P.pre (fun d => v12 (ix3 0 s d)) (fun j => h (ix2 s j)) ⟨384 + j.val, by omega⟩) := by
  rw [← dec_gate h v12 v18 v20 v22 w]
  unfold k1_pay18
  pointwise
  exact tanh_form _

theorem pay3_at (c a b d : FVec Ideal S512x128 .f32) (s : Fin 512) (j : Fin 128) :
    (k1_pay3 c a b d (ix2 s j) : EReal) = b (ix2 s j) * c (ix2 s j) + a (ix2 s j) * d (ix2 s j) := by
  unfold k1_pay3; pointwise

theorem pay6_at (c a b d : FVec Ideal S512x128 .f32) (s : Fin 512) (j : Fin 128) :
    (k1_pay6 c a b d (ix2 s j) : EReal) = b (ix2 s j) * c (ix2 s j) + a (ix2 s j) * d (ix2 s j) := by
  unfold k1_pay6; pointwise

theorem pay4_at (c a b d e : FVec Ideal S512x128 .f32) (s : Fin 512) (j : Fin 128) :
    (k1_pay4 c a b d e (ix2 s j) : EReal) =
      (e (ix2 s j) * Ideal.ofBits .f32 1056964608#32 + Ideal.ofBits .f32 1056964608#32) * Ideal.tanh (k1_pay3 c a b d (ix2 s j)) := by
  unfold k1_pay4; pointwise

theorem pay5_at (c a b d e : FVec Ideal S512x128 .f32) (s : Fin 512) (j : Fin 128) :
    (k1_pay5 c a b d e (ix3 0 s j) : EReal) = k1_pay4 c a b d e (ix2 s j) := by
  unfold k1_pay5; pointwise

theorem pay7_at (c a b d e : FVec Ideal S512x128 .f32) (s : Fin 512) (j : Fin 128) :
    (k1_pay7 c a b d e (ix2 s j) : EReal) = e (ix2 s j) * Ideal.tanh (k1_pay6 c a b d (ix2 s j)) := by
  unfold k1_pay7; pointwise

section
variable {P : Cell 32} (X0 : S32x512x32.Idx → Elt Ideal .f32) (X2 : S1x32.Idx → Elt Ideal .f32) {X3 : S32x512.Idx → Elt Ideal .f32} {X4 : S128x512.Idx → Elt Ideal .f32} {X5 : S1x512.Idx → Elt Ideal .f32}

theorem EncW.sl (w : EncW P X3 X4 X5) :
    EncW P (sl (Rect.unit (s := S32x512) ![0, 0] S32x512.size inb_S32x512_S32x512_0_0) X3) (sl (Rect.unit (s := S128x512) ![0, 0] S128x512.size inb_S128x512_S128x512_0_0) X4) (sl (Rect.unit (s := S1x512) ![0, 0] S1x512.size inb_S1x512_S1x512_0_0) X5) :=
  ⟨fun d g => (sl_full _ _ X3 _).trans (w.W d g), fun j g => (sl_full _ _ X4 _).trans (w.U j g), fun g => (sl_full _ _ X5 _).trans (w.b g)⟩

/-- The row's inputs at step `k`: the gathered features and the projection's bias. -/
def encIn (s : Fin 512) (k : ℕ) (d : Fin 32) : EReal := if h : k < 32 then X0 (ix3 ⟨k, h⟩ s d) + X2 (ix2 0 d) else 0

theorem encIn_eq (k : Fin k1_t1_loop.trips) (s : Fin 512) :
    (fun d => (sl (Rect.unit (s := S32x512x32) (k1_off1 k) S1x512x32.size (k1_off1_inb k)) X0 (ix3 0 s d) : EReal) + sl (Rect.unit (s := S1x32) ![0, 0] S1x32.size inb_S1x32_S1x32_0_0) X2 (ix2 0 d)) = encIn X0 X2 s k.val := by
  funext d
  rw [sl_seq, sl_full]
  unfold encIn
  rw [dif_pos (k.isLt.trans_eq trips1_eq)]

theorem encStep_c (w : EncW P X3 X4 X5) (k : Fin k1_t1_loop.trips) (hc : FVec Ideal S512x128 .f32 × FVec Ideal S512x128 .f32) (s : Fin 512) (j : Fin 128) :
    ((encStep X0 X2 X3 X4 X5 k hc).2 (ix2 s j) : EReal) = (P.step (encIn X0 X2 s k.val) (row hc s)).2 j := by
  unfold encStep
  refine (pay3_at _ _ _ _ s j).trans ?_
  rw [enc_part0 _ _ _ _ _ _ w.sl, enc_part1 _ _ _ _ _ _ w.sl, enc_part2 _ _ _ _ _ _ w.sl, encIn_eq]
  rfl

theorem encStep_h (w : EncW P X3 X4 X5) (k : Fin k1_t1_loop.trips) (hc : FVec Ideal S512x128 .f32 × FVec Ideal S512x128 .f32) (s : Fin 512) (j : Fin 128) :
    ((encStep X0 X2 X3 X4 X5 k hc).1 (ix2 s j) : EReal) = (P.step (encIn X0 X2 s k.val) (row hc s)).1 j := by
  refine (pay4_at _ _ _ _ _ s j).trans ?_
  rw [enc_part3 _ _ _ _ _ _ w.sl, tanh_form, encIn_eq]
  exact congrArg (fun z : EReal => _ * Ideal.tanh z) (encStep_c X0 X2 w k hc s j)

/-- A row of the encoder's state is the cell's run. -/
theorem encSt_row (w : EncW P X3 X4 X5) (s : Fin 512) : ∀ k, k ≤ 32 → row (encSt X0 X2 X3 X4 X5 k) s = P.run (encIn X0 X2 s) (fun _ => 0, fun _ => 0) k
  | 0, _ => by
    refine Prod.ext (funext fun j => ?_) (funext fun j => ?_) <;>
    · show (k1_pay2 (F := Ideal) (ix2 s j) : EReal) = 0
      unfold k1_pay2
      pointwise
  | k + 1, hk => by
    rw [encSt_succ X0 X2 X3 X4 X5 ⟨k, by rw [trips1_eq]; omega⟩, Cell.run, ← encSt_row w s k (by omega)]
    exact Prod.ext (funext fun j => encStep_h X0 X2 w _ _ s j) (funext fun j => encStep_c X0 X2 w _ _ s j)

/-- What the encoder keeps of step `t`: the row's hidden state after it. -/
theorem encAll_at (w : EncW P X3 X4 X5) (t : Fin 32) (s : Fin 512) (j : Fin 128) :
    (encAll X0 X2 X3 X4 X5 (ix3 t s j) : EReal) = (P.run (encIn X0 X2 s) (fun _ => 0, fun _ => 0) (t.val + 1)).1 j := by
  rw [← encSt_row X0 X2 w s (t.val + 1) (by omega), encSt_succ X0 X2 X3 X4 X5 ⟨t.val, by rw [trips1_eq]; omega⟩]
  exact pay5_at _ _ _ _ _ s j

end

section
variable {Q : Cell 128} (X15 : S32x512x128.Idx → Elt Ideal .f32) {X6 : S128x512.Idx → Elt Ideal .f32} {X7 : S128x512.Idx → Elt Ideal .f32} {X8 : S1x512.Idx → Elt Ideal .f32}

theorem DecW.sl (w : DecW Q X6 X7 X8) :
    DecW Q (sl (Rect.unit (s := S128x512) ![0, 0] S128x512.size inb_S128x512_S128x512_0_0) X6) (sl (Rect.unit (s := S128x512) ![0, 0] S128x512.size inb_S128x512_S128x512_0_0) X7) (sl (Rect.unit (s := S1x512) ![0, 0] S1x512.size inb_S1x512_S1x512_0_0) X8) :=
  ⟨fun d g => (sl_full _ _ X6 _).trans (w.W d g), fun j g => (sl_full _ _ X7 _).trans (w.U j g), fun g => (sl_full _ _ X8 _).trans (w.b g)⟩

/-- The row's inputs of the decoder at step `k`. -/
def decIn (s : Fin 512) (k : ℕ) (d : Fin 128) : EReal := if h : k < 32 then X15 (ix3 ⟨k, h⟩ s d) else 0

theorem decIn_eq (k : Fin k1_t2_loop.trips) (s : Fin 512) :
    (fun d => (sl (Rect.unit (s := S32x512x128) (k1_off3 k) S1x512x128.size (k1_off3_inb k)) X15 (ix3 0 s d) : EReal)) = decIn X15 s k.val := by
  funext d
  rw [sl_enc]
  unfold decIn
  rw [dif_pos (k.isLt.trans_eq trips2_eq)]

theorem decStep_c (w : DecW Q X6 X7 X8) (k : Fin k1_t2_loop.trips) (hc : FVec Ideal S512x128 .f32 × FVec Ideal S512x128 .f32) (s : Fin 512) (j : Fin 128) :
    ((decStep X15 X6 X7 X8 k hc).2 (ix2 s j) : EReal) = (Q.step (decIn X15 s k.val) (row hc s)).2 j := by
  unfold decStep
  refine (pay6_at _ _ _ _ s j).trans ?_
  rw [dec_part0 _ _ _ _ _ w.sl, dec_part1 _ _ _ _ _ w.sl, dec_part2 _ _ _ _ _ w.sl, decIn_eq]
  rfl

theorem decStep_h (w : DecW Q X6 X7 X8) (k : Fin k1_t2_loop.trips) (hc : FVec Ideal S512x128 .f32 × FVec Ideal S512x128 .f32) (s : Fin 512) (j : Fin 128) :
    ((decStep X15 X6 X7 X8 k hc).1 (ix2 s j) : EReal) = (Q.step (decIn X15 s k.val) (row hc s)).1 j := by
  refine (pay7_at _ _ _ _ _ s j).trans ?_
  rw [dec_part3 _ _ _ _ _ w.sl, decIn_eq]
  exact congrArg (fun z : EReal => _ * Ideal.tanh z) (decStep_c X15 w k hc s j)

/-- A row of the decoder's state is the cell's run. -/
theorem decSt_row (w : DecW Q X6 X7 X8) (hc : FVec Ideal S512x128 .f32 × FVec Ideal S512x128 .f32) (s : Fin 512) :
    ∀ k, k ≤ 32 → row (decSt X15 X6 X7 X8 hc k) s = Q.run (decIn X15 s) (row hc s) k
  | 0, _ => rfl
  | k + 1, hk => by
    rw [decSt_succ X15 X6 X7 X8 hc ⟨k, by rw [trips2_eq]; omega⟩, Cell.run, ← decSt_row w hc s k (by omega)]
    exact Prod.ext (funext fun j => decStep_h X15 w _ _ s j) (funext fun j => decStep_c X15 w _ _ s j)

variable (X9 : S128x64.Idx → Elt Ideal .f32) (X10 : S1x64.Idx → Elt Ideal .f32) (X11 : S64x128.Idx → Elt Ideal .f32) (X12 : S1.Idx → Elt Ideal .f32)

theorem pay8_at (c a b d e : FVec Ideal S512x128 .f32) (v56 : Vec Ideal S128x64 .f32) (v59 : Vec Ideal S1x64 .f32) (v65 : Vec Ideal S64x128 .f32) (v68 : Elt Ideal .f32) (s : Fin 512) (j : Fin 128) :
    (k1_pay8 c a b d e v56 v59 v65 v68 (ix2 s j) : EReal) =
      head (fun q i => v56 (ix2 i q)) (fun q => v59 (ix2 0 q)) (fun q => v65 (ix2 q j)) v68 (fun i => k1_pay7 c a b d e (ix2 s i)) := by
  unfold k1_pay8
  pointwise
  rfl

theorem decOut_at (w : DecW Q X6 X7 X8) (k : Fin k1_t2_loop.trips) (hc : FVec Ideal S512x128 .f32 × FVec Ideal S512x128 .f32) (s : Fin 512) (j : Fin 128) :
    (decOut X15 X6 X7 X8 X9 X10 X11 X12 k hc (ix2 s j) : EReal) =
      head (fun q i => X9 (ix2 i q)) (fun q => X10 (ix2 0 q)) (fun q => X11 (ix2 q j)) (X12 (ix1 0)) (Q.step (decIn X15 s k.val) (row hc s)).1 := by
  refine (pay8_at _ _ _ _ _ _ _ _ _ s j).trans ?_
  have e : (fun i => (decStep X15 X6 X7 X8 k hc).1 (ix2 s i)) = (Q.step (decIn X15 s k.val) (row hc s)).1 := funext fun i => decStep_h X15 w k hc s i
  rw [← e]
  unfold decStep
  congr 2
  · exact funext fun q => funext fun i => sl_full _ _ X9 _
  · exact funext fun q => sl_full _ _ X10 _
  · exact funext fun q => sl_full _ _ X11 _
  · refine (sl_full _ _ X12 _).trans (congrArg X12 (funext fun a => Fin.ext ?_))
    fin_cases a
    rfl

end

/-- Row `512 t + s` of the second kernel's output: the row's pass, after step `t`. -/
theorem out13_at {P : Cell 32} {Q : Cell 128} (X0 : S32x512x32.Idx → Elt Ideal .f32) (X2 : S1x32.Idx → Elt Ideal .f32) {X3 : S32x512.Idx → Elt Ideal .f32} {X4 : S128x512.Idx → Elt Ideal .f32} {X5 : S1x512.Idx → Elt Ideal .f32} {X6 : S128x512.Idx → Elt Ideal .f32} {X7 : S128x512.Idx → Elt Ideal .f32} {X8 : S1x512.Idx → Elt Ideal .f32}
    (X9 : S128x64.Idx → Elt Ideal .f32) (X10 : S1x64.Idx → Elt Ideal .f32) (X11 : S64x128.Idx → Elt Ideal .f32) (X12 : S1.Idx → Elt Ideal .f32)
    (wP : EncW P X3 X4 X5) (wQ : DecW Q X6 X7 X8) (r : Fin 16384) (t : Fin 32) (s : Fin 512) (hr : r.val = 512 * t.val + s.val) (j : Fin 128) :
    (out13 X0 X2 X3 X4 X5 X6 X7 X8 X9 X10 X11 X12 (ix2 r j) : EReal) =
      pass P Q (fun q i => X9 (ix2 i q)) (fun q => X10 (ix2 0 q)) (fun q => X11 (ix2 q j)) (X12 (ix1 0)) (encIn X0 X2 s) t.val := by
  have ht : r.val / 512 = t.val := by omega
  have hs : (⟨r.val % 512, Nat.mod_lt _ (by decide)⟩ : Fin 512) = s := Fin.ext (show r.val % 512 = s.val by omega)
  show (decOut _ X6 X7 X8 X9 X10 X11 X12 ⟨r.val / 512, _⟩ (decSt _ X6 X7 X8 _ (r.val / 512)) (ix2 ⟨r.val % 512, _⟩ j) : EReal) = _
  refine (decOut_at _ X9 X10 X11 X12 wQ _ _ _ _).trans ?_
  rw [decSt_row _ wQ _ _ _ (by show r.val / 512 ≤ 32; omega), encSt_row X0 X2 wP _ 32 le_rfl]
  show head _ _ _ _ (Q.step (decIn _ (⟨r.val % 512, _⟩ : Fin 512) (r.val / 512)) (Q.run (decIn _ (⟨r.val % 512, _⟩ : Fin 512)) _ (r.val / 512))).1 = _
  rw [ht, hs]
  show head _ _ _ _ (Q.run (decIn _ s) _ (t.val + 1)).1 = _
  unfold pass
  rw [Cell.run_congr Q _ (t.val + 1) (ys := fun k => (P.run (encIn X0 X2 s) (fun _ => 0, fun _ => 0) (k + 1)).1) (fun k hk => ?_)]
  funext d
  unfold decIn
  rw [dif_pos (by omega)]
  exact encAll_at X0 X2 wP ⟨k, by omega⟩ s d

/-- The second output: the integers as floats, times four. -/
theorem out14_at (X1 : S16x1024.Idx → BitVec 32) (b : Fin 16) (q : Fin 1024) :
    (out14 (F := Ideal) X1 (ix2 b q) : EReal) = FloatOps.sitofp (F := Ideal) .f32 (X1 (ix2 b q)) * Ideal.ofBits .f32 1082130432#32 := by
  unfold out14 k1_pay1
  pointwise
  exact congrArg (fun w : BitVec 32 => FloatOps.sitofp (F := Ideal) .f32 w * Ideal.ofBits .f32 1082130432#32)
    (sl_full (e := .i32) _ _ X1 _)

end Cert.Proof.KernelIdeal

end
-- ==== Proof.I.Feat.lean ====
/-
  The first kernel's table of features, read at a pixel.
-/
module

public import proofs.«01_k».proof.Proof.I.Body1
public import proofs.«01_k».proof.Proof.I.Cell
public import proofs.«01_k».proof.Proof.I.Body0
public import proofs.«01_k».proof.Proof.Math.Feat
public import Idealize.ShloMosaic.Lib.Pointwise
public import Idealize.ShloMosaic.Lib.StableHlo.ReadAt
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe

open Cert.Proof.Math

section
variable {xp : ℕ → ℕ → Fin 64 → EReal} {w : Fin 64 → Fin 64 → Fin 3 → Fin 3 → EReal} {b : Fin 64 → EReal} {w2 : Fin 32 → Fin 64 → EReal}

theorem tapX_at (X : S1x136x136x64.Idx → Elt Ideal .f32) (hX : ∀ u v i, X (ix4 0 u v i) = xp u.val v.val i) (p q : ℕ)
    (h : ∀ a, (![0, p, q, 0] : Fin 4 → ℕ) a + S1x128x128x64.size a ≤ S1x136x136x64.size a) (u v : Fin 128) (i : Fin 64) :
    (tapX X ![0, p, q, 0] h (ix4 0 u v i) : EReal) = xp (u.val + p) (v.val + q) i := by
  have hp := h 1
  have hq := h 2
  simp at hp hq
  have e := hX ⟨u.val + p, by omega⟩ ⟨v.val + q, by omega⟩ i
  refine Eq.trans ?_ e
  show X _ = X _
  congr 1
  funext a
  apply Fin.ext
  simp only [Rect.toLoadRect, LoadRect.idx, Rect.unit]
  fin_cases a <;> simp [ix4] <;> omega

theorem tapW_at (W : S9x64x64.Idx → Elt Ideal .f32) (k : Fin 9) (h : ∀ a, (![k.val, 0, 0] : Fin 3 → ℕ) a + S1x64x64.size a ≤ S9x64x64.size a)
    (i o : Fin 64) : (tapW W ![k.val, 0, 0] h (ix3 0 i o) : EReal) = W (ix3 k i o) := by
  show W _ = W _
  congr 1
  funext a
  apply Fin.ext
  simp only [Rect.toLoadRect, LoadRect.idx, Rect.unit]
  fin_cases a <;> simp [ix3]

/-- The feature table at a pixel. -/
theorem feat_at (X : S1x136x136x64.Idx → Elt Ideal .f32) (W : S9x64x64.Idx → Elt Ideal .f32) (B : S1x64.Idx → Elt Ideal .f32) (W2 : S64x32.Idx → Elt Ideal .f32)
    (hX : ∀ u v i, X (ix4 0 u v i) = xp u.val v.val i) (hW : ∀ (p q : Fin 3) i o, W (ix3 ⟨3 * p.val + q.val, by omega⟩ i o) = w o i p q)
    (hB : ∀ o, B (ix2 0 o) = b o) (hW2 : ∀ o d, W2 (ix2 o d) = w2 d o) (r : Fin 16384) (d : Fin 32) :
    (feat X W B W2 (ix2 r d) : EReal) = feature xp w b w2 (r.val / 128) (r.val % 128) d := by
  have w0 : ∀ i o, (tapW W ![0, 0, 0] inb_S9x64x64_S1x64x64_0_0_0 (ix3 0 i o) : EReal) = w o i 0 0 := fun i o => (tapW_at W ⟨0, by omega⟩ _ i o).trans (hW 0 0 i o)
  have w1 : ∀ i o, (tapW W ![1, 0, 0] inb_S9x64x64_S1x64x64_1_0_0 (ix3 0 i o) : EReal) = w o i 0 1 := fun i o => (tapW_at W ⟨1, by omega⟩ _ i o).trans (hW 0 1 i o)
  have w'2 : ∀ i o, (tapW W ![2, 0, 0] inb_S9x64x64_S1x64x64_2_0_0 (ix3 0 i o) : EReal) = w o i 0 2 := fun i o => (tapW_at W ⟨2, by omega⟩ _ i o).trans (hW 0 2 i o)
  have w3 : ∀ i o, (tapW W ![3, 0, 0] inb_S9x64x64_S1x64x64_3_0_0 (ix3 0 i o) : EReal) = w o i 1 0 := fun i o => (tapW_at W ⟨3, by omega⟩ _ i o).trans (hW 1 0 i o)
  have w4 : ∀ i o, (tapW W ![4, 0, 0] inb_S9x64x64_S1x64x64_4_0_0 (ix3 0 i o) : EReal) = w o i 1 1 := fun i o => (tapW_at W ⟨4, by omega⟩ _ i o).trans (hW 1 1 i o)
  have w5 : ∀ i o, (tapW W ![5, 0, 0] inb_S9x64x64_S1x64x64_5_0_0 (ix3 0 i o) : EReal) = w o i 1 2 := fun i o => (tapW_at W ⟨5, by omega⟩ _ i o).trans (hW 1 2 i o)
  have w6 : ∀ i o, (tapW W ![6, 0, 0] inb_S9x64x64_S1x64x64_6_0_0 (ix3 0 i o) : EReal) = w o i 2 0 := fun i o => (tapW_at W ⟨6, by omega⟩ _ i o).trans (hW 2 0 i o)
  have w7 : ∀ i o, (tapW W ![7, 0, 0] inb_S9x64x64_S1x64x64_7_0_0 (ix3 0 i o) : EReal) = w o i 2 1 := fun i o => (tapW_at W ⟨7, by omega⟩ _ i o).trans (hW 2 1 i o)
  have w8 : ∀ i o, (tapW W ![8, 0, 0] inb_S9x64x64_S1x64x64_8_0_0 (ix3 0 i o) : EReal) = w o i 2 2 := fun i o => (tapW_at W ⟨8, by omega⟩ _ i o).trans (hW 2 2 i o)
  have hb : ∀ o, (sl (Rect.unit (s := S1x64) ![0, 0] S1x64.size inb_S1x64_S1x64_0_0) B (ix2 0 o) : EReal) = b o := fun o => (sl_full _ _ B _).trans (hB o)
  have h2 : ∀ o, (sl (Rect.unit (s := S64x32) ![0, 0] S64x32.size inb_S64x32_S64x32_0_0) W2 (ix2 o d) : EReal) = w2 d o := fun o => (sl_full _ _ W2 _).trans (hW2 o d)
  unfold feat k0_pay1 k0_pay22 k0_pay21
  pointwise
  simp only [tapX_at X hX, w0, w1, w'2, w3, w4, w5, w6, w7, w8, hb, h2]
  rfl

end

end Cert.Proof.KernelIdeal

end
-- ==== Proof.I.Pick.lean ====
/-
  The first kernel's gather: a masked sum over eight rows is the row wanted.
-/
module

public import proofs.«01_k».proof.Proof.I.Body1
public import proofs.«01_k».proof.Proof.I.Body0
public import Idealize.ShloMosaic.Lib.Pointwise
public import Idealize.ShloMosaic.Lib.StableHlo.ReadAt
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe

/-- The mask of row `x` of a block of eight: one at the row wanted, zero elsewhere. -/
theorem mask_eq (w : BitVec 32) (x : Fin 8) :
    FloatOps.sitofp (F := Ideal) .f32 (BitVec.setWidth 32 (IntOp.cmpi CmpIPredicate.eq (BitVec.ofNat 32 x.val) (Scalar.andi w 7#32)))
      = if x.val = w.toNat % 8 then (1 : EReal) else 0 := by
  have hw : (Scalar.andi w 7#32).toNat = w.toNat % 8 := by
    show (w &&& 7#32).toNat = _
    rw [BitVec.toNat_and]
    exact Nat.and_two_pow_sub_one_eq_mod w.toNat 3
  have hc : IntOp.cmpi CmpIPredicate.eq (BitVec.ofNat 32 x.val) (Scalar.andi w 7#32) = if x.val = w.toNat % 8 then 1#1 else 0#1 := by
    have hx : (BitVec.ofNat 32 x.val).toNat = x.val := by rw [BitVec.toNat_ofNat]; omega
    have he : (BitVec.ofNat 32 x.val = Scalar.andi w 7#32) ↔ x.val = w.toNat % 8 := by
      rw [← BitVec.toNat_inj, hx, hw]
    show BitVec.ofBool (BitVec.ofNat 32 x.val == Scalar.andi w 7#32) = _
    by_cases h : x.val = w.toNat % 8
    · rw [if_pos h, he.mpr h, beq_self_eq_true]; rfl
    · rw [if_neg h, beq_eq_false_iff_ne.mpr fun e => h (he.mp e)]; rfl
  rw [hc]
  split_ifs
  · show ((((1#32 : BitVec 32).toInt : ℝ)) : EReal) = 1
    norm_num
  · show ((((0#32 : BitVec 32).toInt : ℝ)) : EReal) = 0
    norm_num

/-- The masked sum over a block of eight rows is the row wanted. -/
theorem pick_at (FE : S16384x32.Idx → Elt Ideal .f32) (w : BitVec 32) (h : RowOK w) (d : Fin 32) :
    (pick FE w (ix2 0 d) : EReal) = FE (ix2 ⟨w.toNat, h⟩ d) := by
  unfold pick k0_pay4 lanes
  pointwise
  simp only [mask_eq]
  have hlt : w.toNat < 16384 := h
  rw [Finset.sum_eq_single (⟨w.toNat % 8, Nat.mod_lt _ (by decide)⟩ : Fin 8)]
  · rw [if_pos rfl, mul_one]
    unfold block8
    refine congrArg FE (congrArg (fun r => ix2 r d) (Fin.ext ?_))
    show (w.toNat / 8 * 8 + w.toNat % 8) % 16384 = w.toNat
    omega
  · intro x _ hx
    rw [if_neg (fun e => hx (Fin.ext e)), mul_zero]
  · exact fun hx => absurd (Finset.mem_univ _) hx

end Cert.Proof.KernelIdeal

end
-- ==== Proof.I.Left0.lean ====
/-
  What the first kernel leaves in its output array.
-/
module

public import proofs.«01_k».proof.Proof.I.Body1
public import proofs.«01_k».proof.Proof.I.Pick
public import proofs.«01_k».proof.Proof.I.Region0
public import Idealize.ShloMosaic.Lib.Pipeline.ValueKit.Geometry
public import Idealize.ShloMosaic.Lib.Pointwise
public import Idealize.ShloMosaic.Lib.StableHlo.ReadAt
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe

open Idealize.ShloMosaic.Pipeline

/-- What the first kernel leaves in its output array. -/
theorem left0_eq (V : (c : Dev nD) → (b : Ref sig .tc) → Buf (Elt Ideal) ((c : Thread nD τ).loc b)) (c : Dev nD) :
    (dat0 (F := Ideal) V c).arrAt 5 cfg0.N = fun (i : S16x1024x32.Idx) =>
      pick (feat (fun x => V c main_v1 (ix4 (i 0) (x 1) (x 2) (x 3))) (V c main_v18) (V c main_v19) (V c main_v20))
        (V c main_v15 (ix2 (i 0) (i 1))) (ix2 0 (i 2)) := by
  refine (dat0 V c).arrAt_eq_of_covers 5 _ (by decide +kernel) fun t hf y => ?_
  blk_simp
  have e5 : ∀ t : Fin cfg0.N, win0_5.index t = ![(grid0.coords t 0).val, 0, 0] := (by decide +kernel : ∀ t : Fin grid0.N, _)
  have e1 : ∀ t : Fin cfg0.N, win0_1.index t = ![(grid0.coords t 0).val, 0, 0, 0] := (by decide +kernel : ∀ t : Fin grid0.N, _)
  have e0 : ∀ t : Fin cfg0.N, win0_0.index t = ![0, 0] := (by decide +kernel : ∀ t : Fin grid0.N, _)
  have e2 : ∀ t : Fin cfg0.N, win0_2.index t = ![0, 0, 0] := (by decide +kernel : ∀ t : Fin grid0.N, _)
  have e3 : ∀ t : Fin cfg0.N, win0_3.index t = ![0, 0] := (by decide +kernel : ∀ t : Fin grid0.N, _)
  have e4 : ∀ t : Fin cfg0.N, win0_4.index t = ![0, 0] := (by decide +kernel : ∀ t : Fin grid0.N, _)
  have hl : (grid0.coords t 0).val < 16 := (grid0.coords t 0).isLt
  have b0 : blk0 V c 0 t = V c main_v15 := by
    funext x
    show V c main_v15 ((win0_0.blk t).view.emb x) = V c main_v15 x
    refine congrArg (V c main_v15) ?_
    blk_ext [e0]
  have b2 : blk0 V c 2 t = V c main_v18 := by
    funext x
    show V c main_v18 ((win0_2.blk t).view.emb x) = V c main_v18 x
    refine congrArg (V c main_v18) ?_
    blk_ext [e2]
  have b3 : blk0 V c 3 t = V c main_v19 := by
    funext x
    show V c main_v19 ((win0_3.blk t).view.emb x) = V c main_v19 x
    refine congrArg (V c main_v19) ?_
    blk_ext [e3]
  have b4 : blk0 V c 4 t = V c main_v20 := by
    funext x
    show V c main_v20 ((win0_4.blk t).view.emb x) = V c main_v20 x
    refine congrArg (V c main_v20) ?_
    blk_ext [e4]
  have b1 : blk0 V c 1 t = fun x => V c main_v1 (ix4 ⟨(grid0.coords t 0).val, hl⟩ (x 1) (x 2) (x 3)) := by
    funext x
    show V c main_v1 ((win0_1.blk t).view.emb x) = _
    refine congrArg (V c main_v1) ?_
    blk_ext [e1]
  have y0 : (win0_5.blk t).view.emb y 0 = (⟨(grid0.coords t 0).val, hl⟩ : Fin 16) := by
    apply Fin.ext
    blk_simp [e5]
  have y1 : (win0_5.blk t).view.emb y 1 = (y 1 : Fin 1024) := by
    apply Fin.ext
    blk_simp [e5]
  have y2 : (win0_5.blk t).view.emb y 2 = (y 2 : Fin 32) := by
    apply Fin.ext
    blk_simp [e5]
  show gathered (blk0 V c 0 t) (feat (blk0 V c 1 t) (blk0 V c 2 t) (blk0 V c 3 t) (blk0 V c 4 t)) (grid0.coords t) y = _
  rw [b0, b1, b2, b3, b4, y0, y1, y2]
  unfold gathered
  have hm : (⟨(grid0.coords t 0).val % 16, Nat.mod_lt _ (by decide)⟩ : Fin 16) = ⟨(grid0.coords t 0).val, hl⟩ := Fin.ext (Nat.mod_eq_of_lt hl)
  rw [hm]
  rfl

end Cert.Proof.KernelIdeal

end
-- ==== Proof.I.Left1.lean ====
/-
  What the second kernel leaves in its output arrays.
-/
module

public import proofs.«01_k».proof.Proof.I.Body1
public import proofs.«01_k».proof.Proof.I.Cell
public import proofs.«01_k».proof.Proof.I.Region1
public import Idealize.ShloMosaic.Lib.Pipeline.ValueKit.Geometry
public import Idealize.ShloMosaic.Lib.Pointwise
public import Idealize.ShloMosaic.Lib.StableHlo.ReadAt
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe

open Idealize.ShloMosaic.Pipeline

theorem blk1_0 (V : (c : Dev nD) → (b : Ref sig .tc) → Buf (Elt Ideal) ((c : Thread nD τ).loc b)) (c : Dev nD) (t : Fin cfg1.N) : blk1 V c 0 t = V c main_v24 := by
  have e : ∀ t : Fin cfg1.N, win1_0.index t = ![0, 0, 0] := (by decide +kernel : ∀ t : Fin grid1.N, _)
  funext x
  show V c main_v24 ((win1_0.blk t).view.emb x) = V c main_v24 x
  refine congrArg (V c main_v24) ?_
  blk_ext [e]

theorem blk1_2 (V : (c : Dev nD) → (b : Ref sig .tc) → Buf (Elt Ideal) ((c : Thread nD τ).loc b)) (c : Dev nD) (t : Fin cfg1.N) : blk1 V c 2 t = V c main_v29 := by
  have e : ∀ t : Fin cfg1.N, win1_2.index t = ![0, 0] := (by decide +kernel : ∀ t : Fin grid1.N, _)
  funext x
  show V c main_v29 ((win1_2.blk t).view.emb x) = V c main_v29 x
  refine congrArg (V c main_v29) ?_
  blk_ext [e]

theorem blk1_3 (V : (c : Dev nD) → (b : Ref sig .tc) → Buf (Elt Ideal) ((c : Thread nD τ).loc b)) (c : Dev nD) (t : Fin cfg1.N) : blk1 V c 3 t = V c main_v30 := by
  have e : ∀ t : Fin cfg1.N, win1_3.index t = ![0, 0] := (by decide +kernel : ∀ t : Fin grid1.N, _)
  funext x
  show V c main_v30 ((win1_3.blk t).view.emb x) = V c main_v30 x
  refine congrArg (V c main_v30) ?_
  blk_ext [e]

theorem blk1_4 (V : (c : Dev nD) → (b : Ref sig .tc) → Buf (Elt Ideal) ((c : Thread nD τ).loc b)) (c : Dev nD) (t : Fin cfg1.N) : blk1 V c 4 t = V c main_v31 := by
  have e : ∀ t : Fin cfg1.N, win1_4.index t = ![0, 0] := (by decide +kernel : ∀ t : Fin grid1.N, _)
  funext x
  show V c main_v31 ((win1_4.blk t).view.emb x) = V c main_v31 x
  refine congrArg (V c main_v31) ?_
  blk_ext [e]

theorem blk1_5 (V : (c : Dev nD) → (b : Ref sig .tc) → Buf (Elt Ideal) ((c : Thread nD τ).loc b)) (c : Dev nD) (t : Fin cfg1.N) : blk1 V c 5 t = V c main_v33 := by
  have e : ∀ t : Fin cfg1.N, win1_5.index t = ![0, 0] := (by decide +kernel : ∀ t : Fin grid1.N, _)
  funext x
  show V c main_v33 ((win1_5.blk t).view.emb x) = V c main_v33 x
  refine congrArg (V c main_v33) ?_
  blk_ext [e]

theorem blk1_6 (V : (c : Dev nD) → (b : Ref sig .tc) → Buf (Elt Ideal) ((c : Thread nD τ).loc b)) (c : Dev nD) (t : Fin cfg1.N) : blk1 V c 6 t = V c main_v34 := by
  have e : ∀ t : Fin cfg1.N, win1_6.index t = ![0, 0] := (by decide +kernel : ∀ t : Fin grid1.N, _)
  funext x
  show V c main_v34 ((win1_6.blk t).view.emb x) = V c main_v34 x
  refine congrArg (V c main_v34) ?_
  blk_ext [e]

theorem blk1_7 (V : (c : Dev nD) → (b : Ref sig .tc) → Buf (Elt Ideal) ((c : Thread nD τ).loc b)) (c : Dev nD) (t : Fin cfg1.N) : blk1 V c 7 t = V c main_v35 := by
  have e : ∀ t : Fin cfg1.N, win1_7.index t = ![0, 0] := (by decide +kernel : ∀ t : Fin grid1.N, _)
  funext x
  show V c main_v35 ((win1_7.blk t).view.emb x) = V c main_v35 x
  refine congrArg (V c main_v35) ?_
  blk_ext [e]

theorem blk1_8 (V : (c : Dev nD) → (b : Ref sig .tc) → Buf (Elt Ideal) ((c : Thread nD τ).loc b)) (c : Dev nD) (t : Fin cfg1.N) : blk1 V c 8 t = V c main_v37 := by
  have e : ∀ t : Fin cfg1.N, win1_8.index t = ![0, 0] := (by decide +kernel : ∀ t : Fin grid1.N, _)
  funext x
  show V c main_v37 ((win1_8.blk t).view.emb x) = V c main_v37 x
  refine congrArg (V c main_v37) ?_
  blk_ext [e]

theorem blk1_9 (V : (c : Dev nD) → (b : Ref sig .tc) → Buf (Elt Ideal) ((c : Thread nD τ).loc b)) (c : Dev nD) (t : Fin cfg1.N) : blk1 V c 9 t = V c main_v38 := by
  have e : ∀ t : Fin cfg1.N, win1_9.index t = ![0, 0] := (by decide +kernel : ∀ t : Fin grid1.N, _)
  funext x
  show V c main_v38 ((win1_9.blk t).view.emb x) = V c main_v38 x
  refine congrArg (V c main_v38) ?_
  blk_ext [e]

theorem blk1_10 (V : (c : Dev nD) → (b : Ref sig .tc) → Buf (Elt Ideal) ((c : Thread nD τ).loc b)) (c : Dev nD) (t : Fin cfg1.N) : blk1 V c 10 t = V c main_v39 := by
  have e : ∀ t : Fin cfg1.N, win1_10.index t = ![0, 0] := (by decide +kernel : ∀ t : Fin grid1.N, _)
  funext x
  show V c main_v39 ((win1_10.blk t).view.emb x) = V c main_v39 x
  refine congrArg (V c main_v39) ?_
  blk_ext [e]

theorem blk1_11 (V : (c : Dev nD) → (b : Ref sig .tc) → Buf (Elt Ideal) ((c : Thread nD τ).loc b)) (c : Dev nD) (t : Fin cfg1.N) : blk1 V c 11 t = V c main_v28 := by
  have e : ∀ t : Fin cfg1.N, win1_11.index t = ![0, 0] := (by decide +kernel : ∀ t : Fin grid1.N, _)
  funext x
  show V c main_v28 ((win1_11.blk t).view.emb x) = V c main_v28 x
  refine congrArg (V c main_v28) ?_
  blk_ext [e]

theorem blk1_12 (V : (c : Dev nD) → (b : Ref sig .tc) → Buf (Elt Ideal) ((c : Thread nD τ).loc b)) (c : Dev nD) (t : Fin cfg1.N) : blk1 V c 12 t = V c main_arg21 := by
  have e : ∀ t : Fin cfg1.N, win1_12.index t = ![0] := (by decide +kernel : ∀ t : Fin grid1.N, _)
  funext x
  show V c main_arg21 ((win1_12.blk t).view.emb x) = V c main_arg21 x
  refine congrArg (V c main_arg21) ?_
  blk_ext [e]

theorem blk1_1 (V : (c : Dev nD) → (b : Ref sig .tc) → Buf (Elt Ideal) ((c : Thread nD τ).loc b)) (c : Dev nD) (t : Fin cfg1.N) : blk1 V c 1 t = V c main_v16 := by
  have e : ∀ t : Fin cfg1.N, win1_1.index t = ![0, 0] := (by decide +kernel : ∀ t : Fin grid1.N, _)
  funext x
  show V c main_v16 ((win1_1.blk t).view.emb x) = V c main_v16 x
  refine congrArg (V c main_v16) ?_
  blk_ext [e]

/-- What the second kernel leaves in its first output array. -/
theorem left1_eq (V : (c : Dev nD) → (b : Ref sig .tc) → Buf (Elt Ideal) ((c : Thread nD τ).loc b)) (c : Dev nD) :
    (dat1 (F := Ideal) V c).arrAt 13 cfg1.N =
      out13 (F := Ideal) (V c main_v24) (V c main_v29) (V c main_v30) (V c main_v31) (V c main_v33) (V c main_v34) (V c main_v35) (V c main_v37) (V c main_v38) (V c main_v39) (V c main_v28) (V c main_arg21) := by
  refine (dat1 V c).arrAt_eq_of_covers 13 _ (by decide +kernel) fun t hf y => ?_
  blk_simp
  have e : ∀ t : Fin cfg1.N, win1_13.index t = ![0, 0] := (by decide +kernel : ∀ t : Fin grid1.N, _)
  have hy : (win1_13.blk t).view.emb y = (y : S16384x128.Idx) := by blk_ext [e]
  rw [hy]
  show out13 (blk1 V c 0 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) y = _
  rw [blk1_0, blk1_2, blk1_3, blk1_4, blk1_5, blk1_6, blk1_7, blk1_8, blk1_9, blk1_10, blk1_11, blk1_12]

/-- What the second kernel leaves in its second output array. -/
theorem left2_eq (V : (c : Dev nD) → (b : Ref sig .tc) → Buf (Elt Ideal) ((c : Thread nD τ).loc b)) (c : Dev nD) :
    (dat1 (F := Ideal) V c).arrAt 14 cfg1.N = out14 (F := Ideal) (V c main_v16) := by
  refine (dat1 V c).arrAt_eq_of_covers 14 _ (by decide +kernel) fun t hf y => ?_
  blk_simp
  have e : ∀ t : Fin cfg1.N, win1_14.index t = ![0, 0] := (by decide +kernel : ∀ t : Fin grid1.N, _)
  have hy : (win1_14.blk t).view.emb y = (y : S16x1024.Idx) := by blk_ext [e]
  rw [hy]
  show out14 (blk1 V c 1 t) y = _
  rw [blk1_1]

end Cert.Proof.KernelIdeal

end
-- ==== Proof.I.Values.lean ====
/-
  The kernel's two results at an index, as plain functions of the arguments: the predictions as two recurrent passes
  over the gathered features, and the targets.
-/
module

public import proofs.«01_k».proof.Proof.I.HostV
public import proofs.«01_k».proof.Proof.I.Run
public import proofs.«01_k».proof.Proof.I.Cell
public import proofs.«01_k».proof.Proof.I.Feat
public import proofs.«01_k».proof.Proof.I.Pick
public import proofs.«01_k».proof.Proof.I.Left0
public import proofs.«01_k».proof.Proof.I.Left1

@[expose] public section

set_option maxRecDepth 16384
set_option maxHeartbeats 1000000

noncomputable section

namespace Cert.Proof.KernelIdeal

open Cert.KernelIdeal Cert.KernelIdeal.Gen
open Idealize.ShloMosaic Idealize.ShloMosaic.TcCoe
open Cert.Proof.Math

variable (m : (ℓ : Loc nD τ sig) → Buf (Elt Ideal) ℓ) (c : Dev nD)

/-- The encoder's cell. -/
def enc : Cell 32 :=
  ⟨fun g d => V0 m c main_arg6 (ix2 g d), fun g => V0 m c main_arg8 (ix1 g), fun g j => V0 m c main_arg7 (ix2 g j), fun g => V0 m c main_arg9 (ix1 g)⟩

/-- The decoder's cell. -/
def dec : Cell 128 :=
  ⟨fun g d => V0 m c main_arg10 (ix2 g d), fun g => V0 m c main_arg12 (ix1 g), fun g j => V0 m c main_arg11 (ix2 g j), fun g => V0 m c main_arg13 (ix1 g)⟩

/-- The projected features of image `b`, before the projection's bias. -/
def proj (b : Fin 16) (u v : ℕ) (d : Fin 32) : EReal :=
  feature (padded fun i y x => V0 m c main_arg0 (ix4 b i y x)) (fun o i p q => V0 m c main_arg2 (ix4 o i p q))
    (fun o => V0 m c main_arg3 (ix1 o)) (fun d o => V0 m c main_arg4 (ix2 d o)) u v d

/-- The features of image `b`. -/
def feats (b : Fin 16) (u v : ℕ) (d : Fin 32) : EReal := HAdd.hAdd (α := EReal) (proj m c b u v d) (V0 m c main_arg5 (ix1 d))

/-- The sequence of contour `n` of image `b`: the features at the landmarks' coordinates `a` and `a'`. -/
def seqs (a a' : Fin 2) (b n : Fin 16) (t : ℕ) (d : Fin 32) : EReal :=
  if h : t < 32 then feats m c b (crd m c b n ⟨t, h⟩ a).toNat (crd m c b n ⟨t, h⟩ a').toNat d else 0

/-- The predictions of one coordinate. -/
def preds (a a' : Fin 2) (b n : Fin 16) (t : ℕ) : EReal :=
  pass (enc m c) (dec m c) (fun q i => V0 m c main_arg18 (ix2 q i)) (fun q => V0 m c main_arg19 (ix1 q)) (fun q => V0 m c main_arg20 (ix2 0 q))
    (V0 m c main_arg21 (ix1 0)) (seqs m c a a' b n) t

/-! ## The gathered features -/

/-- What the first kernel leaves at row `j` of image `b`: the projected features at the cell that the table names. -/
theorem left0_at (b : Fin 16) (j : Fin 1024) (d : Fin 32) :
    (left0 m c (ix3 b j d) : EReal) = proj m c b ((V5 m c main_v15 (ix2 b j) : BitVec 32).toNat / 128) ((V5 m c main_v15 (ix2 b j) : BitVec 32).toNat % 128) d := by
  unfold left0
  rw [left0_eq]
  refine (pick_at _ _ (lin_lt m c b j) d).trans ?_
  exact feat_at _ _ _ _ (fun u v i => v1_at m c b u v i) (fun p q i o => v18_at m c p q i o) (fun o => v19_at m c o)
    (fun o d => v20_at m c o d) _ d

theorem crd_lt (b n : Fin 16) (t : Fin 32) (a : Fin 2) : (crd m c b n t a).toNat < 128 := clip_lt _

/-- The rows of the first coordinate. -/
theorem left0_at_0 (b n : Fin 16) (t : Fin 32) (d : Fin 32) (j : Fin 1024) (hj : j.val = n.val * 32 + t.val) :
    (left0 m c (ix3 b j d) : EReal) = proj m c b (crd m c b n t 0).toNat (crd m c b n t 1).toNat d := by
  have h0 := crd_lt m c b n t 0
  have h1 := crd_lt m c b n t 1
  rw [left0_at, v15_at, dif_pos (by omega), cell_toNat _ _ (crd_lt ..) (crd_lt ..)]
  have e : (⟨j.val / 32, by omega⟩ : Fin 16) = n := Fin.ext (by dsimp only; omega)
  have e' : (⟨j.val % 32, by omega⟩ : Fin 32) = t := Fin.ext (by dsimp only; omega)
  rw [e, e']
  congr 1 <;> omega

/-- The rows of the second coordinate. -/
theorem left0_at_1 (b n : Fin 16) (t : Fin 32) (d : Fin 32) (j : Fin 1024) (hj : j.val = 512 + n.val * 32 + t.val) :
    (left0 m c (ix3 b j d) : EReal) = proj m c b (crd m c b n t 1).toNat (crd m c b n t 0).toNat d := by
  have h0 := crd_lt m c b n t 0
  have h1 := crd_lt m c b n t 1
  rw [left0_at, v15_at, dif_neg (by omega), cell_toNat _ _ (crd_lt ..) (crd_lt ..)]
  have e : (⟨(j.val - 512) / 32, by omega⟩ : Fin 16) = n := Fin.ext (by dsimp only; omega)
  have e' : (⟨(j.val - 512) % 32, by omega⟩ : Fin 32) = t := Fin.ext (by dsimp only; omega)
  rw [e, e']
  congr 1 <;> omega

/-! ## The second kernel's operands -/

/-- The buffers where the second kernel is entered. -/
abbrev V7' : Valuation τ sig (Elt Ideal) := V7 m (outsA m) c

theorem encW : EncW (enc m c) (V7' m c main_v30) (V7' m c main_v31) (V7' m c main_v33) :=
  ⟨fun d g => v30_at m _ c d g, fun j g => v31_at m _ c j g, fun g => v33_at m _ c g⟩

theorem decW : DecW (dec m c) (V7' m c main_v34) (V7' m c main_v35) (V7' m c main_v37) :=
  ⟨fun d g => v34_at m _ c d g, fun j g => v35_at m _ c j g, fun g => v37_at m _ c g⟩

theorem v24_left (t : Fin 32) (s : Fin 512) (d : Fin 32) :
    (V7' m c main_v24 (ix3 t s d) : EReal) =
      left0 m c (ix3 ⟨s.val / 16 % 16, by omega⟩ ⟨s.val / 256 * 512 + s.val % 16 * 32 + t.val, by omega⟩ d) := by
  refine (v24_at m _ c t s d).trans ?_
  rw [outsA_21]

/-- The encoder's input on the rows of the first coordinate. -/
theorem encIn_0 (b n : Fin 16) (s : Fin 512) (hs : s.val = b.val * 16 + n.val) :
    encIn (V7' m c main_v24) (V7' m c main_v29) s = seqs m c 0 1 b n := by
  funext t d
  unfold encIn seqs
  by_cases h : t < 32
  · rw [dif_pos h, dif_pos h]
    have e : (⟨s.val / 16 % 16, by omega⟩ : Fin 16) = b := Fin.ext (by dsimp only; omega)
    refine congrArg₂ (fun x y : EReal => x + y) ((v24_left m c ⟨t, h⟩ s d).trans ?_) (v29_at m _ c d)
    rw [e]
    exact left0_at_0 m c b n ⟨t, h⟩ d _ (by dsimp only; omega)
  · rw [dif_neg h, dif_neg h]

/-- The encoder's input on the rows of the second coordinate. -/
theorem encIn_1 (b n : Fin 16) (s : Fin 512) (hs : s.val = 256 + b.val * 16 + n.val) :
    encIn (V7' m c main_v24) (V7' m c main_v29) s = seqs m c 1 0 b n := by
  funext t d
  unfold encIn seqs
  by_cases h : t < 32
  · rw [dif_pos h, dif_pos h]
    have e : (⟨s.val / 16 % 16, by omega⟩ : Fin 16) = b := Fin.ext (by dsimp only; omega)
    refine congrArg₂ (fun x y : EReal => x + y) ((v24_left m c ⟨t, h⟩ s d).trans ?_) (v29_at m _ c d)
    rw [e]
    exact left0_at_1 m c b n ⟨t, h⟩ d _ (by dsimp only; omega)
  · rw [dif_neg h, dif_neg h]

/-- What the second kernel leaves in the first column, from the sequence of its row. -/
theorem left1_at (r : Fin 16384) (t : Fin 32) (s : Fin 512) (hr : r.val = 512 * t.val + s.val) :
    (left1 m c (ix2 r 0) : EReal) =
      pass (enc m c) (dec m c) (fun q i => V0 m c main_arg18 (ix2 q i)) (fun q => V0 m c main_arg19 (ix1 q)) (fun q => V0 m c main_arg20 (ix2 0 q))
        (V0 m c main_arg21 (ix1 0)) (encIn (V7' m c main_v24) (V7' m c main_v29) s) t.val := by
  unfold left1
  rw [left1_eq]
  refine (out13_at _ _ _ _ _ _ (encW m c) (decW m c) r t s hr 0).trans ?_
  have e9 : (fun (q : Fin 64) (i : Fin 128) => (V7' m c main_v38 (ix2 i q) : EReal)) = fun q i => V0 m c main_arg18 (ix2 q i) :=
    funext fun q => funext fun i => v38_at m _ c i q
  have e10 : (fun q : Fin 64 => (V7' m c main_v39 (ix2 0 q) : EReal)) = fun q => V0 m c main_arg19 (ix1 q) := funext fun q => v39_at m _ c q
  have e11 : (fun q : Fin 64 => (V7' m c main_v28 (ix2 q 0) : EReal)) = fun q => V0 m c main_arg20 (ix2 0 q) := funext fun q => v28_at m _ c q
  have e12 : (V7' m c main_arg21 (ix1 0) : EReal) = V0 m c main_arg21 (ix1 0) := arg21_at m _ c
  show pass _ _ (fun (q : Fin 64) (i : Fin 128) => (V7' m c main_v38 (ix2 i q) : EReal)) (fun q : Fin 64 => (V7' m c main_v39 (ix2 0 q) : EReal))
    (fun q : Fin 64 => (V7' m c main_v28 (ix2 q 0) : EReal)) (V7' m c main_arg21 (ix1 0) : EReal) _ _ = _
  rw [e9, e10, e11, e12]

/-! ## The results -/

/-- The first coordinate of the predictions. -/
theorem v44_at_0 (b n : Fin 16) (t : Fin 32) : (V9 m (outs m) c main_v44 (ix4 b n t 0) : EReal) = preds m c 0 1 b n t.val := by
  refine (v44_at m _ c b n t 0).trans ?_
  rw [outs_40_0]
  refine (left1_at m c _ t ⟨b.val * 16 + n.val, by omega⟩ (by dsimp only; omega)).trans ?_
  rw [encIn_0 m c b n _ rfl]
  rfl

/-- The second coordinate of the predictions. -/
theorem v44_at_1 (b n : Fin 16) (t : Fin 32) : (V9 m (outs m) c main_v44 (ix4 b n t 1) : EReal) = preds m c 1 0 b n t.val := by
  refine (v44_at m _ c b n t 1).trans ?_
  rw [outs_40_0]
  refine (left1_at m c _ t ⟨256 + b.val * 16 + n.val, by omega⟩ (by dsimp only; omega)).trans ?_
  rw [encIn_1 m c b n _ rfl]
  rfl

/-- The targets. -/
theorem v45_at' (b n : Fin 16) (t : Fin 32) (a : Fin 2) :
    (V9 m (outs m) c main_v45 (ix4 b n t a) : EReal) = FloatOps.sitofp (F := Ideal) .f32 (crd m c b n t a) * Ideal.ofBits .f32 1082130432#32 := by
  refine (v45_at m _ c b n t a).trans ?_
  rw [outs_40_1]
  unfold left2
  rw [left2_eq]
  refine (out14_at _ b _).trans ?_
  refine congrArg (fun w : BitVec 32 => FloatOps.sitofp (F := Ideal) .f32 w * Ideal.ofBits .f32 1082130432#32) ?_
  refine (congrFun (v16_kept m (outsA m) c) _).trans (Eq.trans ?_ (v16_at m c b n t a (by omega)))
  exact congrArg (fun q => V5 m c main_v16 (ix2 b q)) (Fin.ext (by dsimp only; omega))

end Cert.Proof.KernelIdeal

end
-- ==== Proof.Ref.Slices.lean ====
/-
  A loop's slices at a trip's number: the block of one step, taken out of a sequence or put into it.
-/
module

public import proofs.«01_k».proof.Proof.Gen.ReferenceIdeal
public import Idealize.ShloMosaic.Lib.Pointwise
public import Idealize.ShloMosaic.Lib.DynamicIndex
public import Idealize.ShloMosaic.Lib.Pipeline.Value

@[expose] public section

namespace Cert.Proof.Ref

open Cert.ReferenceIdeal Cert.ReferenceIdeal.Gen
open Idealize.ShloMosaic

/-- A trip's number as a slice's start. -/
theorem start_eq (k : Fin 32) : (BitVec.ofNat 32 k.val).toInt = (k.val : ℤ) := by
  revert k; decide

/-- Step `k` of a sequence of input rows. -/
theorem take32 {α : Type} (x : S32x256x32.Idx → α) (st : Fin 3 → ℤ) (h : S32x256x32.Slices (fun _ => 0) S1x256x32) (k : Fin 32)
    (h0 : st 0 = (k.val : ℤ)) (h1 : st 1 = 0) (h2 : st 2 = 0) :
    Host.dynamicSlice S1x256x32 x st h = fun i => x (ix3 k (i 1) (i 2)) := by
  funext i
  rw [Host.dynamicSlice_eq_extractStridedSlice S1x256x32 x st ![k.val, 0, 0] h ⟨rfl, fun a => by have := k.isLt; fin_cases a <;> simp <;> omega⟩
    (fun a => by fin_cases a <;> simp [h0, h1, h2])]
  rw [eq_ix3 i]
  have hi : (i 0).val < 1 := (i 0).isLt
  pointwise

/-- Step `k` of a sequence of hidden rows. -/
theorem take128 {α : Type} (x : S32x256x128.Idx → α) (st : Fin 3 → ℤ) (h : S32x256x128.Slices (fun _ => 0) S1x256x128) (k : Fin 32)
    (h0 : st 0 = (k.val : ℤ)) (h1 : st 1 = 0) (h2 : st 2 = 0) :
    Host.dynamicSlice S1x256x128 x st h = fun i => x (ix3 k (i 1) (i 2)) := by
  funext i
  rw [Host.dynamicSlice_eq_extractStridedSlice S1x256x128 x st ![k.val, 0, 0] h ⟨rfl, fun a => by have := k.isLt; fin_cases a <;> simp <;> omega⟩
    (fun a => by fin_cases a <;> simp [h0, h1, h2])]
  rw [eq_ix3 i]
  have hi : (i 0).val < 1 := (i 0).isLt
  pointwise

/-- A sequence of hidden rows with step `k` replaced. -/
theorem put128 {α : Type} (x : S32x256x128.Idx → α) (u : S1x256x128.Idx → α) (st : Fin 3 → ℤ)
    (h : S32x256x128.Slices (fun _ => 0) S1x256x128) (k : Fin 32)
    (h0 : st 0 = (k.val : ℤ)) (h1 : st 1 = 0) (h2 : st 2 = 0) :
    Host.dynamicUpdateSlice x u st h = fun i => if (i 0).val = k.val then u (ix3 0 (i 1) (i 2)) else x i := by
  funext i
  have hk := k.isLt
  rw [Host.dynamicUpdateSlice_eq_updateSlice x u st h ![k.val, 0, 0]
    (fun a => by fin_cases a <;> simp [h0, h1, h2] <;> omega) ⟨rfl, fun a => by fin_cases a <;> simp <;> omega⟩]
  unfold updateSlice
  have a1 : (i 1).val < 256 := (i 1).isLt
  have a2 : (i 2).val < 128 := (i 2).isLt
  by_cases e : (i 0).val = k.val
  · rw [dif_pos (fun a => by fin_cases a <;> simp <;> omega), if_pos e]
    congr 1
    funext b
    apply Fin.ext
    fin_cases b <;> simp [ix3, e]
  · rw [dif_neg (fun hh => e (by have := hh 0; simp at this; omega)), if_neg e]

end Cert.Proof.Ref
-- ==== Proof.Ref.Feat.lean ====
/-
  The reference's feature map, read at an index: the padded image and the projected convolution with its bias.
-/
module

public import proofs.«01_k».proof.Proof.Ref.Frame
public import proofs.«01_k».proof.Proof.Ref.Slices
public import proofs.«01_k».proof.Proof.Math.Feat
public import Idealize.ShloMosaic.Lib.Pointwise
public import Idealize.ShloMosaic.Lib.StableHlo.ReadAt
public import Idealize.ShloMosaic.PureOps.Ideal

@[expose] public section

set_option maxRecDepth 16384
set_option maxHeartbeats 4000000

noncomputable section

namespace Cert.Proof.Ref

open Cert.ReferenceIdeal Cert.ReferenceIdeal.Gen
open Idealize.ShloMosaic Idealize.ShloMosaic.StableHlo
open Idealize.ShloMosaic.TcCoe

open Cert.Proof.Math

/-- The padded image. -/
theorem v0_at (V : Valuation τ sig (Elt Ideal)) (b : Fin 16) (i : Fin 64) (u v : Fin 130) :
    (after (mainLines.l0.take 3) V main_v0 (ix4 b i u v) : EReal) = padded (fun i y x => V main_arg0 (ix4 b i y x)) u.val v.val i := by
  dsimp only [mainLines, List.take]
  after_reads_simp
  simp -implicitDefEqProofs only [StableHlo.TRef.toBuf, StableHlo.TRef.ofBuf, cast_cast, cast_eq, id_eq]
  pointwise
  unfold padded
  have hz : (FloatOps.sitofp (F := Ideal) FTy.f32 0#32 : EReal) = 0 := by
    show (((0#32 : BitVec 32).toInt : ℝ) : EReal) = 0
    simp
  by_cases h : (1 ≤ u.val ∧ u.val ≤ 128) ∧ 1 ≤ v.val ∧ v.val ≤ 128
  · rw [dif_pos h, dif_pos (by omega)]
  · rw [dif_neg h, dif_neg (by omega), hz]

/-- The features, from the padded image `xp`. -/
theorem v64_at (V : Valuation τ sig (Elt Ideal)) (xp : Fin 16 → ℕ → ℕ → Fin 64 → EReal)
    (hx : ∀ b i (u v : Fin 130), (V main_v0 (ix4 b i u v) : EReal) = xp b u.val v.val i) (b : Fin 16) (d : Fin 32) (u v : Fin 128) :
    (after ((mainLines.l0.take 78).drop 3) V main_v64 (ix4 b d u v) : EReal) =
      HAdd.hAdd (α := EReal) (feature (xp b) (fun o i p q => V main_arg2 (ix4 o i p q)) (fun o => V main_arg3 (ix1 o)) (fun d o => V main_arg4 (ix2 d o)) u.val v.val d)
        (V main_arg5 (ix1 d)) := by
  dsimp only [mainLines, List.drop, List.take]
  after_reads_simp
  simp -implicitDefEqProofs only [StableHlo.TRef.toBuf, StableHlo.TRef.ofBuf, cast_cast, cast_eq, id_eq]
  pointwise
  refine congrArg (fun z : EReal => z + V main_arg5 (ix1 d)) ?_
  refine Finset.sum_congr rfl fun o _ => ?_
  rw [EReal.mul_comm]
  refine congrArg (fun z : EReal => max (z + V main_arg3 (ix1 o)) 0 * V main_arg4 (ix2 d o)) ?_
  have tp : ∀ (p q : Fin 3) (f : Fin 64 → EReal), (∀ i, f i = xp b (u.val + p.val) (v.val + q.val) i) →
      ∑ i, HMul.hMul (α := EReal) (V main_arg2 (ix4 o i p q)) (f i) = tap (xp b) (fun o i p q => V main_arg2 (ix4 o i p q)) u.val v.val o p q :=
    fun p q f hf => Finset.sum_congr rfl fun i _ => by rw [hf i, EReal.mul_comm]
  unfold conv
  refine congrArg₂ (· + ·) (congrArg₂ (· + ·) (congrArg₂ (· + ·) (congrArg₂ (· + ·) (congrArg₂ (· + ·) (congrArg₂ (· + ·) (congrArg₂ (· + ·)
    (congrArg₂ (· + ·) (tp 0 0 _ fun i => ?_) (tp 0 1 _ fun i => ?_)) (tp 0 2 _ fun i => ?_)) (tp 1 0 _ fun i => ?_)) (tp 1 1 _ fun i => ?_))
    (tp 1 2 _ fun i => ?_)) (tp 2 0 _ fun i => ?_)) (tp 2 1 _ fun i => ?_)) (tp 2 2 _ fun i => ?_)
  all_goals
    refine (hx ..).trans ?_
    simp [Nat.add_comm]

/-- The arguments the features read are not written before. -/
theorem args3 (V : Valuation τ sig (Elt Ideal)) :
    after (mainLines.l0.take 3) V main_arg2 = V main_arg2 ∧ after (mainLines.l0.take 3) V main_arg3 = V main_arg3 ∧
      after (mainLines.l0.take 3) V main_arg4 = V main_arg4 ∧ after (mainLines.l0.take 3) V main_arg5 = V main_arg5 := by
  dsimp only [mainLines, List.take]
  refine ⟨?_, ?_, ?_, ?_⟩
  all_goals after_reads_simp

/-- A line in two parts. -/
theorem split_at (ops : List (HloOp τ sig (Elt Ideal))) (n : ℕ) (V : Valuation τ sig (Elt Ideal)) :
    after ops V = after (ops.drop n) (after (ops.take n) V) := by
  rw [← after_append, List.take_append_drop]

/-- The features, bias included, that the gathers read. -/
theorem feats_at (V : Valuation τ sig (Elt Ideal)) (b : Fin 16) (d : Fin 32) (u v : Fin 128) :
    (after (mainLines.l0.take 78) V main_v64 (ix4 b d u v) : EReal) =
      HAdd.hAdd (α := EReal) (feature (padded fun i y x => V main_arg0 (ix4 b i y x)) (fun o i p q => V main_arg2 (ix4 o i p q))
        (fun o => V main_arg3 (ix1 o)) (fun d o => V main_arg4 (ix2 d o)) u.val v.val d) (V main_arg5 (ix1 d)) := by
  obtain ⟨h2, h3, h4, h5⟩ := args3 V
  rw [split_at _ 3, List.take_take]
  refine (v64_at _ (fun b => padded fun i y x => V main_arg0 (ix4 b i y x)) (fun b i u v => v0_at V b i u v) b d u v).trans ?_
  rw [h2, h3, h4, h5]

end Cert.Proof.Ref

end
-- ==== Proof.Ref.Seqs.lean ====
/-
  What the reference's first line leaves for the loops, read at an index: the clipped coordinates and the gathered
  sequences.
-/
module

public import proofs.«01_k».proof.Proof.Ref.Frame
public import proofs.«01_k».proof.Proof.Ref.Slices
public import proofs.«01_k».proof.Proof.I.Host0
public import Idealize.ShloMosaic.Lib.Pointwise
public import Idealize.ShloMosaic.Lib.StableHlo.ReadAt
public import Idealize.ShloMosaic.PureOps.Ideal

@[expose] public section

set_option maxRecDepth 16384
set_option maxHeartbeats 4000000

noncomputable section

namespace Cert.Proof.Ref

open Cert.ReferenceIdeal Cert.ReferenceIdeal.Gen
open Idealize.ShloMosaic Idealize.ShloMosaic.StableHlo
open Idealize.ShloMosaic.TcCoe

open Cert.Proof.KernelIdeal (clip clip_lt cell cell_toNat)

theorem v65_at (V : Valuation τ sig (Elt Ideal)) (b n : Fin 16) (t : Fin 32) (a : Fin 2) :
    (after (mainLines.l0.take 78) V main_v65 (ix4 b n t a) : BitVec 32) = clip (V main_arg1 (ix4 b n t a)) := by
  dsimp only [mainLines, List.take]
  after_reads_simp
  simp -implicitDefEqProofs only [StableHlo.TRef.toBuf, StableHlo.TRef.ofBuf, cast_cast, cast_eq, id_eq]
  pointwise
  rfl

/-- The gather along the last axis, one word for each image and landmark, read at an index: a word in range names the column. -/
theorem gather_at (x : S16x32x16384.Idx → EReal) (idx : IVec S16x512x1 32) (b : Fin 16) (d : Fin 32) (j : Fin 512) (w : BitVec 32)
    (hi : idx (ix3 b j 0) = w) (hw : w.toNat < 16384) :
    Host.gather gather_S16x32x16384_S16x512x1_S16x32x512_1_2_0_0_2_2_1321 x idx (ix3 b d j) = x (ix3 b d ⟨w.toNat, hw⟩) := by
  unfold Host.gather
  congr 1
  have hs : gather_S16x32x16384_S16x512x1_S16x32x512_1_2_0_0_2_2_1321.siIdx (ix3 b d j) ⟨0, by decide⟩ = ix3 b j 0 := by
    funext a
    match a with
    | ⟨0, _⟩ => rfl
    | ⟨1, _⟩ => rfl
    | ⟨2, _⟩ => rfl
  funext a
  apply Fin.ext
  match a with
  | ⟨0, _⟩ => exact (Nat.zero_add _).trans rfl
  | ⟨1, _⟩ => exact (Nat.zero_add _).trans rfl
  | ⟨2, _⟩ =>
    show min (idx (gather_S16x32x16384_S16x512x1_S16x32x512_1_2_0_0_2_2_1321.siIdx (ix3 b d j) ⟨0, by decide⟩)).toInt.toNat (16384 - 1) + 0 + 0 = w.toNat
    rw [hs, hi, BitVec.toInt_eq_toNat_of_lt (by omega)]
    simp
    omega

/-- The index the gather is given: the cell number itself, since it is never negative. -/
theorem word_eq (w : BitVec 32) (hw : w.toNat < 16384) :
    (if IntOp.cmpi CmpIPredicate.slt w 0#32 = 1#1 then IntOp.addi w 16384#32 else w) = w := by
  rw [if_neg]
  show ¬ BitVec.ofBool (w.slt 0#32) = 1#1
  have h : w.slt 0#32 = false := by
    rw [← Bool.not_eq_true, BitVec.slt_iff_toInt_lt, BitVec.toInt_eq_toNat_of_lt (by omega)]
    simp
  rw [h]
  decide

/-- The gather at words that are each a cell number, never negative. -/
theorem words_at (x : S16x32x16384.Idx → EReal) (f : IVec S16x512 32) (b : Fin 16) (d : Fin 32) (j : Fin 512) (hw : (f (ix2 b j)).toNat < 16384)
    (h1 : S16x512.BroadcastsInDim S16x512x1 ![0, 1]) (h2 h3 : S_.BroadcastsInDim S16x512 (![] : Fin 0 → Fin S16x512.rank)) :
    Host.gather gather_S16x32x16384_S16x512x1_S16x32x512_1_2_0_0_2_2_1321 x
      (broadcastInDim S16x512x1 ![0, 1] h1 (select (cmpi .slt f (broadcastInDim S16x512 ![] h2 (constantI S_ 32 0#32)))
        (addi f (broadcastInDim S16x512 ![] h3 (constantI S_ 32 16384#32))) f)) (ix3 b d j) = x (ix3 b d ⟨(f (ix2 b j)).toNat, hw⟩) := by
  refine gather_at x _ b d j _ ?_ hw
  pointwise
  exact word_eq _ hw

variable (V : Valuation τ sig (Elt Ideal)) (hl : ∀ b n t a, (V main_v65 (ix4 b n t a) : BitVec 32).toNat < 128)
include hl

/-- The cell number of the coordinates `(u, v)` of landmark `t` of contour `n` names row `u` and column `v`. -/
theorem cell_split (b n n' : Fin 16) (t t' : Fin 32) (a a' : Fin 2) (hn : n'.val = n.val) (ht : t'.val = t.val) :
    (cell (V main_v65 (ix4 b n' t' a)) (V main_v65 (ix4 b n' t' a'))).toNat =
      (V main_v65 (ix4 b n t a) : BitVec 32).toNat * 128 + (V main_v65 (ix4 b n t a') : BitVec 32).toNat := by
  obtain rfl : n' = n := Fin.ext hn
  obtain rfl : t' = t := Fin.ext ht
  exact cell_toNat _ _ (hl ..) (hl ..)

theorem xs_at (t : Fin 32) (s : Fin 256) (d : Fin 32) :
    (after (mainLines.l0.drop 78) V main_v103_0 (ix3 t s d) : EReal) =
      V main_v64 (ix4 ⟨s.val / 16, by omega⟩ d ⟨(V main_v65 (ix4 ⟨s.val / 16, by omega⟩ ⟨s.val % 16, by omega⟩ t 0) : BitVec 32).toNat, hl ..⟩
        ⟨(V main_v65 (ix4 ⟨s.val / 16, by omega⟩ ⟨s.val % 16, by omega⟩ t 1) : BitVec 32).toNat, hl ..⟩) := by
  dsimp only [mainLines, List.drop]
  after_reads_simp
  simp -implicitDefEqProofs only [StableHlo.TRef.toBuf, StableHlo.TRef.ofBuf, cast_cast, cast_eq, id_eq]
  pointwise
  have e := cell_split V hl ⟨s.val / 16, by omega⟩ ⟨s.val % 16, by omega⟩ ⟨(s.val % 16 * 32 + t.val) / 32, by omega⟩ t
    ⟨(s.val % 16 * 32 + t.val) % 32, by omega⟩ 0 1 (by dsimp only; omega) (by dsimp only; omega)
  have h0 := hl ⟨s.val / 16, by omega⟩ ⟨s.val % 16, by omega⟩ t 0
  have h1 := hl ⟨s.val / 16, by omega⟩ ⟨s.val % 16, by omega⟩ t 1
  refine (words_at _ _ _ _ _ (by refine lt_of_eq_of_lt e ?_; omega) _ _ _).trans ?_
  refine congrArg₂ (fun p q => V main_v64 (ix4 _ d p q)) (Fin.ext ?_) (Fin.ext ?_)
  · refine (congrArg (· / 128) e).trans ?_
    dsimp only
    omega
  · refine (congrArg (· % 128) e).trans ?_
    dsimp only
    omega

theorem ys_at (b : Fin 16) (n : Fin 16) (t : Fin 32) (d : Fin 32) :
    (after (mainLines.l0.drop 78) V main_v98 (ix3 b ⟨n.val * 32 + t.val, by omega⟩ d) : EReal) =
      V main_v64 (ix4 b d ⟨(V main_v65 (ix4 b n t 1) : BitVec 32).toNat, hl ..⟩ ⟨(V main_v65 (ix4 b n t 0) : BitVec 32).toNat, hl ..⟩) := by
  dsimp only [mainLines, List.drop]
  after_reads_simp
  pointwise
  have e := cell_split V hl b n ⟨(n.val * 32 + t.val) / 32, by omega⟩ t
    ⟨(n.val * 32 + t.val) % 32, by omega⟩ 1 0 (by dsimp only; omega) (by dsimp only; omega)
  have h0 := hl b n t 0
  have h1 := hl b n t 1
  refine (words_at _ _ _ _ _ (by refine lt_of_eq_of_lt e ?_; omega) _ _ _).trans ?_
  refine congrArg₂ (fun p q => V main_v64 (ix4 _ d p q)) (Fin.ext ?_) (Fin.ext ?_)
  · refine (congrArg (· / 128) e).trans ?_
    dsimp only
    omega
  · refine (congrArg (· % 128) e).trans ?_
    dsimp only
    omega

end Cert.Proof.Ref

end
-- ==== Proof.Ref.Out.lean ====
/-
  The lines between the reference's loops, read at an index: each loop's weights and first state, the sequences handed
  from a loop to the next, and the outputs.
-/
module

public import proofs.«01_k».proof.Proof.Ref.Frame
public import proofs.«01_k».proof.Proof.Ref.Slices
public import proofs.«01_k».proof.Proof.Math.Cell
public import Idealize.ShloMosaic.Lib.Pointwise
public import Idealize.ShloMosaic.Lib.StableHlo.ReadAt
public import Idealize.ShloMosaic.PureOps.Ideal

@[expose] public section

set_option maxRecDepth 16384
set_option maxHeartbeats 4000000

noncomputable section

namespace Cert.Proof.Ref

open Cert.ReferenceIdeal Cert.ReferenceIdeal.Gen
open Idealize.ShloMosaic Idealize.ShloMosaic.StableHlo
open Idealize.ShloMosaic.TcCoe

open Cert.Proof.Math

variable (V : Valuation τ sig (Elt Ideal))

/-- Loop 0's weights, buffer 1. -/
theorem in0_1 : after mainLines.l0 V main_v103_1 = V main_arg6 := by
  dsimp only [mainLines, List.drop]
  after_reads_simp
  rfl

/-- Loop 0's weights, buffer 2. -/
theorem in0_2 : after mainLines.l0 V main_v103_2 = V main_arg8 := by
  dsimp only [mainLines, List.drop]
  after_reads_simp
  rfl

/-- Loop 0's weights, buffer 3. -/
theorem in0_3 : after mainLines.l0 V main_v103_3 = V main_arg7 := by
  dsimp only [mainLines, List.drop]
  after_reads_simp
  rfl

/-- Loop 0's weights, buffer 4. -/
theorem in0_4 : after mainLines.l0 V main_v103_4 = V main_arg9 := by
  dsimp only [mainLines, List.drop]
  after_reads_simp
  rfl

/-- Loop 0 starts from zeros, buffer 6. -/
theorem in0_6 (s : Fin 256) (j : Fin 128) : (after mainLines.l0 V main_v103_6 (ix2 s j) : EReal) = (0 : EReal) := by
  dsimp only [mainLines, List.drop]
  after_reads_simp
  simp -implicitDefEqProofs only [id_eq]
  pointwise

/-- Loop 0 starts from zeros, buffer 7. -/
theorem in0_7 (s : Fin 256) (j : Fin 128) : (after mainLines.l0 V main_v103_7 (ix2 s j) : EReal) = (0 : EReal) := by
  dsimp only [mainLines, List.drop]
  after_reads_simp
  simp -implicitDefEqProofs only [id_eq]
  pointwise

/-- Loop 2's weights, buffer 1. -/
theorem in2_1 : after mainLines.l2 V main_v123_1 = V main_arg6 := by
  dsimp only [mainLines, List.drop]
  after_reads_simp
  rfl

/-- Loop 2's weights, buffer 2. -/
theorem in2_2 : after mainLines.l2 V main_v123_2 = V main_arg8 := by
  dsimp only [mainLines, List.drop]
  after_reads_simp
  rfl

/-- Loop 2's weights, buffer 3. -/
theorem in2_3 : after mainLines.l2 V main_v123_3 = V main_arg7 := by
  dsimp only [mainLines, List.drop]
  after_reads_simp
  rfl

/-- Loop 2's weights, buffer 4. -/
theorem in2_4 : after mainLines.l2 V main_v123_4 = V main_arg9 := by
  dsimp only [mainLines, List.drop]
  after_reads_simp
  rfl

/-- Loop 2 starts from zeros, buffer 6. -/
theorem in2_6 (s : Fin 256) (j : Fin 128) : (after mainLines.l2 V main_v123_6 (ix2 s j) : EReal) = (0 : EReal) := by
  dsimp only [mainLines, List.drop]
  after_reads_simp
  simp -implicitDefEqProofs only [id_eq]
  pointwise

/-- Loop 2 starts from zeros, buffer 7. -/
theorem in2_7 (s : Fin 256) (j : Fin 128) : (after mainLines.l2 V main_v123_7 (ix2 s j) : EReal) = (0 : EReal) := by
  dsimp only [mainLines, List.drop]
  after_reads_simp
  simp -implicitDefEqProofs only [id_eq]
  pointwise

/-- Loop 1's weights, buffer 1. -/
theorem in1_1 : after mainLines.l1 V main_v105_1 = V main_arg10 := by
  dsimp only [mainLines, List.drop]
  after_reads_simp
  rfl

/-- Loop 1's weights, buffer 2. -/
theorem in1_2 : after mainLines.l1 V main_v105_2 = V main_arg12 := by
  dsimp only [mainLines, List.drop]
  after_reads_simp
  rfl

/-- Loop 1's weights, buffer 3. -/
theorem in1_3 : after mainLines.l1 V main_v105_3 = V main_arg11 := by
  dsimp only [mainLines, List.drop]
  after_reads_simp
  rfl

/-- Loop 1's weights, buffer 4. -/
theorem in1_4 : after mainLines.l1 V main_v105_4 = V main_arg13 := by
  dsimp only [mainLines, List.drop]
  after_reads_simp
  rfl

/-- Loop 1 starts from what the loop before it leaves, buffer 0. -/
theorem in1_0 : after mainLines.l1 V main_v105_0 = V main_v103_8 := by
  dsimp only [mainLines, List.drop]
  after_reads_simp
  rfl

/-- Loop 1 starts from what the loop before it leaves, buffer 6. -/
theorem in1_6 : after mainLines.l1 V main_v105_6 = V main_v103_6 := by
  dsimp only [mainLines, List.drop]
  after_reads_simp
  rfl

/-- Loop 1 starts from what the loop before it leaves, buffer 7. -/
theorem in1_7 : after mainLines.l1 V main_v105_7 = V main_v103_7 := by
  dsimp only [mainLines, List.drop]
  after_reads_simp
  rfl

/-- Loop 3's weights, buffer 1. -/
theorem in3_1 : after mainLines.l3 V main_v125_1 = V main_arg10 := by
  dsimp only [mainLines, List.drop]
  after_reads_simp
  rfl

/-- Loop 3's weights, buffer 2. -/
theorem in3_2 : after mainLines.l3 V main_v125_2 = V main_arg12 := by
  dsimp only [mainLines, List.drop]
  after_reads_simp
  rfl

/-- Loop 3's weights, buffer 3. -/
theorem in3_3 : after mainLines.l3 V main_v125_3 = V main_arg11 := by
  dsimp only [mainLines, List.drop]
  after_reads_simp
  rfl

/-- Loop 3's weights, buffer 4. -/
theorem in3_4 : after mainLines.l3 V main_v125_4 = V main_arg13 := by
  dsimp only [mainLines, List.drop]
  after_reads_simp
  rfl

/-- Loop 3 starts from what the loop before it leaves, buffer 0. -/
theorem in3_0 : after mainLines.l3 V main_v125_0 = V main_v123_8 := by
  dsimp only [mainLines, List.drop]
  after_reads_simp
  rfl

/-- Loop 3 starts from what the loop before it leaves, buffer 6. -/
theorem in3_6 : after mainLines.l3 V main_v125_6 = V main_v123_6 := by
  dsimp only [mainLines, List.drop]
  after_reads_simp
  rfl

/-- Loop 3 starts from what the loop before it leaves, buffer 7. -/
theorem in3_7 : after mainLines.l3 V main_v125_7 = V main_v123_7 := by
  dsimp only [mainLines, List.drop]
  after_reads_simp
  rfl

/-- Loop 2's sequence. -/
theorem in2_0 (t : Fin 32) (s : Fin 256) (d : Fin 32) :
    (after mainLines.l2 V main_v123_0 (ix3 t s d) : EReal) = V main_v98 (ix3 ⟨s.val / 16, by omega⟩ ⟨s.val % 16 * 32 + t.val, by omega⟩ d) := by
  dsimp only [mainLines]
  after_reads_simp
  simp -implicitDefEqProofs only [id_eq]
  pointwise

/-- The first coordinate's predictions. -/
theorem out2 (s : Fin 256) (t : Fin 32) :
    (after mainLines.l2 V main_v118 (ix3 s t 0) : EReal) =
      head (fun q i => V main_arg18 (ix2 q i)) (fun q => V main_arg19 (ix1 q)) (fun q => V main_arg20 (ix2 0 q)) (V main_arg21 (ix1 0))
        (fun i => V main_v105_8 (ix3 t s i)) := by
  dsimp only [mainLines]
  after_reads_simp
  pointwise
  rfl

/-- The last line in two parts: up to the second coordinate's predictions, and the rest. -/
theorem l4_split : after mainLines.l4 V = after (mainLines.l4.drop 14) (after (mainLines.l4.take 14) V) := by
  rw [← after_append, List.take_append_drop]

/-- The two coordinates' predictions side by side. -/
theorem out4_0 (b n : Fin 16) (t : Fin 32) :
    (after (mainLines.l4.drop 14) V main_v140 (ix4 b n t 0) : EReal) = V main_v118 (ix3 ⟨b.val * 16 + n.val, by omega⟩ t 0) := by
  dsimp only [mainLines, List.drop]
  after_reads_at
  rfl

theorem out4_1 (b n : Fin 16) (t : Fin 32) :
    (after (mainLines.l4.drop 14) V main_v140 (ix4 b n t 1) : EReal) = V main_v138 (ix3 ⟨b.val * 16 + n.val, by omega⟩ t 0) := by
  dsimp only [mainLines, List.drop]
  after_reads_at
  rfl

theorem keep4 : after (mainLines.l4.take 14) V main_v118 = V main_v118 := by
  dsimp only [mainLines, List.take]
  after_reads_simp

/-- The second coordinate's predictions. -/
theorem out4 (s : Fin 256) (t : Fin 32) :
    (after (mainLines.l4.take 14) V main_v138 (ix3 s t 0) : EReal) =
      head (fun q i => V main_arg18 (ix2 q i)) (fun q => V main_arg19 (ix1 q)) (fun q => V main_arg20 (ix2 0 q)) (V main_arg21 (ix1 0))
        (fun i => V main_v125_8 (ix3 t s i)) := by
  dsimp only [mainLines, List.take]
  after_reads_simp
  pointwise
  rfl

/-- The targets. -/
theorem out4_t (b n : Fin 16) (t : Fin 32) (a : Fin 2) :
    (after mainLines.l4 V main_v143 (ix4 b n t a) : EReal) =
      FloatOps.sitofp (F := Ideal) .f32 (V main_v65 (ix4 b n t a) : BitVec 32) * Ideal.ofBits .f32 1082130432#32 := by
  dsimp only [mainLines]
  after_reads_simp
  pointwise

end Cert.Proof.Ref

end
-- ==== Proof.Ref.Keep.lean ====
/-
  Buffers other than the arguments that are carried unchanged past the reference's loops and lines: the second gather,
  the clipped coordinates and the first coordinate's predictions.
-/
module

public import proofs.«01_k».proof.Proof.Ref.Frame
public import Idealize.ShloMosaic.Lib.Pointwise
public import Idealize.ShloMosaic.Lib.StableHlo.ReadAt
public import Idealize.ShloMosaic.PureOps.Ideal

@[expose] public section

set_option maxRecDepth 16384
set_option maxHeartbeats 4000000

noncomputable section

namespace Cert.Proof.Ref

open Cert.ReferenceIdeal Cert.ReferenceIdeal.Gen
open Idealize.ShloMosaic Idealize.ShloMosaic.StableHlo
open Idealize.ShloMosaic.TcCoe

/-- A line that leaves the buffer `r` as it was. -/
abbrev Stays (ops : List (HloOp τ sig (Elt Ideal))) (r : Ref sig .tc) : Prop :=
  ∀ V : Valuation τ sig (Elt Ideal), after ops V (Proc.devRef .tc r) = V (Proc.devRef .tc r)

/-- Trips of a loop whose condition and body leave a buffer as it was leave it so. -/
theorem stays_trips {cond body : List (HloOp τ sig (Elt Ideal))} {r : Ref sig .tc} (hc : Stays cond r) (hb : Stays body r)
    (W : Dev nD → Valuation τ sig (Elt Ideal)) (c : Dev nD) (k : ℕ) :
    after cond (atTrip cond [body] W k c) (Proc.devRef .tc r) = W c (Proc.devRef .tc r) := by
  refine (hc _).trans ?_
  induction k with
  | zero => rfl
  | succ k ih => exact ((hb _).trans (hc _)).trans ih

theorem l1_v98 : Stays mainLines.l1 main_v98 := by
  intro V
  dsimp only [mainLines]
  after_reads_simp

theorem cond0_v98 : Stays cond0 main_v98 := by
  intro V
  dsimp only [cond0]
  after_reads_simp

theorem body0_v98 : Stays body0.1 main_v98 := by
  intro V
  dsimp only [body0]
  after_reads_simp

theorem cond1_v98 : Stays cond1 main_v98 := by
  intro V
  dsimp only [cond1]
  after_reads_simp

theorem body1_v98 : Stays body1.1 main_v98 := by
  intro V
  dsimp only [body1]
  after_reads_simp

theorem l1_v65 : Stays mainLines.l1 main_v65 := by
  intro V
  dsimp only [mainLines]
  after_reads_simp

theorem l2_v65 : Stays mainLines.l2 main_v65 := by
  intro V
  dsimp only [mainLines]
  after_reads_simp

theorem l3_v65 : Stays mainLines.l3 main_v65 := by
  intro V
  dsimp only [mainLines]
  after_reads_simp

theorem cond0_v65 : Stays cond0 main_v65 := by
  intro V
  dsimp only [cond0]
  after_reads_simp

theorem body0_v65 : Stays body0.1 main_v65 := by
  intro V
  dsimp only [body0]
  after_reads_simp

theorem cond1_v65 : Stays cond1 main_v65 := by
  intro V
  dsimp only [cond1]
  after_reads_simp

theorem body1_v65 : Stays body1.1 main_v65 := by
  intro V
  dsimp only [body1]
  after_reads_simp

theorem cond2_v65 : Stays cond2 main_v65 := by
  intro V
  dsimp only [cond2]
  after_reads_simp

theorem body2_v65 : Stays body2.1 main_v65 := by
  intro V
  dsimp only [body2]
  after_reads_simp

theorem cond3_v65 : Stays cond3 main_v65 := by
  intro V
  dsimp only [cond3]
  after_reads_simp

theorem body3_v65 : Stays body3.1 main_v65 := by
  intro V
  dsimp only [body3]
  after_reads_simp

theorem l3_v118 : Stays mainLines.l3 main_v118 := by
  intro V
  dsimp only [mainLines]
  after_reads_simp

theorem cond2_v118 : Stays cond2 main_v118 := by
  intro V
  dsimp only [cond2]
  after_reads_simp

theorem body2_v118 : Stays body2.1 main_v118 := by
  intro V
  dsimp only [body2]
  after_reads_simp

theorem cond3_v118 : Stays cond3 main_v118 := by
  intro V
  dsimp only [cond3]
  after_reads_simp

theorem body3_v118 : Stays body3.1 main_v118 := by
  intro V
  dsimp only [body3]
  after_reads_simp

/-- The clipped coordinates are not written after the first part of the first line. -/
theorem rest_v65 : Stays (mainLines.l0.drop 78) main_v65 := by
  intro V
  dsimp only [mainLines, List.drop]
  after_reads_simp

variable (m : (ℓ : Loc nD τ sig) → Buf (Elt Ideal) ℓ) (c : Dev nD)

/-- The arguments where loop 0 is left. -/
theorem E0_arg (r : Ref sig .tc) (hr : r ∈ argRefs) : E0 m c (Proc.devRef .tc r) = S0 m c (Proc.devRef .tc r) :=
  (keeps_cond0 _ r hr).trans <| (keeps_trips keeps_cond0 keeps_body0 _ c r hr 32).trans <| keeps_l0 _ r hr

/-- The arguments where loop 1 is left. -/
theorem E1_arg (r : Ref sig .tc) (hr : r ∈ argRefs) : E1 m c (Proc.devRef .tc r) = S0 m c (Proc.devRef .tc r) :=
  (keeps_cond1 _ r hr).trans <| (keeps_trips keeps_cond1 keeps_body1 _ c r hr 32).trans <| (keeps_l1 _ r hr).trans (E0_arg m c r hr)

/-- The arguments where loop 2 is left. -/
theorem E2_arg (r : Ref sig .tc) (hr : r ∈ argRefs) : E2 m c (Proc.devRef .tc r) = S0 m c (Proc.devRef .tc r) :=
  (keeps_cond2 _ r hr).trans <| (keeps_trips keeps_cond2 keeps_body2 _ c r hr 32).trans <| (keeps_l2 _ r hr).trans (E1_arg m c r hr)

/-- The arguments where loop 3 is left. -/
theorem E3_arg (r : Ref sig .tc) (hr : r ∈ argRefs) : E3 m c (Proc.devRef .tc r) = S0 m c (Proc.devRef .tc r) :=
  (keeps_cond3 _ r hr).trans <| (keeps_trips keeps_cond3 keeps_body3 _ c r hr 32).trans <| (keeps_l3 _ r hr).trans (E2_arg m c r hr)

/-- The second gather where loop 1 is left. -/
theorem E1_v98 : E1 m c main_v98 = W0 m c main_v98 :=
  (stays_trips cond1_v98 body1_v98 (W1 m) c 32).trans <| (l1_v98 _).trans (stays_trips cond0_v98 body0_v98 (W0 m) c 32)

/-- The clipped coordinates where loop 3 is left. -/
theorem E3_v65 : E3 m c main_v65 = W0 m c main_v65 :=
  (stays_trips cond3_v65 body3_v65 (W3 m) c 32).trans <| (l3_v65 _).trans <| (stays_trips cond2_v65 body2_v65 (W2 m) c 32).trans <|
    (l2_v65 _).trans <| (stays_trips cond1_v65 body1_v65 (W1 m) c 32).trans <| (l1_v65 _).trans (stays_trips cond0_v65 body0_v65 (W0 m) c 32)

/-- The first coordinate's predictions where loop 3 is left. -/
theorem E3_v118 : E3 m c main_v118 = W2 m c main_v118 :=
  (stays_trips cond3_v118 body3_v118 (W3 m) c 32).trans <| (l3_v118 _).trans (stays_trips cond2_v118 body2_v118 (W2 m) c 32)

end Cert.Proof.Ref

end
-- ==== Proof.Ref.Scan.lean ====
/-
  A scan of the reference, whichever: what it carries, what a trip does to that, and so what it holds after any number of
  trips. No buffer is named here.
-/
module

public import proofs.«01_k».proof.Proof.Ref.Frame
public import proofs.«01_k».proof.Proof.Math.Cell

@[expose] public section

set_option maxRecDepth 16384

noncomputable section

namespace Cert.Proof.Ref

open Cert.ReferenceIdeal Cert.ReferenceIdeal.Gen
open Idealize.ShloMosaic Idealize.ShloMosaic.StableHlo
open Idealize.ShloMosaic.TcCoe
open Cert.Proof.Math

/-- What a scan over rows of width `n` carries, read from the buffers. -/
structure View (n : ℕ) where
  /-- the inputs: by step, row and column -/
  rows : Valuation τ sig (Elt Ideal) → Fin 32 → Fin 256 → Fin n → EReal
  /-- the cell's weights -/
  cell : Valuation τ sig (Elt Ideal) → Cell n
  /-- that the counter is a word -/
  count : Valuation τ sig (Elt Ideal) → BitVec 32 → Prop
  /-- each row's state -/
  state : Valuation τ sig (Elt Ideal) → Fin 256 → St
  /-- the hidden states stored so far: by step, row and column -/
  out : Valuation τ sig (Elt Ideal) → Fin 32 → Fin 256 → Fin 128 → EReal

variable {n : ℕ}

/-- Row `s` after one more step, on input `k`. -/
def View.step (L : View n) (V : Valuation τ sig (Elt Ideal)) (k : Fin 32) (s : Fin 256) : St :=
  (L.cell V).step (L.rows V k s) (L.state V s)

/-- The inputs of row `s` by trip. -/
def View.seq (L : View n) (V : Valuation τ sig (Elt Ideal)) (s : Fin 256) (t : ℕ) (d : Fin n) : EReal :=
  if h : t < 32 then L.rows V ⟨t, h⟩ s d else 0

/-- The scan's test changes nothing that it carries, and its body is one step of the cell on each row. -/
structure View.Scans (L : View n) (test body : Valuation τ sig (Elt Ideal) → Valuation τ sig (Elt Ideal)) : Prop where
  test_rows : ∀ V, L.rows (test V) = L.rows V
  test_cell : ∀ V, L.cell (test V) = L.cell V
  test_count : ∀ V w, L.count V w → L.count (test V) w
  test_state : ∀ V, L.state (test V) = L.state V
  test_out : ∀ V, L.out (test V) = L.out V
  body_rows : ∀ V, L.rows (body V) = L.rows V
  body_cell : ∀ V, L.cell (body V) = L.cell V
  body_count : ∀ V (k : Fin 32), L.count V (BitVec.ofNat 32 k.val) → L.count (body V) (BitVec.ofNat 32 (k.val + 1))
  body_state : ∀ V (k : Fin 32), L.count V (BitVec.ofNat 32 k.val) → ∀ s, L.state (body V) s = L.step V k s
  body_out : ∀ V (k : Fin 32), L.count V (BitVec.ofNat 32 k.val) → ∀ t s j,
    L.out (body V) t s j = if t.val = k.val then (L.step V k s).1 j else L.out V t s j

/-- What the buffers `V` hold after `k` trips of a scan that was entered with the buffers `W`. -/
structure View.At (L : View n) (W V : Valuation τ sig (Elt Ideal)) (k : ℕ) : Prop where
  rows : L.rows V = L.rows W
  cell : L.cell V = L.cell W
  count : L.count V (BitVec.ofNat 32 k)
  state : ∀ s, L.state V s = (L.cell W).run (L.seq W s) (L.state W s) k
  out : ∀ t s j, L.out V t s j = if t.val < k then ((L.cell W).run (L.seq W s) (L.state W s) (t.val + 1)).1 j else L.out W t s j

variable {L : View n} {test body : Valuation τ sig (Elt Ideal) → Valuation τ sig (Elt Ideal)} {W V : Valuation τ sig (Elt Ideal)}

/-- The test changes none of it. -/
theorem View.At.tested (S : L.Scans test body) {k : ℕ} (h : L.At W V k) : L.At W (test V) k :=
  ⟨(S.test_rows V).trans h.rows, (S.test_cell V).trans h.cell, S.test_count V _ h.count,
    fun s => (congrFun (S.test_state V) s).trans (h.state s),
    fun t s j => (congrFun (congrFun (congrFun (S.test_out V) t) s) j).trans (h.out t s j)⟩

/-- A trip takes it one step on. -/
theorem View.At.stepped (S : L.Scans test body) {k : Fin 32} (h : L.At W V k.val) : L.At W (body V) (k.val + 1) := by
  have hs : ∀ s, L.step V k s = (L.cell W).run (L.seq W s) (L.state W s) (k.val + 1) := fun s => by
    have hx : L.rows V k s = L.seq W s k.val := by
      funext d
      unfold View.seq
      rw [dif_pos k.isLt, h.rows]
    unfold View.step
    rw [h.cell, Cell.run, ← h.state s, hx]
  refine ⟨(S.body_rows V).trans h.rows, (S.body_cell V).trans h.cell, S.body_count V k h.count,
    fun s => (S.body_state V k h.count s).trans (hs s), fun t s j => ?_⟩
  rw [S.body_out V k h.count t s j, hs s, h.out t s j]
  by_cases e : t.val = k.val
  · rw [if_pos e, if_pos (by omega), e]
  · rw [if_neg e]
    exact if_congr (by omega) rfl rfl

/-- After 32 trips every hidden state is stored. -/
theorem View.At.stored (h : L.At W V 32) (t : Fin 32) (s : Fin 256) (j : Fin 128) :
    L.out V t s j = ((L.cell W).run (L.seq W s) (L.state W s) (t.val + 1)).1 j :=
  (h.out t s j).trans (if_pos t.isLt)

/-- What the buffers hold where the scan is left, after its 32 trips. -/
theorem View.Scans.exit {cond trip : List (HloOp τ sig (Elt Ideal))} (S : L.Scans (after cond) (after trip)) (W : Dev nD → Valuation τ sig (Elt Ideal))
    (c : Dev nD) (h0 : L.count (W c) 0#32) : L.At (W c) (after cond (atTrip cond [trip] W 32 c)) 32 := by
  have h : ∀ k, k ≤ 32 → L.At (W c) (atTrip cond [trip] W k c) k := fun k => by
    induction k with
    | zero => exact fun _ => ⟨rfl, rfl, h0, fun _ => rfl, fun t s j => (if_neg (by omega)).symm⟩
    | succ k ih => exact fun hk => View.At.stepped (k := ⟨k, by omega⟩) S ((ih (by omega)).tested S)
  exact (h 32 le_rfl).tested S

end Cert.Proof.Ref

end
-- ==== Proof.Ref.Loop0.lean ====
/-
  One trip of the reference's loop 0, read at an index: an LSTM step on each row.
-/
module

public import proofs.«01_k».proof.Proof.Ref.Frame
public import proofs.«01_k».proof.Proof.Ref.Slices
public import proofs.«01_k».proof.Proof.Math.Cell
public import Idealize.ShloMosaic.Lib.Pointwise
public import Idealize.ShloMosaic.Lib.StableHlo.ReadAt
public import Idealize.ShloMosaic.PureOps.Ideal

@[expose] public section

set_option maxRecDepth 16384
set_option maxHeartbeats 4000000

noncomputable section

namespace Cert.Proof.Ref

open Cert.ReferenceIdeal Cert.ReferenceIdeal.Gen
open Idealize.ShloMosaic Idealize.ShloMosaic.StableHlo
open Idealize.ShloMosaic.TcCoe

open Cert.Proof.Math

/-- Loop 0's cell, from the weights it carries. -/
def cell0 (V : Valuation τ sig (Elt Ideal)) : Cell 32 :=
  ⟨fun g d => V main_v103_1 (ix2 g d), fun g => V main_v103_2 (ix1 g), fun g j => V main_v103_3 (ix2 g j), fun g => V main_v103_4 (ix1 g)⟩

/-- Loop 0's step on row `s`, from the state it carries. -/
def step0 (V : Valuation τ sig (Elt Ideal)) (k : Fin 32) (s : Fin 256) : St :=
  (cell0 V).step (fun d => V main_v103_0 (ix3 k s d)) (fun j => V main_v103_6 (ix2 s j), fun j => V main_v103_7 (ix2 s j))

/-- Loop 0's counter after a trip. -/
theorem loop0_ctr (V : Valuation τ sig (Elt Ideal)) (k : Fin 32) (hk : V main_v103_5 = fun _ => BitVec.ofNat 32 k.val) : after body0.1 V main_v103_5 = fun _ => BitVec.ofNat 32 (k.val + 1) := by
  dsimp only [body0]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk]
  funext i
  pointwise
  exact (BitVec.ofNat_add ..).symm

/-- Loop 0's new cell state. -/
theorem loop0_c (V : Valuation τ sig (Elt Ideal)) (k : Fin 32) (hk : V main_v103_5 = fun _ => BitVec.ofNat 32 k.val) (s : Fin 256) (j : Fin 128) :
    (after body0.1 V main_v103_7 (ix2 s j) : EReal) = (step0 V k s).2 j := by
  dsimp only [body0]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, take32 (k := k)]
  · pointwise
    rfl
  · exact start_eq k
  · rfl
  · rfl

/-- Loop 0's new hidden state. -/
theorem loop0_h (V : Valuation τ sig (Elt Ideal)) (k : Fin 32) (hk : V main_v103_5 = fun _ => BitVec.ofNat 32 k.val) (s : Fin 256) (j : Fin 128) :
    (after body0.1 V main_v103_6 (ix2 s j) : EReal) = (step0 V k s).1 j := by
  dsimp only [body0]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, take32 (k := k)]
  · pointwise
    rfl
  · exact start_eq k
  · rfl
  · rfl

/-- Loop 0's stacked hidden states after a trip. -/
theorem loop0_ys (V : Valuation τ sig (Elt Ideal)) (k : Fin 32) (hk : V main_v103_5 = fun _ => BitVec.ofNat 32 k.val) (t : Fin 32) (s : Fin 256) (j : Fin 128) :
    (after body0.1 V main_v103_8 (ix3 t s j) : EReal) = if t.val = k.val then (step0 V k s).1 j else V main_v103_8 (ix3 t s j) := by
  dsimp only [body0]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, put128 (k := k)]
  · show (if t.val = k.val then _ else _) = _
    refine if_congr Iff.rfl ?_ rfl
    rw [take32 (k := k)]
    · pointwise
      rfl
    · exact start_eq k
    · rfl
    · rfl
  · exact start_eq k
  · rfl
  · rfl

/-- A trip leaves the sequence and the weights as they are. -/
theorem loop0_keeps (V : Valuation τ sig (Elt Ideal)) :
    after body0.1 V main_v103_0 = V main_v103_0 ∧
    after body0.1 V main_v103_1 = V main_v103_1 ∧
    after body0.1 V main_v103_2 = V main_v103_2 ∧
    after body0.1 V main_v103_3 = V main_v103_3 ∧
    after body0.1 V main_v103_4 = V main_v103_4 := by
  dsimp only [body0]
  refine ⟨?_, ?_, ?_, ?_, ?_⟩ <;> after_reads_simp

/-- The loop's test leaves the carried buffers as they are. -/
theorem loop0_cond_keeps (V : Valuation τ sig (Elt Ideal)) :
    after cond0 V main_v103_0 = V main_v103_0 ∧
    after cond0 V main_v103_1 = V main_v103_1 ∧
    after cond0 V main_v103_2 = V main_v103_2 ∧
    after cond0 V main_v103_3 = V main_v103_3 ∧
    after cond0 V main_v103_4 = V main_v103_4 ∧
    after cond0 V main_v103_5 = V main_v103_5 ∧
    after cond0 V main_v103_6 = V main_v103_6 ∧
    after cond0 V main_v103_7 = V main_v103_7 ∧
    after cond0 V main_v103_8 = V main_v103_8 := by
  dsimp only [cond0]
  refine ⟨?_, ?_, ?_, ?_, ?_, ?_, ?_, ?_, ?_⟩ <;> after_reads_simp

end Cert.Proof.Ref

end
-- ==== Proof.Ref.Loop1.lean ====
/-
  One trip of the reference's loop 1, read at an index: an LSTM step on each row.
-/
module

public import proofs.«01_k».proof.Proof.Ref.Frame
public import proofs.«01_k».proof.Proof.Ref.Slices
public import proofs.«01_k».proof.Proof.Math.Cell
public import Idealize.ShloMosaic.Lib.Pointwise
public import Idealize.ShloMosaic.Lib.StableHlo.ReadAt
public import Idealize.ShloMosaic.PureOps.Ideal

@[expose] public section

set_option maxRecDepth 16384
set_option maxHeartbeats 4000000

noncomputable section

namespace Cert.Proof.Ref

open Cert.ReferenceIdeal Cert.ReferenceIdeal.Gen
open Idealize.ShloMosaic Idealize.ShloMosaic.StableHlo
open Idealize.ShloMosaic.TcCoe

open Cert.Proof.Math

/-- Loop 1's cell, from the weights it carries. -/
def cell1 (V : Valuation τ sig (Elt Ideal)) : Cell 128 :=
  ⟨fun g d => V main_v105_1 (ix2 g d), fun g => V main_v105_2 (ix1 g), fun g j => V main_v105_3 (ix2 g j), fun g => V main_v105_4 (ix1 g)⟩

/-- Loop 1's step on row `s`, from the state it carries. -/
def step1 (V : Valuation τ sig (Elt Ideal)) (k : Fin 32) (s : Fin 256) : St :=
  (cell1 V).step (fun d => V main_v105_0 (ix3 k s d)) (fun j => V main_v105_6 (ix2 s j), fun j => V main_v105_7 (ix2 s j))

/-- Loop 1's counter after a trip. -/
theorem loop1_ctr (V : Valuation τ sig (Elt Ideal)) (k : Fin 32) (hk : V main_v105_5 = fun _ => BitVec.ofNat 32 k.val) : after body1.1 V main_v105_5 = fun _ => BitVec.ofNat 32 (k.val + 1) := by
  dsimp only [body1]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk]
  funext i
  pointwise
  exact (BitVec.ofNat_add ..).symm

/-- Loop 1's new cell state. -/
theorem loop1_c (V : Valuation τ sig (Elt Ideal)) (k : Fin 32) (hk : V main_v105_5 = fun _ => BitVec.ofNat 32 k.val) (s : Fin 256) (j : Fin 128) :
    (after body1.1 V main_v105_7 (ix2 s j) : EReal) = (step1 V k s).2 j := by
  dsimp only [body1]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, take128 (k := k)]
  · pointwise
    rfl
  · exact start_eq k
  · rfl
  · rfl

/-- Loop 1's new hidden state. -/
theorem loop1_h (V : Valuation τ sig (Elt Ideal)) (k : Fin 32) (hk : V main_v105_5 = fun _ => BitVec.ofNat 32 k.val) (s : Fin 256) (j : Fin 128) :
    (after body1.1 V main_v105_6 (ix2 s j) : EReal) = (step1 V k s).1 j := by
  dsimp only [body1]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, take128 (k := k)]
  · pointwise
    rfl
  · exact start_eq k
  · rfl
  · rfl

/-- Loop 1's stacked hidden states after a trip. -/
theorem loop1_ys (V : Valuation τ sig (Elt Ideal)) (k : Fin 32) (hk : V main_v105_5 = fun _ => BitVec.ofNat 32 k.val) (t : Fin 32) (s : Fin 256) (j : Fin 128) :
    (after body1.1 V main_v105_8 (ix3 t s j) : EReal) = if t.val = k.val then (step1 V k s).1 j else V main_v105_8 (ix3 t s j) := by
  dsimp only [body1]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, put128 (k := k)]
  · show (if t.val = k.val then _ else _) = _
    refine if_congr Iff.rfl ?_ rfl
    rw [take128 (k := k)]
    · pointwise
      rfl
    · exact start_eq k
    · rfl
    · rfl
  · exact start_eq k
  · rfl
  · rfl

/-- A trip leaves the sequence and the weights as they are. -/
theorem loop1_keeps (V : Valuation τ sig (Elt Ideal)) :
    after body1.1 V main_v105_0 = V main_v105_0 ∧
    after body1.1 V main_v105_1 = V main_v105_1 ∧
    after body1.1 V main_v105_2 = V main_v105_2 ∧
    after body1.1 V main_v105_3 = V main_v105_3 ∧
    after body1.1 V main_v105_4 = V main_v105_4 := by
  dsimp only [body1]
  refine ⟨?_, ?_, ?_, ?_, ?_⟩ <;> after_reads_simp

/-- The loop's test leaves the carried buffers as they are. -/
theorem loop1_cond_keeps (V : Valuation τ sig (Elt Ideal)) :
    after cond1 V main_v105_0 = V main_v105_0 ∧
    after cond1 V main_v105_1 = V main_v105_1 ∧
    after cond1 V main_v105_2 = V main_v105_2 ∧
    after cond1 V main_v105_3 = V main_v105_3 ∧
    after cond1 V main_v105_4 = V main_v105_4 ∧
    after cond1 V main_v105_5 = V main_v105_5 ∧
    after cond1 V main_v105_6 = V main_v105_6 ∧
    after cond1 V main_v105_7 = V main_v105_7 ∧
    after cond1 V main_v105_8 = V main_v105_8 := by
  dsimp only [cond1]
  refine ⟨?_, ?_, ?_, ?_, ?_, ?_, ?_, ?_, ?_⟩ <;> after_reads_simp

end Cert.Proof.Ref

end
-- ==== Proof.Ref.Loop2.lean ====
/-
  One trip of the reference's loop 2, read at an index: an LSTM step on each row.
-/
module

public import proofs.«01_k».proof.Proof.Ref.Frame
public import proofs.«01_k».proof.Proof.Ref.Slices
public import proofs.«01_k».proof.Proof.Math.Cell
public import Idealize.ShloMosaic.Lib.Pointwise
public import Idealize.ShloMosaic.Lib.StableHlo.ReadAt
public import Idealize.ShloMosaic.PureOps.Ideal

@[expose] public section

set_option maxRecDepth 16384
set_option maxHeartbeats 4000000

noncomputable section

namespace Cert.Proof.Ref

open Cert.ReferenceIdeal Cert.ReferenceIdeal.Gen
open Idealize.ShloMosaic Idealize.ShloMosaic.StableHlo
open Idealize.ShloMosaic.TcCoe

open Cert.Proof.Math

/-- Loop 2's cell, from the weights it carries. -/
def cell2 (V : Valuation τ sig (Elt Ideal)) : Cell 32 :=
  ⟨fun g d => V main_v123_1 (ix2 g d), fun g => V main_v123_2 (ix1 g), fun g j => V main_v123_3 (ix2 g j), fun g => V main_v123_4 (ix1 g)⟩

/-- Loop 2's step on row `s`, from the state it carries. -/
def step2 (V : Valuation τ sig (Elt Ideal)) (k : Fin 32) (s : Fin 256) : St :=
  (cell2 V).step (fun d => V main_v123_0 (ix3 k s d)) (fun j => V main_v123_6 (ix2 s j), fun j => V main_v123_7 (ix2 s j))

/-- Loop 2's counter after a trip. -/
theorem loop2_ctr (V : Valuation τ sig (Elt Ideal)) (k : Fin 32) (hk : V main_v123_5 = fun _ => BitVec.ofNat 32 k.val) : after body2.1 V main_v123_5 = fun _ => BitVec.ofNat 32 (k.val + 1) := by
  dsimp only [body2]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk]
  funext i
  pointwise
  exact (BitVec.ofNat_add ..).symm

/-- Loop 2's new cell state. -/
theorem loop2_c (V : Valuation τ sig (Elt Ideal)) (k : Fin 32) (hk : V main_v123_5 = fun _ => BitVec.ofNat 32 k.val) (s : Fin 256) (j : Fin 128) :
    (after body2.1 V main_v123_7 (ix2 s j) : EReal) = (step2 V k s).2 j := by
  dsimp only [body2]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, take32 (k := k)]
  · pointwise
    rfl
  · exact start_eq k
  · rfl
  · rfl

/-- Loop 2's new hidden state. -/
theorem loop2_h (V : Valuation τ sig (Elt Ideal)) (k : Fin 32) (hk : V main_v123_5 = fun _ => BitVec.ofNat 32 k.val) (s : Fin 256) (j : Fin 128) :
    (after body2.1 V main_v123_6 (ix2 s j) : EReal) = (step2 V k s).1 j := by
  dsimp only [body2]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, take32 (k := k)]
  · pointwise
    rfl
  · exact start_eq k
  · rfl
  · rfl

/-- Loop 2's stacked hidden states after a trip. -/
theorem loop2_ys (V : Valuation τ sig (Elt Ideal)) (k : Fin 32) (hk : V main_v123_5 = fun _ => BitVec.ofNat 32 k.val) (t : Fin 32) (s : Fin 256) (j : Fin 128) :
    (after body2.1 V main_v123_8 (ix3 t s j) : EReal) = if t.val = k.val then (step2 V k s).1 j else V main_v123_8 (ix3 t s j) := by
  dsimp only [body2]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, put128 (k := k)]
  · show (if t.val = k.val then _ else _) = _
    refine if_congr Iff.rfl ?_ rfl
    rw [take32 (k := k)]
    · pointwise
      rfl
    · exact start_eq k
    · rfl
    · rfl
  · exact start_eq k
  · rfl
  · rfl

/-- A trip leaves the sequence and the weights as they are. -/
theorem loop2_keeps (V : Valuation τ sig (Elt Ideal)) :
    after body2.1 V main_v123_0 = V main_v123_0 ∧
    after body2.1 V main_v123_1 = V main_v123_1 ∧
    after body2.1 V main_v123_2 = V main_v123_2 ∧
    after body2.1 V main_v123_3 = V main_v123_3 ∧
    after body2.1 V main_v123_4 = V main_v123_4 := by
  dsimp only [body2]
  refine ⟨?_, ?_, ?_, ?_, ?_⟩ <;> after_reads_simp

/-- The loop's test leaves the carried buffers as they are. -/
theorem loop2_cond_keeps (V : Valuation τ sig (Elt Ideal)) :
    after cond2 V main_v123_0 = V main_v123_0 ∧
    after cond2 V main_v123_1 = V main_v123_1 ∧
    after cond2 V main_v123_2 = V main_v123_2 ∧
    after cond2 V main_v123_3 = V main_v123_3 ∧
    after cond2 V main_v123_4 = V main_v123_4 ∧
    after cond2 V main_v123_5 = V main_v123_5 ∧
    after cond2 V main_v123_6 = V main_v123_6 ∧
    after cond2 V main_v123_7 = V main_v123_7 ∧
    after cond2 V main_v123_8 = V main_v123_8 := by
  dsimp only [cond2]
  refine ⟨?_, ?_, ?_, ?_, ?_, ?_, ?_, ?_, ?_⟩ <;> after_reads_simp

end Cert.Proof.Ref

end
-- ==== Proof.Ref.Loop3.lean ====
/-
  One trip of the reference's loop 3, read at an index: an LSTM step on each row.
-/
module

public import proofs.«01_k».proof.Proof.Ref.Frame
public import proofs.«01_k».proof.Proof.Ref.Slices
public import proofs.«01_k».proof.Proof.Math.Cell
public import Idealize.ShloMosaic.Lib.Pointwise
public import Idealize.ShloMosaic.Lib.StableHlo.ReadAt
public import Idealize.ShloMosaic.PureOps.Ideal

@[expose] public section

set_option maxRecDepth 16384
set_option maxHeartbeats 4000000

noncomputable section

namespace Cert.Proof.Ref

open Cert.ReferenceIdeal Cert.ReferenceIdeal.Gen
open Idealize.ShloMosaic Idealize.ShloMosaic.StableHlo
open Idealize.ShloMosaic.TcCoe

open Cert.Proof.Math

/-- Loop 3's cell, from the weights it carries. -/
def cell3 (V : Valuation τ sig (Elt Ideal)) : Cell 128 :=
  ⟨fun g d => V main_v125_1 (ix2 g d), fun g => V main_v125_2 (ix1 g), fun g j => V main_v125_3 (ix2 g j), fun g => V main_v125_4 (ix1 g)⟩

/-- Loop 3's step on row `s`, from the state it carries. -/
def step3 (V : Valuation τ sig (Elt Ideal)) (k : Fin 32) (s : Fin 256) : St :=
  (cell3 V).step (fun d => V main_v125_0 (ix3 k s d)) (fun j => V main_v125_6 (ix2 s j), fun j => V main_v125_7 (ix2 s j))

/-- Loop 3's counter after a trip. -/
theorem loop3_ctr (V : Valuation τ sig (Elt Ideal)) (k : Fin 32) (hk : V main_v125_5 = fun _ => BitVec.ofNat 32 k.val) : after body3.1 V main_v125_5 = fun _ => BitVec.ofNat 32 (k.val + 1) := by
  dsimp only [body3]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk]
  funext i
  pointwise
  exact (BitVec.ofNat_add ..).symm

/-- Loop 3's new cell state. -/
theorem loop3_c (V : Valuation τ sig (Elt Ideal)) (k : Fin 32) (hk : V main_v125_5 = fun _ => BitVec.ofNat 32 k.val) (s : Fin 256) (j : Fin 128) :
    (after body3.1 V main_v125_7 (ix2 s j) : EReal) = (step3 V k s).2 j := by
  dsimp only [body3]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, take128 (k := k)]
  · pointwise
    rfl
  · exact start_eq k
  · rfl
  · rfl

/-- Loop 3's new hidden state. -/
theorem loop3_h (V : Valuation τ sig (Elt Ideal)) (k : Fin 32) (hk : V main_v125_5 = fun _ => BitVec.ofNat 32 k.val) (s : Fin 256) (j : Fin 128) :
    (after body3.1 V main_v125_6 (ix2 s j) : EReal) = (step3 V k s).1 j := by
  dsimp only [body3]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, take128 (k := k)]
  · pointwise
    rfl
  · exact start_eq k
  · rfl
  · rfl

/-- Loop 3's stacked hidden states after a trip. -/
theorem loop3_ys (V : Valuation τ sig (Elt Ideal)) (k : Fin 32) (hk : V main_v125_5 = fun _ => BitVec.ofNat 32 k.val) (t : Fin 32) (s : Fin 256) (j : Fin 128) :
    (after body3.1 V main_v125_8 (ix3 t s j) : EReal) = if t.val = k.val then (step3 V k s).1 j else V main_v125_8 (ix3 t s j) := by
  dsimp only [body3]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hk, put128 (k := k)]
  · show (if t.val = k.val then _ else _) = _
    refine if_congr Iff.rfl ?_ rfl
    rw [take128 (k := k)]
    · pointwise
      rfl
    · exact start_eq k
    · rfl
    · rfl
  · exact start_eq k
  · rfl
  · rfl

/-- A trip leaves the sequence and the weights as they are. -/
theorem loop3_keeps (V : Valuation τ sig (Elt Ideal)) :
    after body3.1 V main_v125_0 = V main_v125_0 ∧
    after body3.1 V main_v125_1 = V main_v125_1 ∧
    after body3.1 V main_v125_2 = V main_v125_2 ∧
    after body3.1 V main_v125_3 = V main_v125_3 ∧
    after body3.1 V main_v125_4 = V main_v125_4 := by
  dsimp only [body3]
  refine ⟨?_, ?_, ?_, ?_, ?_⟩ <;> after_reads_simp

/-- The loop's test leaves the carried buffers as they are. -/
theorem loop3_cond_keeps (V : Valuation τ sig (Elt Ideal)) :
    after cond3 V main_v125_0 = V main_v125_0 ∧
    after cond3 V main_v125_1 = V main_v125_1 ∧
    after cond3 V main_v125_2 = V main_v125_2 ∧
    after cond3 V main_v125_3 = V main_v125_3 ∧
    after cond3 V main_v125_4 = V main_v125_4 ∧
    after cond3 V main_v125_5 = V main_v125_5 ∧
    after cond3 V main_v125_6 = V main_v125_6 ∧
    after cond3 V main_v125_7 = V main_v125_7 ∧
    after cond3 V main_v125_8 = V main_v125_8 := by
  dsimp only [cond3]
  refine ⟨?_, ?_, ?_, ?_, ?_, ?_, ?_, ?_, ?_⟩ <;> after_reads_simp

end Cert.Proof.Ref

end
-- ==== Proof.Ref.Scans.lean ====
/-
  The four scans of the reference: each is a scan by its cell, and what it holds where it is left.
-/
module

public import proofs.«01_k».proof.Proof.Ref.Scan
public import proofs.«01_k».proof.Proof.Ref.Loop0
public import proofs.«01_k».proof.Proof.Ref.Loop1
public import proofs.«01_k».proof.Proof.Ref.Loop2
public import proofs.«01_k».proof.Proof.Ref.Loop3

@[expose] public section

set_option maxRecDepth 16384

noncomputable section

namespace Cert.Proof.Ref

open Cert.ReferenceIdeal Cert.ReferenceIdeal.Gen
open Idealize.ShloMosaic Idealize.ShloMosaic.StableHlo
open Idealize.ShloMosaic.TcCoe
open Cert.Proof.Math

/-! ## Loop 0 -/

/-- The rows loop 0 steps over, by trip. -/
def seq0 (V : Valuation τ sig (Elt Ideal)) (s : Fin 256) (t : ℕ) (d : Fin 32) : EReal := if h : t < 32 then V main_v103_0 (ix3 ⟨t, h⟩ s d) else 0

/-- The state of row `s` that loop 0 carries. -/
def init0 (V : Valuation τ sig (Elt Ideal)) (s : Fin 256) : St := (fun j => V main_v103_6 (ix2 s j), fun j => V main_v103_7 (ix2 s j))

/-- The rows that loop 0 carries. -/
def rows0 (V : Valuation τ sig (Elt Ideal)) (k : Fin 32) (s : Fin 256) (d : Fin 32) : EReal := V main_v103_0 (ix3 k s d)

/-- Loop 0's counter. -/
def count0 (V : Valuation τ sig (Elt Ideal)) (w : BitVec 32) : Prop := V main_v103_5 = fun _ => w

/-- The hidden states that loop 0 has stacked. -/
def stack0 (V : Valuation τ sig (Elt Ideal)) (t : Fin 32) (s : Fin 256) (j : Fin 128) : EReal := V main_v103_8 (ix3 t s j)

/-- What loop 0 carries. -/
abbrev view0 : View 32 := ⟨rows0, cell0, count0, init0, stack0⟩

/-- Loop 0 is a scan by its cell. -/
theorem scans0 : view0.Scans (after cond0) (after body0.1) where
  test_rows V := by dsimp only; unfold rows0; rw [(loop0_cond_keeps V).1]
  test_cell V := by
    obtain ⟨-, h1, h2, h3, h4, -⟩ := loop0_cond_keeps V
    dsimp only
    unfold cell0
    rw [h1, h2, h3, h4]
  test_count V w h := by
    dsimp only at h ⊢
    unfold count0 at h ⊢
    rw [(loop0_cond_keeps V).2.2.2.2.2.1, h]
  test_state V := by
    obtain ⟨-, -, -, -, -, -, h6, h7, -⟩ := loop0_cond_keeps V
    dsimp only
    unfold init0
    rw [h6, h7]
  test_out V := by dsimp only; unfold stack0; rw [(loop0_cond_keeps V).2.2.2.2.2.2.2.2]
  body_rows V := by dsimp only; unfold rows0; rw [(loop0_keeps V).1]
  body_cell V := by
    obtain ⟨-, h1, h2, h3, h4⟩ := loop0_keeps V
    dsimp only
    unfold cell0
    rw [h1, h2, h3, h4]
  body_count V k h := by
    dsimp only at h ⊢
    unfold count0 at h ⊢
    rw [loop0_ctr V k h]
  body_state V k h s := by
    dsimp only [View.step] at h ⊢
    unfold count0 at h
    refine Eq.trans (b := step0 V k s) ?_ rfl
    unfold init0
    exact Prod.ext (funext fun j => loop0_h V k h s j) (funext fun j => loop0_c V k h s j)
  body_out V k h t s j := by
    dsimp only [View.step] at h ⊢
    unfold count0 at h
    unfold stack0
    exact loop0_ys V k h t s j

/-- Each row's state where loop 0 is left. -/
theorem exit0_st (W : Dev nD → Valuation τ sig (Elt Ideal)) (c : Dev nD) (h : W c main_v103_5 = fun _ => (0#32 : BitVec 32)) (s : Fin 256) :
    init0 (after cond0 (atTrip cond0 [body0.1] W 32 c)) s = (cell0 (W c)).run (seq0 (W c) s) (init0 (W c) s) 32 :=
  (scans0.exit W c h).state s

/-- The stacked hidden states where loop 0 is left. -/
theorem exit0_stack (W : Dev nD → Valuation τ sig (Elt Ideal)) (c : Dev nD) (h : W c main_v103_5 = fun _ => (0#32 : BitVec 32)) (t : Fin 32) (s : Fin 256) (j : Fin 128) :
    stack0 (after cond0 (atTrip cond0 [body0.1] W 32 c)) t s j =
      ((cell0 (W c)).run (seq0 (W c) s) (init0 (W c) s) (t.val + 1)).1 j := by
  have e := (scans0.exit W c h).stored t s j
  rw [show view0.seq (W c) s = seq0 (W c) s from rfl] at e
  dsimp only at e
  exact e

/-- The stacked hidden states where loop 0 is left, read from their buffer. -/
theorem exit0_ys (W : Dev nD → Valuation τ sig (Elt Ideal)) (c : Dev nD) (h : W c main_v103_5 = fun _ => (0#32 : BitVec 32)) (t : Fin 32) (s : Fin 256) (j : Fin 128) :
    (after cond0 (atTrip cond0 [body0.1] W 32 c) main_v103_8 (ix3 t s j) : EReal) =
      ((cell0 (W c)).run (seq0 (W c) s) (init0 (W c) s) (t.val + 1)).1 j := by
  have e := exit0_stack W c h t s j
  unfold stack0 at e
  exact e

/-! ## Loop 1 -/

/-- The rows loop 1 steps over, by trip. -/
def seq1 (V : Valuation τ sig (Elt Ideal)) (s : Fin 256) (t : ℕ) (d : Fin 128) : EReal := if h : t < 32 then V main_v105_0 (ix3 ⟨t, h⟩ s d) else 0

/-- The state of row `s` that loop 1 carries. -/
def init1 (V : Valuation τ sig (Elt Ideal)) (s : Fin 256) : St := (fun j => V main_v105_6 (ix2 s j), fun j => V main_v105_7 (ix2 s j))

/-- The rows that loop 1 carries. -/
def rows1 (V : Valuation τ sig (Elt Ideal)) (k : Fin 32) (s : Fin 256) (d : Fin 128) : EReal := V main_v105_0 (ix3 k s d)

/-- Loop 1's counter. -/
def count1 (V : Valuation τ sig (Elt Ideal)) (w : BitVec 32) : Prop := V main_v105_5 = fun _ => w

/-- The hidden states that loop 1 has stacked. -/
def stack1 (V : Valuation τ sig (Elt Ideal)) (t : Fin 32) (s : Fin 256) (j : Fin 128) : EReal := V main_v105_8 (ix3 t s j)

/-- What loop 1 carries. -/
abbrev view1 : View 128 := ⟨rows1, cell1, count1, init1, stack1⟩

/-- Loop 1 is a scan by its cell. -/
theorem scans1 : view1.Scans (after cond1) (after body1.1) where
  test_rows V := by dsimp only; unfold rows1; rw [(loop1_cond_keeps V).1]
  test_cell V := by
    obtain ⟨-, h1, h2, h3, h4, -⟩ := loop1_cond_keeps V
    dsimp only
    unfold cell1
    rw [h1, h2, h3, h4]
  test_count V w h := by
    dsimp only at h ⊢
    unfold count1 at h ⊢
    rw [(loop1_cond_keeps V).2.2.2.2.2.1, h]
  test_state V := by
    obtain ⟨-, -, -, -, -, -, h6, h7, -⟩ := loop1_cond_keeps V
    dsimp only
    unfold init1
    rw [h6, h7]
  test_out V := by dsimp only; unfold stack1; rw [(loop1_cond_keeps V).2.2.2.2.2.2.2.2]
  body_rows V := by dsimp only; unfold rows1; rw [(loop1_keeps V).1]
  body_cell V := by
    obtain ⟨-, h1, h2, h3, h4⟩ := loop1_keeps V
    dsimp only
    unfold cell1
    rw [h1, h2, h3, h4]
  body_count V k h := by
    dsimp only at h ⊢
    unfold count1 at h ⊢
    rw [loop1_ctr V k h]
  body_state V k h s := by
    dsimp only [View.step] at h ⊢
    unfold count1 at h
    refine Eq.trans (b := step1 V k s) ?_ rfl
    unfold init1
    exact Prod.ext (funext fun j => loop1_h V k h s j) (funext fun j => loop1_c V k h s j)
  body_out V k h t s j := by
    dsimp only [View.step] at h ⊢
    unfold count1 at h
    unfold stack1
    exact loop1_ys V k h t s j

/-- Each row's state where loop 1 is left. -/
theorem exit1_st (W : Dev nD → Valuation τ sig (Elt Ideal)) (c : Dev nD) (h : W c main_v105_5 = fun _ => (0#32 : BitVec 32)) (s : Fin 256) :
    init1 (after cond1 (atTrip cond1 [body1.1] W 32 c)) s = (cell1 (W c)).run (seq1 (W c) s) (init1 (W c) s) 32 :=
  (scans1.exit W c h).state s

/-- The stacked hidden states where loop 1 is left. -/
theorem exit1_stack (W : Dev nD → Valuation τ sig (Elt Ideal)) (c : Dev nD) (h : W c main_v105_5 = fun _ => (0#32 : BitVec 32)) (t : Fin 32) (s : Fin 256) (j : Fin 128) :
    stack1 (after cond1 (atTrip cond1 [body1.1] W 32 c)) t s j =
      ((cell1 (W c)).run (seq1 (W c) s) (init1 (W c) s) (t.val + 1)).1 j := by
  have e := (scans1.exit W c h).stored t s j
  rw [show view1.seq (W c) s = seq1 (W c) s from rfl] at e
  dsimp only at e
  exact e

/-- The stacked hidden states where loop 1 is left, read from their buffer. -/
theorem exit1_ys (W : Dev nD → Valuation τ sig (Elt Ideal)) (c : Dev nD) (h : W c main_v105_5 = fun _ => (0#32 : BitVec 32)) (t : Fin 32) (s : Fin 256) (j : Fin 128) :
    (after cond1 (atTrip cond1 [body1.1] W 32 c) main_v105_8 (ix3 t s j) : EReal) =
      ((cell1 (W c)).run (seq1 (W c) s) (init1 (W c) s) (t.val + 1)).1 j := by
  have e := exit1_stack W c h t s j
  unfold stack1 at e
  exact e

/-! ## Loop 2 -/

/-- The rows loop 2 steps over, by trip. -/
def seq2 (V : Valuation τ sig (Elt Ideal)) (s : Fin 256) (t : ℕ) (d : Fin 32) : EReal := if h : t < 32 then V main_v123_0 (ix3 ⟨t, h⟩ s d) else 0

/-- The state of row `s` that loop 2 carries. -/
def init2 (V : Valuation τ sig (Elt Ideal)) (s : Fin 256) : St := (fun j => V main_v123_6 (ix2 s j), fun j => V main_v123_7 (ix2 s j))

/-- The rows that loop 2 carries. -/
def rows2 (V : Valuation τ sig (Elt Ideal)) (k : Fin 32) (s : Fin 256) (d : Fin 32) : EReal := V main_v123_0 (ix3 k s d)

/-- Loop 2's counter. -/
def count2 (V : Valuation τ sig (Elt Ideal)) (w : BitVec 32) : Prop := V main_v123_5 = fun _ => w

/-- The hidden states that loop 2 has stacked. -/
def stack2 (V : Valuation τ sig (Elt Ideal)) (t : Fin 32) (s : Fin 256) (j : Fin 128) : EReal := V main_v123_8 (ix3 t s j)

/-- What loop 2 carries. -/
abbrev view2 : View 32 := ⟨rows2, cell2, count2, init2, stack2⟩

/-- Loop 2 is a scan by its cell. -/
theorem scans2 : view2.Scans (after cond2) (after body2.1) where
  test_rows V := by dsimp only; unfold rows2; rw [(loop2_cond_keeps V).1]
  test_cell V := by
    obtain ⟨-, h1, h2, h3, h4, -⟩ := loop2_cond_keeps V
    dsimp only
    unfold cell2
    rw [h1, h2, h3, h4]
  test_count V w h := by
    dsimp only at h ⊢
    unfold count2 at h ⊢
    rw [(loop2_cond_keeps V).2.2.2.2.2.1, h]
  test_state V := by
    obtain ⟨-, -, -, -, -, -, h6, h7, -⟩ := loop2_cond_keeps V
    dsimp only
    unfold init2
    rw [h6, h7]
  test_out V := by dsimp only; unfold stack2; rw [(loop2_cond_keeps V).2.2.2.2.2.2.2.2]
  body_rows V := by dsimp only; unfold rows2; rw [(loop2_keeps V).1]
  body_cell V := by
    obtain ⟨-, h1, h2, h3, h4⟩ := loop2_keeps V
    dsimp only
    unfold cell2
    rw [h1, h2, h3, h4]
  body_count V k h := by
    dsimp only at h ⊢
    unfold count2 at h ⊢
    rw [loop2_ctr V k h]
  body_state V k h s := by
    dsimp only [View.step] at h ⊢
    unfold count2 at h
    refine Eq.trans (b := step2 V k s) ?_ rfl
    unfold init2
    exact Prod.ext (funext fun j => loop2_h V k h s j) (funext fun j => loop2_c V k h s j)
  body_out V k h t s j := by
    dsimp only [View.step] at h ⊢
    unfold count2 at h
    unfold stack2
    exact loop2_ys V k h t s j

/-- Each row's state where loop 2 is left. -/
theorem exit2_st (W : Dev nD → Valuation τ sig (Elt Ideal)) (c : Dev nD) (h : W c main_v123_5 = fun _ => (0#32 : BitVec 32)) (s : Fin 256) :
    init2 (after cond2 (atTrip cond2 [body2.1] W 32 c)) s = (cell2 (W c)).run (seq2 (W c) s) (init2 (W c) s) 32 :=
  (scans2.exit W c h).state s

/-- The stacked hidden states where loop 2 is left. -/
theorem exit2_stack (W : Dev nD → Valuation τ sig (Elt Ideal)) (c : Dev nD) (h : W c main_v123_5 = fun _ => (0#32 : BitVec 32)) (t : Fin 32) (s : Fin 256) (j : Fin 128) :
    stack2 (after cond2 (atTrip cond2 [body2.1] W 32 c)) t s j =
      ((cell2 (W c)).run (seq2 (W c) s) (init2 (W c) s) (t.val + 1)).1 j := by
  have e := (scans2.exit W c h).stored t s j
  rw [show view2.seq (W c) s = seq2 (W c) s from rfl] at e
  dsimp only at e
  exact e

/-- The stacked hidden states where loop 2 is left, read from their buffer. -/
theorem exit2_ys (W : Dev nD → Valuation τ sig (Elt Ideal)) (c : Dev nD) (h : W c main_v123_5 = fun _ => (0#32 : BitVec 32)) (t : Fin 32) (s : Fin 256) (j : Fin 128) :
    (after cond2 (atTrip cond2 [body2.1] W 32 c) main_v123_8 (ix3 t s j) : EReal) =
      ((cell2 (W c)).run (seq2 (W c) s) (init2 (W c) s) (t.val + 1)).1 j := by
  have e := exit2_stack W c h t s j
  unfold stack2 at e
  exact e

/-! ## Loop 3 -/

/-- The rows loop 3 steps over, by trip. -/
def seq3 (V : Valuation τ sig (Elt Ideal)) (s : Fin 256) (t : ℕ) (d : Fin 128) : EReal := if h : t < 32 then V main_v125_0 (ix3 ⟨t, h⟩ s d) else 0

/-- The state of row `s` that loop 3 carries. -/
def init3 (V : Valuation τ sig (Elt Ideal)) (s : Fin 256) : St := (fun j => V main_v125_6 (ix2 s j), fun j => V main_v125_7 (ix2 s j))

/-- The rows that loop 3 carries. -/
def rows3 (V : Valuation τ sig (Elt Ideal)) (k : Fin 32) (s : Fin 256) (d : Fin 128) : EReal := V main_v125_0 (ix3 k s d)

/-- Loop 3's counter. -/
def count3 (V : Valuation τ sig (Elt Ideal)) (w : BitVec 32) : Prop := V main_v125_5 = fun _ => w

/-- The hidden states that loop 3 has stacked. -/
def stack3 (V : Valuation τ sig (Elt Ideal)) (t : Fin 32) (s : Fin 256) (j : Fin 128) : EReal := V main_v125_8 (ix3 t s j)

/-- What loop 3 carries. -/
abbrev view3 : View 128 := ⟨rows3, cell3, count3, init3, stack3⟩

/-- Loop 3 is a scan by its cell. -/
theorem scans3 : view3.Scans (after cond3) (after body3.1) where
  test_rows V := by dsimp only; unfold rows3; rw [(loop3_cond_keeps V).1]
  test_cell V := by
    obtain ⟨-, h1, h2, h3, h4, -⟩ := loop3_cond_keeps V
    dsimp only
    unfold cell3
    rw [h1, h2, h3, h4]
  test_count V w h := by
    dsimp only at h ⊢
    unfold count3 at h ⊢
    rw [(loop3_cond_keeps V).2.2.2.2.2.1, h]
  test_state V := by
    obtain ⟨-, -, -, -, -, -, h6, h7, -⟩ := loop3_cond_keeps V
    dsimp only
    unfold init3
    rw [h6, h7]
  test_out V := by dsimp only; unfold stack3; rw [(loop3_cond_keeps V).2.2.2.2.2.2.2.2]
  body_rows V := by dsimp only; unfold rows3; rw [(loop3_keeps V).1]
  body_cell V := by
    obtain ⟨-, h1, h2, h3, h4⟩ := loop3_keeps V
    dsimp only
    unfold cell3
    rw [h1, h2, h3, h4]
  body_count V k h := by
    dsimp only at h ⊢
    unfold count3 at h ⊢
    rw [loop3_ctr V k h]
  body_state V k h s := by
    dsimp only [View.step] at h ⊢
    unfold count3 at h
    refine Eq.trans (b := step3 V k s) ?_ rfl
    unfold init3
    exact Prod.ext (funext fun j => loop3_h V k h s j) (funext fun j => loop3_c V k h s j)
  body_out V k h t s j := by
    dsimp only [View.step] at h ⊢
    unfold count3 at h
    unfold stack3
    exact loop3_ys V k h t s j

/-- Each row's state where loop 3 is left. -/
theorem exit3_st (W : Dev nD → Valuation τ sig (Elt Ideal)) (c : Dev nD) (h : W c main_v125_5 = fun _ => (0#32 : BitVec 32)) (s : Fin 256) :
    init3 (after cond3 (atTrip cond3 [body3.1] W 32 c)) s = (cell3 (W c)).run (seq3 (W c) s) (init3 (W c) s) 32 :=
  (scans3.exit W c h).state s

/-- The stacked hidden states where loop 3 is left. -/
theorem exit3_stack (W : Dev nD → Valuation τ sig (Elt Ideal)) (c : Dev nD) (h : W c main_v125_5 = fun _ => (0#32 : BitVec 32)) (t : Fin 32) (s : Fin 256) (j : Fin 128) :
    stack3 (after cond3 (atTrip cond3 [body3.1] W 32 c)) t s j =
      ((cell3 (W c)).run (seq3 (W c) s) (init3 (W c) s) (t.val + 1)).1 j := by
  have e := (scans3.exit W c h).stored t s j
  rw [show view3.seq (W c) s = seq3 (W c) s from rfl] at e
  dsimp only at e
  exact e

/-- The stacked hidden states where loop 3 is left, read from their buffer. -/
theorem exit3_ys (W : Dev nD → Valuation τ sig (Elt Ideal)) (c : Dev nD) (h : W c main_v125_5 = fun _ => (0#32 : BitVec 32)) (t : Fin 32) (s : Fin 256) (j : Fin 128) :
    (after cond3 (atTrip cond3 [body3.1] W 32 c) main_v125_8 (ix3 t s j) : EReal) =
      ((cell3 (W c)).run (seq3 (W c) s) (init3 (W c) s) (t.val + 1)).1 j := by
  have e := exit3_stack W c h t s j
  unfold stack3 at e
  exact e

end Cert.Proof.Ref

end
-- ==== Proof.Ref.Values.lean ====
/-
  The reference's two results at an index, as plain functions of the arguments: the predictions as two recurrent passes
  over the gathered features, and the targets.
-/
module

public import proofs.«01_k».proof.Proof.Ref.Feat
public import proofs.«01_k».proof.Proof.Ref.Seqs
public import proofs.«01_k».proof.Proof.Ref.Out
public import proofs.«01_k».proof.Proof.Ref.Keep
public import proofs.«01_k».proof.Proof.Ref.Scans

@[expose] public section

set_option maxRecDepth 16384
set_option maxHeartbeats 1000000

noncomputable section

namespace Cert.Proof.Ref

open Cert.ReferenceIdeal Cert.ReferenceIdeal.Gen
open Idealize.ShloMosaic Idealize.ShloMosaic.StableHlo
open Idealize.ShloMosaic.TcCoe
open Cert.Proof.Math
open Cert.Proof.KernelIdeal (clip clip_lt)

variable (m : (ℓ : Loc nD τ sig) → Buf (Elt Ideal) ℓ) (c : Dev nD)

/-- The encoder's cell. -/
def enc : Cell 32 :=
  ⟨fun g d => S0 m c main_arg6 (ix2 g d), fun g => S0 m c main_arg8 (ix1 g), fun g j => S0 m c main_arg7 (ix2 g j), fun g => S0 m c main_arg9 (ix1 g)⟩

/-- The decoder's cell. -/
def dec : Cell 128 :=
  ⟨fun g d => S0 m c main_arg10 (ix2 g d), fun g => S0 m c main_arg12 (ix1 g), fun g j => S0 m c main_arg11 (ix2 g j), fun g => S0 m c main_arg13 (ix1 g)⟩

/-- The features of image `b`. -/
def feats (b : Fin 16) (u v : ℕ) (d : Fin 32) : EReal :=
  HAdd.hAdd (α := EReal) (feature (padded fun i y x => S0 m c main_arg0 (ix4 b i y x)) (fun o i p q => S0 m c main_arg2 (ix4 o i p q))
    (fun o => S0 m c main_arg3 (ix1 o)) (fun d o => S0 m c main_arg4 (ix2 d o)) u v d) (S0 m c main_arg5 (ix1 d))

/-- The clipped coordinates. -/
def coord (b n : Fin 16) (t : Fin 32) (a : Fin 2) : BitVec 32 := clip (S0 m c main_arg1 (ix4 b n t a))

/-- The sequence of contour `n` of image `b`: the features at the landmarks' coordinates `a` and `a'`. -/
def seqs (a a' : Fin 2) (b n : Fin 16) (t : ℕ) (d : Fin 32) : EReal :=
  if h : t < 32 then feats m c b (coord m c b n ⟨t, h⟩ a).toNat (coord m c b n ⟨t, h⟩ a').toNat d else 0

/-- The predictions of one coordinate. -/
def preds (a a' : Fin 2) (b n : Fin 16) (t : ℕ) : EReal :=
  pass (enc m c) (dec m c) (fun q i => S0 m c main_arg18 (ix2 q i)) (fun q => S0 m c main_arg19 (ix1 q)) (fun q => S0 m c main_arg20 (ix2 0 q))
    (S0 m c main_arg21 (ix1 0)) (seqs m c a a' b n) t

/-! ## The cells -/

theorem cell0_eq : cell0 (W0 m c) = enc m c := by
  unfold cell0 enc
  have h1 : W0 m c main_v103_1 = S0 m c main_arg6 := (in0_1 _)
  have h2 : W0 m c main_v103_2 = S0 m c main_arg8 := (in0_2 _)
  have h3 : W0 m c main_v103_3 = S0 m c main_arg7 := (in0_3 _)
  have h4 : W0 m c main_v103_4 = S0 m c main_arg9 := (in0_4 _)
  rw [h1, h2, h3, h4]

theorem cell1_eq : cell1 (W1 m c) = dec m c := by
  unfold cell1 dec
  have h1 : W1 m c main_v105_1 = S0 m c main_arg10 := (in1_1 _).trans (E0_arg m c main_arg10 (by decide))
  have h2 : W1 m c main_v105_2 = S0 m c main_arg12 := (in1_2 _).trans (E0_arg m c main_arg12 (by decide))
  have h3 : W1 m c main_v105_3 = S0 m c main_arg11 := (in1_3 _).trans (E0_arg m c main_arg11 (by decide))
  have h4 : W1 m c main_v105_4 = S0 m c main_arg13 := (in1_4 _).trans (E0_arg m c main_arg13 (by decide))
  rw [h1, h2, h3, h4]

theorem cell2_eq : cell2 (W2 m c) = enc m c := by
  unfold cell2 enc
  have h1 : W2 m c main_v123_1 = S0 m c main_arg6 := (in2_1 _).trans (E1_arg m c main_arg6 (by decide))
  have h2 : W2 m c main_v123_2 = S0 m c main_arg8 := (in2_2 _).trans (E1_arg m c main_arg8 (by decide))
  have h3 : W2 m c main_v123_3 = S0 m c main_arg7 := (in2_3 _).trans (E1_arg m c main_arg7 (by decide))
  have h4 : W2 m c main_v123_4 = S0 m c main_arg9 := (in2_4 _).trans (E1_arg m c main_arg9 (by decide))
  rw [h1, h2, h3, h4]

theorem cell3_eq : cell3 (W3 m c) = dec m c := by
  unfold cell3 dec
  have h1 : W3 m c main_v125_1 = S0 m c main_arg10 := (in3_1 _).trans (E2_arg m c main_arg10 (by decide))
  have h2 : W3 m c main_v125_2 = S0 m c main_arg12 := (in3_2 _).trans (E2_arg m c main_arg12 (by decide))
  have h3 : W3 m c main_v125_3 = S0 m c main_arg11 := (in3_3 _).trans (E2_arg m c main_arg11 (by decide))
  have h4 : W3 m c main_v125_4 = S0 m c main_arg13 := (in3_4 _).trans (E2_arg m c main_arg13 (by decide))
  rw [h1, h2, h3, h4]

/-! ## The first sequences -/

/-- The buffers before the gathers. -/
abbrev mid : Valuation τ sig (Elt Ideal) := after (mainLines.l0.take 78) (S0 m c)

theorem mid_lt (b n : Fin 16) (t : Fin 32) (a : Fin 2) : (mid m c main_v65 (ix4 b n t a) : BitVec 32).toNat < 128 := by
  exact lt_of_eq_of_lt (congrArg BitVec.toNat (v65_at _ b n t a)) (clip_lt _)

theorem mid_coord (b n : Fin 16) (t : Fin 32) (a : Fin 2) : (mid m c main_v65 (ix4 b n t a) : BitVec 32) = coord m c b n t a :=
  v65_at _ b n t a

theorem W0_v65 : W0 m c main_v65 = mid m c main_v65 :=
  (congrFun (split_at _ 78 _) _).trans (rest_v65 _)

theorem seq0_eq (s : Fin 256) (t : ℕ) (d : Fin 32) :
    seq0 (W0 m c) s t d = seqs m c 0 1 ⟨s.val / 16, by omega⟩ ⟨s.val % 16, by omega⟩ t d := by
  unfold seq0 seqs
  by_cases h : t < 32
  · rw [dif_pos h, dif_pos h]
    refine (congrFun (congrFun (split_at _ 78 _) _) _).trans ((xs_at (mid m c) (mid_lt m c) _ s d).trans ((feats_at ..).trans ?_))
    unfold feats
    dsimp only
    rw [mid_coord, mid_coord]
  · rw [dif_neg h, dif_neg h]

theorem seq2_eq (s : Fin 256) (t : ℕ) (d : Fin 32) :
    seq2 (W2 m c) s t d = seqs m c 1 0 ⟨s.val / 16, by omega⟩ ⟨s.val % 16, by omega⟩ t d := by
  unfold seq2 seqs
  by_cases h : t < 32
  · rw [dif_pos h, dif_pos h]
    refine (in2_0 _ _ s d).trans ((congrFun (E1_v98 m c) _).trans ?_)
    refine (congrFun (congrFun (split_at _ 78 _) _) _).trans
      ((ys_at (mid m c) (mid_lt m c) _ ⟨s.val % 16, by omega⟩ ⟨t, h⟩ d).trans ((feats_at ..).trans ?_))
    unfold feats
    dsimp only
    rw [mid_coord, mid_coord]
  · rw [dif_neg h, dif_neg h]

/-! ## The passes -/

theorem init0_eq (s : Fin 256) : init0 (W0 m c) s = (fun _ => 0, fun _ => 0) := by
  unfold init0
  exact Prod.ext (funext fun j => in0_6 (S0 m c) s j) (funext fun j => in0_7 (S0 m c) s j)

theorem init2_eq (s : Fin 256) : init2 (W2 m c) s = (fun _ => 0, fun _ => 0) := by
  unfold init2
  exact Prod.ext (funext fun j => in2_6 (E1 m c) s j) (funext fun j => in2_7 (E1 m c) s j)

theorem seq0_fun (s : Fin 256) : seq0 (W0 m c) s = seqs m c 0 1 ⟨s.val / 16, by omega⟩ ⟨s.val % 16, by omega⟩ :=
  funext fun t => funext fun d => seq0_eq m c s t d

theorem seq2_fun (s : Fin 256) : seq2 (W2 m c) s = seqs m c 1 0 ⟨s.val / 16, by omega⟩ ⟨s.val % 16, by omega⟩ :=
  funext fun t => funext fun d => seq2_eq m c s t d

/-- What the decoder loop 1 starts from. -/
theorem init1_eq (s : Fin 256) :
    init1 (W1 m c) s = (enc m c).run (seqs m c 0 1 ⟨s.val / 16, by omega⟩ ⟨s.val % 16, by omega⟩) (fun _ => 0, fun _ => 0) 32 := by
  have h := exit0_st (W0 m) c (line0_ctr _) s
  rw [cell0_eq, seq0_fun, init0_eq] at h
  refine Eq.trans ?_ h
  unfold init1 init0
  have h6 : W1 m c main_v105_6 = E0 m c main_v103_6 := in1_6 _
  have h7 : W1 m c main_v105_7 = E0 m c main_v103_7 := in1_7 _
  rw [h6, h7]

/-- What the decoder loop 1 reads. -/
theorem seq1_eq (s : Fin 256) (t : ℕ) (h : t < 32) :
    seq1 (W1 m c) s t = ((enc m c).run (seqs m c 0 1 ⟨s.val / 16, by omega⟩ ⟨s.val % 16, by omega⟩) (fun _ => 0, fun _ => 0) (t + 1)).1 := by
  funext d
  unfold seq1
  have h0 : W1 m c main_v105_0 = E0 m c main_v103_8 := in1_0 _
  rw [dif_pos h, h0]
  refine (exit0_ys (W0 m) c (line0_ctr _) ⟨t, h⟩ s d).trans ?_
  rw [cell0_eq, seq0_fun, init0_eq]

/-- The decoder's hidden states where loop 1 is left. -/
theorem ys1_eq (t : Fin 32) (s : Fin 256) (j : Fin 128) :
    (E1 m c main_v105_8 (ix3 t s j) : EReal) =
      ((dec m c).run (fun k => ((enc m c).run (seqs m c 0 1 ⟨s.val / 16, by omega⟩ ⟨s.val % 16, by omega⟩) (fun _ => 0, fun _ => 0) (k + 1)).1)
        ((enc m c).run (seqs m c 0 1 ⟨s.val / 16, by omega⟩ ⟨s.val % 16, by omega⟩) (fun _ => 0, fun _ => 0) 32) (t.val + 1)).1 j := by
  refine (exit1_ys (W1 m) c (line1_ctr _) t s j).trans ?_
  rw [cell1_eq, init1_eq, Cell.run_congr _ _ _ fun k hk => seq1_eq m c s k (by omega)]

/-- What the decoder loop 3 starts from. -/
theorem init3_eq (s : Fin 256) :
    init3 (W3 m c) s = (enc m c).run (seqs m c 1 0 ⟨s.val / 16, by omega⟩ ⟨s.val % 16, by omega⟩) (fun _ => 0, fun _ => 0) 32 := by
  have h := exit2_st (W2 m) c (line2_ctr _) s
  rw [cell2_eq, seq2_fun, init2_eq] at h
  refine Eq.trans ?_ h
  unfold init3 init2
  have h6 : W3 m c main_v125_6 = E2 m c main_v123_6 := in3_6 _
  have h7 : W3 m c main_v125_7 = E2 m c main_v123_7 := in3_7 _
  rw [h6, h7]

/-- What the decoder loop 3 reads. -/
theorem seq3_eq (s : Fin 256) (t : ℕ) (h : t < 32) :
    seq3 (W3 m c) s t = ((enc m c).run (seqs m c 1 0 ⟨s.val / 16, by omega⟩ ⟨s.val % 16, by omega⟩) (fun _ => 0, fun _ => 0) (t + 1)).1 := by
  funext d
  unfold seq3
  have h0 : W3 m c main_v125_0 = E2 m c main_v123_8 := in3_0 _
  rw [dif_pos h, h0]
  refine (exit2_ys (W2 m) c (line2_ctr _) ⟨t, h⟩ s d).trans ?_
  rw [cell2_eq, seq2_fun, init2_eq]

/-- The decoder's hidden states where loop 3 is left. -/
theorem ys3_eq (t : Fin 32) (s : Fin 256) (j : Fin 128) :
    (E3 m c main_v125_8 (ix3 t s j) : EReal) =
      ((dec m c).run (fun k => ((enc m c).run (seqs m c 1 0 ⟨s.val / 16, by omega⟩ ⟨s.val % 16, by omega⟩) (fun _ => 0, fun _ => 0) (k + 1)).1)
        ((enc m c).run (seqs m c 1 0 ⟨s.val / 16, by omega⟩ ⟨s.val % 16, by omega⟩) (fun _ => 0, fun _ => 0) 32) (t.val + 1)).1 j := by
  refine (exit3_ys (W3 m) c (line3_ctr _) t s j).trans ?_
  rw [cell3_eq, init3_eq, Cell.run_congr _ _ _ fun k hk => seq3_eq m c s k (by omega)]

/-! ## The results -/

theorem split_row (b n : Fin 16) (h : b.val * 16 + n.val < 256) (h1 : (b.val * 16 + n.val) / 16 < 16) (h2 : (b.val * 16 + n.val) % 16 < 16) :
    (⟨(b.val * 16 + n.val) / 16, h1⟩ : Fin 16) = b ∧ (⟨(b.val * 16 + n.val) % 16, h2⟩ : Fin 16) = n :=
  ⟨Fin.ext (by dsimp only; omega), Fin.ext (by dsimp only; omega)⟩

theorem v118_eq (b n : Fin 16) (t : Fin 32) :
    (W2 m c main_v118 (ix3 ⟨b.val * 16 + n.val, by omega⟩ t 0) : EReal) = preds m c 0 1 b n t.val := by
  refine (out2 _ _ t).trans ?_
  unfold preds pass
  rw [E1_arg m c main_arg18 (by decide), E1_arg m c main_arg19 (by decide), E1_arg m c main_arg20 (by decide), E1_arg m c main_arg21 (by decide)]
  refine congrArg _ (funext fun i => (ys1_eq ..).trans ?_)
  dsimp only
  rw [(split_row b n (by omega) (by omega) (by omega)).1, (split_row b n (by omega) (by omega) (by omega)).2]

theorem v138_eq (b n : Fin 16) (t : Fin 32) :
    (after (mainLines.l4.take 14) (E3 m c) main_v138 (ix3 ⟨b.val * 16 + n.val, by omega⟩ t 0) : EReal) = preds m c 1 0 b n t.val := by
  refine (out4 _ _ t).trans ?_
  unfold preds pass
  rw [E3_arg m c main_arg18 (by decide), E3_arg m c main_arg19 (by decide), E3_arg m c main_arg20 (by decide), E3_arg m c main_arg21 (by decide)]
  refine congrArg _ (funext fun i => (ys3_eq ..).trans ?_)
  dsimp only
  rw [(split_row b n (by omega) (by omega) (by omega)).1, (split_row b n (by omega) (by omega) (by omega)).2]

/-- The first coordinate of the predictions. -/
theorem v140_at_0 (b n : Fin 16) (t : Fin 32) : (Z m c main_v140 (ix4 b n t 0) : EReal) = preds m c 0 1 b n t.val := by
  refine (congrFun (congrFun (l4_split _) _) _).trans ((out4_0 _ b n t).trans ?_)
  rw [keep4, E3_v118]
  exact v118_eq m c b n t

/-- The second coordinate of the predictions. -/
theorem v140_at_1 (b n : Fin 16) (t : Fin 32) : (Z m c main_v140 (ix4 b n t 1) : EReal) = preds m c 1 0 b n t.val :=
  (congrFun (congrFun (l4_split _) _) _).trans ((out4_1 _ b n t).trans (v138_eq m c b n t))

/-- The targets. -/
theorem v143_at (b n : Fin 16) (t : Fin 32) (a : Fin 2) :
    (Z m c main_v143 (ix4 b n t a) : EReal) = FloatOps.sitofp (F := Ideal) .f32 (coord m c b n t a) * Ideal.ofBits .f32 1082130432#32 := by
  refine (out4_t _ b n t a).trans ?_
  rw [E3_v65, W0_v65, mid_coord]

end Cert.Proof.Ref

end
-- ==== Proof.Algebraic.lean ====
/-
  The two programs' results agree: launched from the same arguments, the kernel's predictions and targets are the reference's.
-/
module

public import proofs.«01_k».proof.Defs
public import proofs.«01_k».proof.Proof.I.Frame
public import proofs.«01_k».proof.Proof.I.Values
public import proofs.«01_k».proof.Proof.Ref.Values
public import Idealize.ShloMosaic.Adequacy
public import Idealize.ShloMosaic.Init

@[expose] public section

set_option maxRecDepth 16384
set_option maxHeartbeats 1000000

noncomputable section

namespace Cert.Proof

open Idealize.ShloMosaic Idealize.ShloMosaic.TcCoe
open Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two encoders have the same weights. -/
theorem enc_same (e6 : Ref.S0 m' c ReferenceIdeal.main_arg6 = KernelIdeal.Gen.V0 m c KernelIdeal.main_arg6)
    (e7 : Ref.S0 m' c ReferenceIdeal.main_arg7 = KernelIdeal.Gen.V0 m c KernelIdeal.main_arg7)
    (e8 : Ref.S0 m' c ReferenceIdeal.main_arg8 = KernelIdeal.Gen.V0 m c KernelIdeal.main_arg8)
    (e9 : Ref.S0 m' c ReferenceIdeal.main_arg9 = KernelIdeal.Gen.V0 m c KernelIdeal.main_arg9) :
    Ref.enc m' c = KernelIdeal.enc m c := by
  unfold Ref.enc KernelIdeal.enc
  rw [e6, e7, e8, e9]

/-- The two decoders have the same weights. -/
theorem dec_same (e10 : Ref.S0 m' c ReferenceIdeal.main_arg10 = KernelIdeal.Gen.V0 m c KernelIdeal.main_arg10)
    (e11 : Ref.S0 m' c ReferenceIdeal.main_arg11 = KernelIdeal.Gen.V0 m c KernelIdeal.main_arg11)
    (e12 : Ref.S0 m' c ReferenceIdeal.main_arg12 = KernelIdeal.Gen.V0 m c KernelIdeal.main_arg12)
    (e13 : Ref.S0 m' c ReferenceIdeal.main_arg13 = KernelIdeal.Gen.V0 m c KernelIdeal.main_arg13) :
    Ref.dec m' c = KernelIdeal.dec m c := by
  unfold Ref.dec KernelIdeal.dec
  rw [e10, e11, e12, e13]

/-- The two programs clip the same coordinates. -/
theorem coord_same (e1 : Ref.S0 m' c ReferenceIdeal.main_arg1 = KernelIdeal.Gen.V0 m c KernelIdeal.main_arg1) :
    Ref.coord m' c = KernelIdeal.crd m c := by
  funext b n t a
  unfold Ref.coord KernelIdeal.crd
  rw [e1]

/-- The two programs have the same features. -/
theorem feats_same (e0 : Ref.S0 m' c ReferenceIdeal.main_arg0 = KernelIdeal.Gen.V0 m c KernelIdeal.main_arg0)
    (e2 : Ref.S0 m' c ReferenceIdeal.main_arg2 = KernelIdeal.Gen.V0 m c KernelIdeal.main_arg2)
    (e3 : Ref.S0 m' c ReferenceIdeal.main_arg3 = KernelIdeal.Gen.V0 m c KernelIdeal.main_arg3)
    (e4 : Ref.S0 m' c ReferenceIdeal.main_arg4 = KernelIdeal.Gen.V0 m c KernelIdeal.main_arg4)
    (e5 : Ref.S0 m' c ReferenceIdeal.main_arg5 = KernelIdeal.Gen.V0 m c KernelIdeal.main_arg5) :
    Ref.feats m' c = KernelIdeal.feats m c := by
  funext b u v d
  unfold Ref.feats KernelIdeal.feats KernelIdeal.proj
  rw [e0, e2, e3, e4, e5]

/-- The two programs read the same sequences. -/
theorem seqs_same (hf : Ref.feats m' c = KernelIdeal.feats m c) (hc : Ref.coord m' c = KernelIdeal.crd m c) :
    Ref.seqs m' c = KernelIdeal.seqs m c := by
  funext a a' b n t d
  unfold Ref.seqs KernelIdeal.seqs
  rw [hf, hc]

/-- The two programs predict the same. -/
theorem preds_same (hE : Ref.enc m' c = KernelIdeal.enc m c) (hD : Ref.dec m' c = KernelIdeal.dec m c)
    (hs : Ref.seqs m' c = KernelIdeal.seqs m c)
    (e18 : Ref.S0 m' c ReferenceIdeal.main_arg18 = KernelIdeal.Gen.V0 m c KernelIdeal.main_arg18)
    (e19 : Ref.S0 m' c ReferenceIdeal.main_arg19 = KernelIdeal.Gen.V0 m c KernelIdeal.main_arg19)
    (e20 : Ref.S0 m' c ReferenceIdeal.main_arg20 = KernelIdeal.Gen.V0 m c KernelIdeal.main_arg20)
    (e21 : Ref.S0 m' c ReferenceIdeal.main_arg21 = KernelIdeal.Gen.V0 m c KernelIdeal.main_arg21) :
    Ref.preds m' c = KernelIdeal.preds m c := by
  funext a a' b n t
  unfold Ref.preds KernelIdeal.preds
  rw [hE, hD, hs, e18, e19, e20, e21]

/-- The predictions, as buffers. -/
theorem predictions (h : Ref.preds m' c = KernelIdeal.preds m c) :
    Ref.Z m' c ReferenceIdeal.main_v140 = KernelIdeal.Gen.V9 m (KernelIdeal.outs m) c KernelIdeal.main_v44 := by
  funext x
  have key : ∀ (b n : Fin 16) (t : Fin 32) (a : Fin 2), (Ref.Z m' c ReferenceIdeal.main_v140 (ix4 b n t a) : EReal)
      = KernelIdeal.Gen.V9 m (KernelIdeal.outs m) c KernelIdeal.main_v44 (ix4 b n t a) := by
    intro b n t a
    match a with
    | 0 => exact (Ref.v140_at_0 m' c b n t).trans ((congrFun (congrFun (congrFun (congrFun (congrFun h 0) 1) b) n) t.val).trans (KernelIdeal.v44_at_0 m c b n t).symm)
    | 1 => exact (Ref.v140_at_1 m' c b n t).trans ((congrFun (congrFun (congrFun (congrFun (congrFun h 1) 0) b) n) t.val).trans (KernelIdeal.v44_at_1 m c b n t).symm)
  rw [eq_ix4 x]
  exact key _ _ _ _

/-- The targets, as buffers. -/
theorem targets (h : Ref.coord m' c = KernelIdeal.crd m c) :
    Ref.Z m' c ReferenceIdeal.main_v143 = KernelIdeal.Gen.V9 m (KernelIdeal.outs m) c KernelIdeal.main_v45 := by
  funext x
  have key : ∀ (b n : Fin 16) (t : Fin 32) (a : Fin 2), (Ref.Z m' c ReferenceIdeal.main_v143 (ix4 b n t a) : EReal)
      = KernelIdeal.Gen.V9 m (KernelIdeal.outs m) c KernelIdeal.main_v45 (ix4 b n t a) := by
    intro b n t a
    refine (Ref.v143_at m' c b n t a).trans (Eq.trans ?_ (KernelIdeal.v45_at' m c b n t a).symm)
    rw [h]
  rw [eq_ix4 x]
  exact key _ _ _ _

/-- Launched from the same arguments, the kernel and the reference leave the same two results. -/
theorem algebraic [Cert.KernelIdeal.Facts] [Cert.ReferenceIdeal.Facts] : Cert.algebraic_KernelIdeal_ReferenceIdeal := by
  intro m g m' g' _ hin
  refine ⟨fun c => KernelIdeal.Gen.V9 m (KernelIdeal.outs m) c KernelIdeal.main_v44,
    fun c => KernelIdeal.Gen.V9 m (KernelIdeal.outs m) c KernelIdeal.main_v45, ?_, ?_⟩
  · refine (θ_run _ _ _).2 ?_ (KernelIdeal.run (F := Ideal) m g)
    rintro r ⟨h, _⟩ c
    exact ⟨h c (Proc.devRef .tc KernelIdeal.main_v44) (Finset.mem_filter.mpr ⟨StableHlo.devRef_mem_tcRefs KernelIdeal.main_v44, by decide⟩),
      h c (Proc.devRef .tc KernelIdeal.main_v45) (Finset.mem_filter.mpr ⟨StableHlo.devRef_mem_tcRefs KernelIdeal.main_v45, by decide⟩),
      KernelIdeal.args_kept m r.2.mem c (h c)⟩
  · refine (θ_run _ _ _).2 ?_ (Ref.run (F := Ideal) m' g')
    rintro r ⟨h, _⟩ c
    obtain ⟨e0, e1, e2, e3, e4, e5, e6, e7, e8, e9, e10, e11, e12, e13, e14, e15, e16, e17, e18, e19, e20, e21⟩ := hin c
    have hc := coord_same m m' c e1
    have hs := seqs_same m m' c (feats_same m m' c e0 e2 e3 e4 e5) hc
    have hp := preds_same m m' c (enc_same m m' c e6 e7 e8 e9) (dec_same m m' c e10 e11 e12 e13) hs e18 e19 e20 e21
    refine ⟨(h c _ (by decide)).trans (predictions m m' c hp), (h c _ (by decide)).trans (targets m m' c hc), ?_, ?_, ?_, ?_, ?_, ?_, ?_, ?_, ?_, ?_, ?_, ?_, ?_, ?_, ?_, ?_, ?_, ?_, ?_, ?_, ?_, ?_⟩
    all_goals exact (h c _ (by decide)).trans (Ref.Z_arg m' c _ (by simp [Ref.argRefs]))

end Cert.Proof

end
-- ==== Proof.lean ====
/-
  The proof of the claims: the two kernels' frames and the reference's, and that the kernel's two results are the reference's.
-/
module

public import proofs.«01_k».proof.Defs
public import proofs.«01_k».proof.Proof.I.Frame
public import proofs.«01_k».proof.Proof.B.Frame
public import proofs.«01_k».proof.Proof.Ref.Frame
public import proofs.«01_k».proof.Proof.Algebraic
public import Idealize.ShloMosaic.Adequacy
public import Idealize.ShloMosaic.Init

@[expose] public section

set_option maxRecDepth 16384

noncomputable section

namespace Cert.Proof

open Idealize.ShloMosaic Idealize.SL.Sem

theorem frame_kernel [Cert.Kernel.Facts] : Cert.quiescent_Kernel := by
  intro m g _
  refine (θ_run _ _ _).2 ?_ (Cert.Proof.Kernel.run (F := Bits) m g)
  rintro r ⟨h, hs⟩
  exact ⟨fun c => Cert.Proof.Kernel.args_kept m r.2.mem c (h c), hs⟩

theorem frame_kernelIdeal [Cert.KernelIdeal.Facts] : Cert.quiescent_KernelIdeal := by
  intro m g _
  refine (θ_run _ _ _).2 ?_ (Cert.Proof.KernelIdeal.run (F := Ideal) m g)
  rintro r ⟨h, hs⟩
  exact ⟨fun c => Cert.Proof.KernelIdeal.args_kept m r.2.mem c (h c), hs⟩

theorem frame_reference [Cert.ReferenceIdeal.Facts] : Cert.quiescent_ReferenceIdeal := by
  intro m g _
  refine (θ_run _ _ _).2 ?_ (Cert.Proof.Ref.run (F := Ideal) m g)
  rintro r ⟨h, hs⟩
  refine ⟨fun c => ⟨?_, ?_, ?_, ?_, ?_, ?_, ?_, ?_, ?_, ?_, ?_, ?_, ?_, ?_, ?_, ?_, ?_, ?_, ?_, ?_, ?_, ?_⟩, hs⟩
  all_goals exact (h c _ (by decide)).trans (Cert.Proof.Ref.Z_arg m c _ (by simp [Cert.Proof.Ref.argRefs]))

theorem claim : Cert.Claim := ⟨Cert.Kernel.Gen.facts, Cert.KernelIdeal.Gen.facts, Cert.ReferenceIdeal.Gen.facts,
  frame_kernel, frame_kernelIdeal, frame_reference, trivial, algebraic⟩

end Cert.Proof

end
